-- ==== Defs.lean ====
def Pre_Kernel [hPre_table_admissible : Cert.Pre_table_admissible.Facts] (m : (ℓ : Loc Cert.Kernel.nD Cert.Kernel.τ Cert.Kernel.sig) → Buf (Elt Bits) ℓ) : Prop :=
  ∀ c : Dev Cert.Kernel.nD,
    (Cert.Pre_table_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_table_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_table_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_table_admissible : Cert.Pre_table_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_table_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_table_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_table_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_table_admissible : Cert.Pre_table_admissible.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_table_admissible : Cert.Pre_table_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v31)) (v1 : (c : Dev Cert.Kernel3Ideal.nD) → Buf (Elt Ideal) ((c.tc : Thread Cert.Kernel3Ideal.nD Cert.Kernel3Ideal.τ).loc Cert.Kernel3Ideal.main_v34)) (v2 : (c : Dev Cert.Kernel3Ideal.nD) → Buf (Elt Ideal) ((c.tc : Thread Cert.Kernel3Ideal.nD Cert.Kernel3Ideal.τ).loc Cert.Kernel3Ideal.main_v36)) (v3 : (c : Dev Cert.Kernel3Ideal.nD) → Buf (Elt Ideal) ((c.tc : Thread Cert.Kernel3Ideal.nD Cert.Kernel3Ideal.τ).loc Cert.Kernel3Ideal.main_v38)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_v34) = v1 c
          ∧ r.2.mem ((c.tc : Thread Cert.Kernel3Ideal.nD Cert.Kernel3Ideal.τ).loc Cert.Kernel3Ideal.main_v36) = v2 c
          ∧ r.2.mem ((c.tc : Thread Cert.Kernel3Ideal.nD Cert.Kernel3Ideal.τ).loc Cert.Kernel3Ideal.main_v38) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v81) = v2 c
          ∧ r.2.mem ((c.tc : Thread Cert.Reference3Ideal.nD Cert.Reference3Ideal.τ).loc Cert.Reference3Ideal.main_v82) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_table_admissible : Cert.Pre_table_admissible.Facts) (hPre_routed : Cert.Pre_routed.Facts),
    quiescent_Kernel (hKernel := hKernel) (hPre_table_admissible := hPre_table_admissible)
    ∧ quiescent_KernelIdeal (hKernelIdeal := hKernelIdeal) (hPre_table_admissible := hPre_table_admissible)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_routed.lean ====
abbrev S16384 : Shape := ⟨1, ![16384]⟩
abbrev S128 : Shape := ⟨1, ![128]⟩
abbrev S16384x1152 : Shape := ⟨2, ![16384, 1152]⟩
abbrev S1x1024 : Shape := ⟨2, ![1, 1024]⟩
abbrev S4x8x1024x256 : Shape := ⟨4, ![4, 8, 1024, 256]⟩
abbrev S4x8x256x1024 : Shape := ⟨4, ![4, 8, 256, 1024]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S36 : Shape := ⟨1, ![36]⟩
abbrev S16384x36x32 : Shape := ⟨3, ![16384, 36, 32]⟩
abbrev S16384x32 : Shape := ⟨2, ![16384, 32]⟩
abbrev S1x36x1 : Shape := ⟨3, ![1, 36, 1]⟩
abbrev S1 : Shape := ⟨1, ![1]⟩
abbrev S16384x1x1 : Shape := ⟨3, ![16384, 1, 1]⟩
abbrev S16384x1x32 : Shape := ⟨3, ![16384, 1, 32]⟩

class Facts : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384 : S_.BroadcastsInDim S16384 (![] : Fin 0 → Fin S16384.rank)
  slices_S128_S36_0 : S128.Slices ![0] S36
  bcast_S_S36 : S_.BroadcastsInDim S36 (![] : Fin 0 → Fin S36.rank)
  slices_S16384x1152_S16384x32_0_1024 : S16384x1152.Slices ![0, 1024] S16384x32
  bcast_S36_S1x36x1_1 : S36.BroadcastsInDim S1x36x1 (![1] : Fin 1 → Fin S1x36x1.rank)
  bcast_S_S1x36x1 : S_.BroadcastsInDim S1x36x1 (![] : Fin 0 → Fin S1x36x1.rank)
  bcast_S1x36x1_S16384x36x32_0_1_2 : S1x36x1.BroadcastsInDim S16384x36x32 (![0, 1, 2] : Fin 3 → Fin S16384x36x32.rank)
  slices_S128_S1_64 : S128.Slices ![64] S1
  shapeCasts_S1_S_ : S1.ShapeCasts S_
  bcast_S16384_S16384x1x1_0 : S16384.BroadcastsInDim S16384x1x1 (![0] : Fin 1 → Fin S16384x1x1.rank)
  bcast_S16384x1x1_S16384x36x32_0_1_2 : S16384x1x1.BroadcastsInDim S16384x36x32 (![0, 1, 2] : Fin 3 → Fin S16384x36x32.rank)
  bcast_S16384x32_S16384x1x32_0_2 : S16384x32.BroadcastsInDim S16384x1x32 (![0, 2] : Fin 2 → Fin S16384x1x32.rank)
  bcast_S_S16384x1x32 : S_.BroadcastsInDim S16384x1x32 (![] : Fin 0 → Fin S16384x1x32.rank)
  bcast_S16384x1x32_S16384x36x32_0_1_2 : S16384x1x32.BroadcastsInDim S16384x36x32 (![0, 1, 2] : Fin 3 → Fin S16384x36x32.rank)

variable [Facts]

def fn_part2 {F : FTy → Type} [FloatOps F] (main_arg0 : IVec S16384 32) (main_v8 : IVec S16384x16384 1) (main_v13 : IVec S16384 1) (main_v20 : IVec S36 1) (main_v21 : IVec S16384x36x32 32) (main_v23 : FVec F S16384x32 .f32) (main_v34 : IVec S16384x36x32 1) (main_v40 : IVec S16384 1) : IVec S16384x16384 1 × IVec S16384 1 × IVec S36 1 × IVec S16384 1 × IVec S16384x36x32 1 :=
  let main_c_6 : IVec S_ 32 := constantI S_ 32 9#32
  let main_v41 : IVec S16384 32 := broadcastInDim S16384 ![] bcast_S_S16384 main_c_6
  let main_v42 : IVec S16384 32 := Host.shrsi main_arg0 main_v41
  let main_v43 : IVec S16384x1x1 32 := broadcastInDim S16384x1x1 ![0] bcast_S16384_S16384x1x1_0 main_v42
  let main_v44 : IVec S16384x36x32 32 := broadcastInDim S16384x36x32 ![0, 1, 2] bcast_S16384x1x1_S16384x36x32_0_1_2 main_v43
  let main_v45 : IVec S16384x36x32 1 := cmpi .ne main_v44 main_v21
  let main_v46 : IVec S16384x36x32 1 := ori main_v45 main_v34
  let main_v47 : FVec F S16384x1x32 .f32 := broadcastInDim S16384x1x32 ![0, 2] bcast_S16384x32_S16384x1x32_0_2 main_v23
  let main_cst : FVec F S_ .f32 := constant S_ .f32 0x00000000#32
  let main_v48 : FVec F S16384x1x32 .f32 := broadcastInDim S16384x1x32 ![] bcast_S_S16384x1x32 main_cst
  let main_v49 : IVec S16384x1x32 1 := cmpf .oeq main_v47 main_v48
  let main_v50 : IVec S16384x36x32 1 := broadcastInDim S16384x36x32 ![0, 1, 2] bcast_S16384x1x32_S16384x36x32_0_1_2 main_v49
  let main_v51 : IVec S16384x36x32 1 := ori main_v46 main_v50
  (main_v8, main_v13, main_v20, main_v40, main_v51)

def fn_part1 {F : FTy → Type} [FloatOps F] (main_arg0 : IVec S16384 32) (main_arg1 : IVec S128 32) (main_arg2 : FVec F S16384x1152 .f32) (main_v8 : IVec S16384x16384 1) (main_v13 : IVec S16384 1) (main_v16 : IVec S36 1) (main_v19 : IVec S36 1) : IVec S16384x16384 1 × IVec S16384 1 × IVec S36 1 × IVec S16384 1 × IVec S16384x36x32 1 :=
  let main_v20 : IVec S36 1 := andi main_v16 main_v19
  let main_v21 : IVec S16384x36x32 32 := iotaInDim S16384x36x32 32 1
  let main_v22 : IVec S16384x36x32 32 := iotaInDim S16384x36x32 32 2
  let main_v23 : FVec F S16384x32 .f32 := (extractStridedSlice S16384x32 ![0, 1024] · slices_S16384x1152_S16384x32_0_1024) main_arg2
  let main_v24 : IVec S36 32 := (extractStridedSlice S36 ![0] · slices_S128_S36_0) main_arg1
  let main_v25 : IVec S1x36x1 32 := broadcastInDim S1x36x1 ![1] bcast_S36_S1x36x1_1 main_v24
  let main_c_3 : IVec S_ 32 := constantI S_ 32 8#32
  let main_v26 : IVec S1x36x1 32 := broadcastInDim S1x36x1 ![] bcast_S_S1x36x1 main_c_3
  let main_v27 : IVec S1x36x1 32 := muli main_v25 main_v26
  let main_v28 : IVec S16384x36x32 32 := broadcastInDim S16384x36x32 ![0, 1, 2] bcast_S1x36x1_S16384x36x32_0_1_2 main_v27
  let main_v29 : IVec S16384x36x32 1 := cmpi .sge main_v22 main_v28
  let main_c_4 : IVec S_ 32 := constantI S_ 32 8#32
  let main_v30 : IVec S1x36x1 32 := broadcastInDim S1x36x1 ![] bcast_S_S1x36x1 main_c_4
  let main_v31 : IVec S1x36x1 32 := addi main_v27 main_v30
  let main_v32 : IVec S16384x36x32 32 := broadcastInDim S16384x36x32 ![0, 1, 2] bcast_S1x36x1_S16384x36x32_0_1_2 main_v31
  let main_v33 : IVec S16384x36x32 1 := cmpi .slt main_v22 main_v32
  let main_v34 : IVec S16384x36x32 1 := andi main_v29 main_v33
  let main_c_5 : IVec S_ 32 := constantI S_ 32 9#32
  let main_v35 : IVec S16384 32 := broadcastInDim S16384 ![] bcast_S_S16384 main_c_5
  let main_v36 : IVec S16384 32 := Host.shrsi main_arg0 main_v35
  let main_v37 : IVec S1 32 := (extractStridedSlice S1 ![64] · slices_S128_S1_64) main_arg1
  let main_v38 : IVec S_ 32 := shapeCast S_ main_v37 shapeCasts_S1_S_
  let main_v39 : IVec S16384 32 := broadcastInDim S16384 ![] bcast_S_S16384 main_v38
  let main_v40 : IVec S16384 1 := cmpi .slt main_v36 main_v39
  fn_part2 (F := F) main_arg0 main_v8 main_v13 main_v20 main_v21 main_v23 main_v34 main_v40

def fn {F : FTy → Type} [FloatOps F] (main_arg0 : IVec S16384 32) (main_arg1 : IVec S128 32) (main_arg2 : FVec F S16384x1152 .f32) (main_arg3 : FVec F S1x1024 .f32) (main_arg4 : FVec F S4x8x1024x256 .f32) (main_arg5 : FVec F S4x8x1024x256 .f32) (main_arg6 : FVec F S4x8x256x1024 .f32) : IVec S16384x16384 1 × IVec S16384 1 × IVec S36 1 × IVec S16384 1 × IVec S16384x36x32 1 :=
  let main_v0 : IVec S16384x1 32 := broadcastInDim S16384x1 ![0] bcast_S16384_S16384x1_0 main_arg0
  let main_v1 : IVec S1x16384 32 := broadcastInDim S1x16384 ![1] bcast_S16384_S1x16384_1 main_arg0
  let main_v2 : IVec S16384x16384 32 := broadcastInDim S16384x16384 ![0, 1] bcast_S16384x1_S16384x16384_0_1 main_v0
  let main_v3 : IVec S16384x16384 32 := broadcastInDim S16384x16384 ![0, 1] bcast_S1x16384_S16384x16384_0_1 main_v1
  let main_v4 : IVec S16384x16384 1 := cmpi .ne main_v2 main_v3
  let main_v5 : IVec S16384x16384 32 := iotaInDim S16384x16384 32 0
  let main_v6 : IVec S16384x16384 32 := iotaInDim S16384x16384 32 1
  let main_v7 : IVec S16384x16384 1 := cmpi .eq main_v5 main_v6
  let main_v8 : IVec S16384x16384 1 := ori main_v4 main_v7
  let main_c : IVec S_ 32 := constantI S_ 32 0#32
  let main_v9 : IVec S16384 32 := broadcastInDim S16384 ![] bcast_S_S16384 main_c
  let main_v10 : IVec S16384 1 := cmpi .sge main_arg0 main_v9
  let main_c_0 : IVec S_ 32 := constantI S_ 32 18432#32
  let main_v11 : IVec S16384 32 := broadcastInDim S16384 ![] bcast_S_S16384 main_c_0
  let main_v12 : IVec S16384 1 := cmpi .slt main_arg0 main_v11
  let main_v13 : IVec S16384 1 := andi main_v10 main_v12
  let main_v14 : IVec S36 32 := (extractStridedSlice S36 ![0] · slices_S128_S36_0) main_arg1
  let main_c_1 : IVec S_ 32 := constantI S_ 32 0#32
  let main_v15 : IVec S36 32 := broadcastInDim S36 ![] bcast_S_S36 main_c_1
  let main_v16 : IVec S36 1 := cmpi .sge main_v14 main_v15
  let main_v17 : IVec S36 32 := (extractStridedSlice S36 ![0] · slices_S128_S36_0) main_arg1
  let main_c_2 : IVec S_ 32 := constantI S_ 32 4#32
  let main_v18 : IVec S36 32 := broadcastInDim S36 ![] bcast_S_S36 main_c_2
  let main_v19 : IVec S36 1 := cmpi .slt main_v17 main_v18
  fn_part1 (F := F) main_arg0 main_arg1 main_arg2 main_v8 main_v13 main_v16 main_v19
-- ==== Pre_table_admissible.lean ====
abbrev S16384 : Shape := ⟨1, ![16384]⟩
abbrev S128 : Shape := ⟨1, ![128]⟩
abbrev S16384x1152 : Shape := ⟨2, ![16384, 1152]⟩
abbrev S1x1024 : Shape := ⟨2, ![1, 1024]⟩
abbrev S4x8x1024x256 : Shape := ⟨4, ![4, 8, 1024, 256]⟩
abbrev S4x8x256x1024 : Shape := ⟨4, ![4, 8, 256, 1024]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S36 : Shape := ⟨1, ![36]⟩

class Facts : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384 : S_.BroadcastsInDim S16384 (![] : Fin 0 → Fin S16384.rank)
  slices_S128_S36_0 : S128.Slices ![0] S36
  bcast_S_S36 : S_.BroadcastsInDim S36 (![] : Fin 0 → Fin S36.rank)

variable [Facts]

def fn_part1 {F : FTy → Type} [FloatOps F] (main_v8 : IVec S16384x16384 1) (main_v13 : IVec S16384 1) (main_v16 : IVec S36 1) (main_v19 : IVec S36 1) : IVec S16384x16384 1 × IVec S16384 1 × IVec S36 1 :=
  let main_v20 : IVec S36 1 := andi main_v16 main_v19
  (main_v8, main_v13, main_v20)

def fn {F : FTy → Type} [FloatOps F] (main_arg0 : IVec S16384 32) (main_arg1 : IVec S128 32) (main_arg2 : FVec F S16384x1152 .f32) (main_arg3 : FVec F S1x1024 .f32) (main_arg4 : FVec F S4x8x1024x256 .f32) (main_arg5 : FVec F S4x8x1024x256 .f32) (main_arg6 : FVec F S4x8x256x1024 .f32) : IVec S16384x16384 1 × IVec S16384 1 × IVec S36 1 :=
  let main_v0 : IVec S16384x1 32 := broadcastInDim S16384x1 ![0] bcast_S16384_S16384x1_0 main_arg0
  let main_v1 : IVec S1x16384 32 := broadcastInDim S1x16384 ![1] bcast_S16384_S1x16384_1 main_arg0
  let main_v2 : IVec S16384x16384 32 := broadcastInDim S16384x16384 ![0, 1] bcast_S16384x1_S16384x16384_0_1 main_v0
  let main_v3 : IVec S16384x16384 32 := broadcastInDim S16384x16384 ![0, 1] bcast_S1x16384_S16384x16384_0_1 main_v1
  let main_v4 : IVec S16384x16384 1 := cmpi .ne main_v2 main_v3
  let main_v5 : IVec S16384x16384 32 := iotaInDim S16384x16384 32 0
  let main_v6 : IVec S16384x16384 32 := iotaInDim S16384x16384 32 1
  let main_v7 : IVec S16384x16384 1 := cmpi .eq main_v5 main_v6
  let main_v8 : IVec S16384x16384 1 := ori main_v4 main_v7
  let main_c : IVec S_ 32 := constantI S_ 32 0#32
  let main_v9 : IVec S16384 32 := broadcastInDim S16384 ![] bcast_S_S16384 main_c
  let main_v10 : IVec S16384 1 := cmpi .sge main_arg0 main_v9
  let main_c_0 : IVec S_ 32 := constantI S_ 32 18432#32
  let main_v11 : IVec S16384 32 := broadcastInDim S16384 ![] bcast_S_S16384 main_c_0
  let main_v12 : IVec S16384 1 := cmpi .slt main_arg0 main_v11
  let main_v13 : IVec S16384 1 := andi main_v10 main_v12
  let main_v14 : IVec S36 32 := (extractStridedSlice S36 ![0] · slices_S128_S36_0) main_arg1
  let main_c_1 : IVec S_ 32 := constantI S_ 32 0#32
  let main_v15 : IVec S36 32 := broadcastInDim S36 ![] bcast_S_S36 main_c_1
  let main_v16 : IVec S36 1 := cmpi .sge main_v14 main_v15
  let main_v17 : IVec S36 32 := (extractStridedSlice S36 ![0] · slices_S128_S36_0) main_arg1
  let main_c_2 : IVec S_ 32 := constantI S_ 32 4#32
  let main_v18 : IVec S36 32 := broadcastInDim S36 ![] bcast_S_S36 main_c_2
  let main_v19 : IVec S36 1 := cmpi .slt main_v17 main_v18
  fn_part1 (F := F) main_v8 main_v13 main_v16 main_v19
-- ==== Kernel.lean ====
abbrev S16384 : Shape := ⟨1, ![16384]⟩
abbrev S128 : Shape := ⟨1, ![128]⟩
abbrev S16384x1152 : Shape := ⟨2, ![16384, 1152]⟩
abbrev S1x1024 : Shape := ⟨2, ![1, 1024]⟩
abbrev S4x8x1024x256 : Shape := ⟨4, ![4, 8, 1024, 256]⟩
abbrev S4x8x256x1024 : Shape := ⟨4, ![4, 8, 256, 1024]⟩
abbrev S2048x8x1152 : Shape := ⟨3, ![2048, 8, 1152]⟩
abbrev S_ : Shape := ⟨0, ![]⟩
abbrev S2304x8x1152 : Shape := ⟨3, ![2304, 8, 1152]⟩
abbrev S256x8x1152 : Shape := ⟨3, ![256, 8, 1152]⟩
abbrev S1 : Shape := ⟨1, ![1]⟩
abbrev S1x1x1152 : Shape := ⟨3, ![1, 1, 1152]⟩
abbrev S1x1152 : Shape := ⟨2, ![1, 1152]⟩
abbrev S18432x1152 : Shape := ⟨2, ![18432, 1152]⟩
abbrev S18432x1024 : Shape := ⟨2, ![18432, 1024]⟩
abbrev S512x1152 : Shape := ⟨2, ![512, 1152]⟩
abbrev S1x8x1024x256 : Shape := ⟨4, ![1, 8, 1024, 256]⟩
abbrev S1x8x256x1024 : Shape := ⟨4, ![1, 8, 256, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S512x2048 : Shape := ⟨2, ![512, 2048]⟩
abbrev S8x256x1024 : Shape := ⟨3, ![8, 256, 1024]⟩
abbrev S2048x1024 : Shape := ⟨2, ![2048, 1024]⟩
abbrev S2304x8x1024 : Shape := ⟨3, ![2304, 8, 1024]⟩
abbrev S2048x8x1024 : Shape := ⟨3, ![2048, 8, 1024]⟩
abbrev S256x8x1024 : Shape := ⟨3, ![256, 8, 1024]⟩
abbrev S1x1x1024 : Shape := ⟨3, ![1, 1, 1024]⟩
abbrev S16384x1024 : Shape := ⟨2, ![16384, 1024]⟩

abbrev nBuf : Space → Nat
  | .hbm => 13
  | .vmem => 14
  | .smem => 2
  | _ => 0

abbrev bufTy : (tb : Table) → Fin (tcTables nBuf tb) → BufTy
  | .hbm, ⟨0, _⟩ => ⟨S16384x1152, .f32⟩
  | .hbm, ⟨1, _⟩ => ⟨S1x1024, .f32⟩
  | .hbm, ⟨2, _⟩ => ⟨S4x8x1024x256, .f32⟩
  | .hbm, ⟨3, _⟩ => ⟨S4x8x1024x256, .f32⟩
  | .hbm, ⟨4, _⟩ => ⟨S4x8x256x1024, .f32⟩
  | .hbm, ⟨5, _⟩ => ⟨S2048x8x1152, .f32⟩
  | .hbm, ⟨6, _⟩ => ⟨S_, .f32⟩
  | .hbm, ⟨7, _⟩ => ⟨S2304x8x1152, .f32⟩
  | .hbm, ⟨8, _⟩ => ⟨S18432x1152, .f32⟩
  | .hbm, ⟨9, _⟩ => ⟨S18432x1024, .f32⟩
  | .hbm, ⟨10, _⟩ => ⟨S2304x8x1024, .f32⟩
  | .hbm, ⟨11, _⟩ => ⟨S2048x8x1024, .f32⟩
  | .hbm, ⟨12, _⟩ => ⟨S16384x1024, .f32⟩
  | .local _ .vmem, ⟨0, _⟩ => ⟨S256x8x1152, .f32⟩
  | .local _ .vmem, ⟨1, _⟩ => ⟨S256x8x1152, .f32⟩
  | .local _ .vmem, ⟨2, _⟩ => ⟨S512x1152, .f32⟩
  | .local _ .vmem, ⟨3, _⟩ => ⟨S512x1152, .f32⟩
  | .local _ .vmem, ⟨4, _⟩ => ⟨S1x1024, .f32⟩
  | .local _ .vmem, ⟨5, _⟩ => ⟨S1x8x1024x256, .f32⟩
  | .local _ .vmem, ⟨6, _⟩ => ⟨S1x8x1024x256, .f32⟩
  | .local _ .vmem, ⟨7, _⟩ => ⟨S1x8x1024x256, .f32⟩
  | .local _ .vmem, ⟨8, _⟩ => ⟨S1x8x1024x256, .f32⟩
  | .local _ .vmem, ⟨9, _⟩ => ⟨S1x8x256x1024, .f32⟩
  | .local _ .vmem, ⟨10, _⟩ => ⟨S512x1024, .f32⟩
  | .local _ .vmem, ⟨11, _⟩ => ⟨S512x1024, .f32⟩
  | .local _ .vmem, ⟨12, _⟩ => ⟨S256x8x1024, .f32⟩
  | .local _ .vmem, ⟨13, _⟩ => ⟨S256x8x1024, .f32⟩
  | .local _ .smem, ⟨0, _⟩ => ⟨S16384, .i32⟩
  | .local _ .smem, ⟨1, _⟩ => ⟨S128, .i32⟩
  | _, _ => ⟨S16384x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc0_sem0_0 : DmaSem sig := 0
abbrev cc0_sem0_1 : DmaSem sig := 1
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v2 : BitVec 32 := Scalar.addi c0_i32 c256_i32_0
  let c1_i32 : BitVec 32 := 1#32
  ⟨c0_i32, v2, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_6 : BitVec 32 := 8#32
  let v4 : BitVec 32 := Scalar.muli arg6 c8_i32_6
  let v5 : BitVec 32 := Scalar.addi v1 v4
  let c0_i32_7 : BitVec 32 := 0#32
  let v6 : BitVec 32 := Scalar.addi v5 c0_i32_7
  let v7 : Index := Scalar.indexCast v6
  ![v7.toNat]
def k0_off2 (v8 : BitVec 32) : Fin 3 → Nat :=
  let c3_i32 : BitVec 32 := 3#32
  let v9 : BitVec 32 := Scalar.shrui v8 c3_i32
  let c7_i32 : BitVec 32 := 7#32
  let v10 : BitVec 32 := Scalar.andi v8 c7_i32
  let c0_i32_8 : BitVec 32 := 0#32
  ![v9.toNat, v10.toNat, 0]

def k0_chk1 (v8 : BitVec 32) : Prop :=
  (∀ a, (k0_off2 v8) a + S1x1x1152.size a ≤ S2304x8x1152.size a)
theorem k0_off2_inb : ∀ (v8 : BitVec 32) (k0_hw1 : k0_chk1 v8), ∀ a, (k0_off2 v8) a + S1x1x1152.size a ≤ S2304x8x1152.size a := fun v8 k0_hw1 => k0_hw1

def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let c0_i32_9 : BitVec 32 := 0#32
  let c0_i32_10 : BitVec 32 := 0#32
  ![arg6.toNat, 0, 0]
def k0_off4 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_11 : BitVec 32 := 8#32
  let v15 : BitVec 32 := Scalar.muli arg6 c8_i32_11
  let v16 : BitVec 32 := Scalar.addi v1 v15
  let c1_i32_12 : BitVec 32 := 1#32
  let v17 : BitVec 32 := Scalar.addi v16 c1_i32_12
  let v18 : Index := Scalar.indexCast v17
  ![v18.toNat]
def k0_off5 (v19 : BitVec 32) : Fin 3 → Nat :=
  let c3_i32_13 : BitVec 32 := 3#32
  let v20 : BitVec 32 := Scalar.shrui v19 c3_i32_13
  let c7_i32_14 : BitVec 32 := 7#32
  let v21 : BitVec 32 := Scalar.andi v19 c7_i32_14
  let c0_i32_15 : BitVec 32 := 0#32
  ![v20.toNat, v21.toNat, 0]

def k0_chk2 (v19 : BitVec 32) : Prop :=
  (∀ a, (k0_off5 v19) a + S1x1x1152.size a ≤ S2304x8x1152.size a)
theorem k0_off5_inb : ∀ (v19 : BitVec 32) (k0_hw2 : k0_chk2 v19), ∀ a, (k0_off5 v19) a + S1x1x1152.size a ≤ S2304x8x1152.size a := fun v19 k0_hw2 => k0_hw2

def k0_off6 (k0_t1 : Fin k0_t1_loop.trips) : Fin 3 → Nat :=
  let c0_i32 : BitVec 32 := 0#32
  let c1_i32 : BitVec 32 := 1#32
  let arg6 : BitVec 32 := Scf.iv c0_i32 c1_i32 k0_t1
  let c1_i32_16 : BitVec 32 := 1#32
  let c0_i32_17 : BitVec 32 := 0#32
  ![arg6.toNat, 1, 0]
def k0_off7 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_18 : BitVec 32 := 8#32
  let v26 : BitVec 32 := Scalar.muli arg6 c8_i32_18
  let v27 : BitVec 32 := Scalar.addi v1 v26
  let c2_i32 : BitVec 32 := 2#32
  let v28 : BitVec 32 := Scalar.addi v27 c2_i32
  let v29 : Index := Scalar.indexCast v28
  ![v29.toNat]
def k0_off8 (v30 : BitVec 32) : Fin 3 → Nat :=
  let c3_i32_19 : BitVec 32 := 3#32
  let v31 : BitVec 32 := Scalar.shrui v30 c3_i32_19
  let c7_i32_20 : BitVec 32 := 7#32
  let v32 : BitVec 32 := Scalar.andi v30 c7_i32_20
  let c0_i32_21 : BitVec 32 := 0#32
  ![v31.toNat, v32.toNat, 0]

def k0_chk3 (v30 : BitVec 32) : Prop :=
  (∀ a, (k0_off8 v30) a + S1x1x1152.size a ≤ S2304x8x1152.size a)
theorem k0_off8_inb : ∀ (v30 : BitVec 32) (k0_hw3 : k0_chk3 v30), ∀ a, (k0_off8 v30) a + S1x1x1152.size a ≤ S2304x8x1152.size a := fun v30 k0_hw3 => k0_hw3

def k0_off9 (k0_t1 : Fin k0_t1_loop.trips) : Fin 3 → Nat :=
  let c0_i32 : BitVec 32 := 0#32
  let c1_i32 : BitVec 32 := 1#32
  let arg6 : BitVec 32 := Scf.iv c0_i32 c1_i32 k0_t1
  let c2_i32_22 : BitVec 32 := 2#32
  let c0_i32_23 : BitVec 32 := 0#32
  ![arg6.toNat, 2, 0]
def k0_off10 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_24 : BitVec 32 := 8#32
  let v37 : BitVec 32 := Scalar.muli arg6 c8_i32_24
  let v38 : BitVec 32 := Scalar.addi v1 v37
  let c3_i32_25 : BitVec 32 := 3#32
  let v39 : BitVec 32 := Scalar.addi v38 c3_i32_25
  let v40 : Index := Scalar.indexCast v39
  ![v40.toNat]
def k0_off11 (v41 : BitVec 32) : Fin 3 → Nat :=
  let c3_i32_26 : BitVec 32 := 3#32
  let v42 : BitVec 32 := Scalar.shrui v41 c3_i32_26
  let c7_i32_27 : BitVec 32 := 7#32
  let v43 : BitVec 32 := Scalar.andi v41 c7_i32_27
  let c0_i32_28 : BitVec 32 := 0#32
  ![v42.toNat, v43.toNat, 0]

def k0_chk4 (v41 : BitVec 32) : Prop :=
  (∀ a, (k0_off11 v41) a + S1x1x1152.size a ≤ S2304x8x1152.size a)
theorem k0_off11_inb : ∀ (v41 : BitVec 32) (k0_hw4 : k0_chk4 v41), ∀ a, (k0_off11 v41) a + S1x1x1152.size a ≤ S2304x8x1152.size a := fun v41 k0_hw4 => k0_hw4

def k0_off12 (k0_t1 : Fin k0_t1_loop.trips) : Fin 3 → Nat :=
  let c0_i32 : BitVec 32 := 0#32
  let c1_i32 : BitVec 32 := 1#32
  let arg6 : BitVec 32 := Scf.iv c0_i32 c1_i32 k0_t1
  let c3_i32_29 : BitVec 32 := 3#32
  let c0_i32_30 : BitVec 32 := 0#32
  ![arg6.toNat, 3, 0]
def k0_off13 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_31 : BitVec 32 := 8#32
  let v48 : BitVec 32 := Scalar.muli arg6 c8_i32_31
  let v49 : BitVec 32 := Scalar.addi v1 v48
  let c4_i32 : BitVec 32 := 4#32
  let v50 : BitVec 32 := Scalar.addi v49 c4_i32
  let v51 : Index := Scalar.indexCast v50
  ![v51.toNat]
def k0_off14 (v52 : BitVec 32) : Fin 3 → Nat :=
  let c3_i32_32 : BitVec 32 := 3#32
  let v53 : BitVec 32 := Scalar.shrui v52 c3_i32_32
  let c7_i32_33 : BitVec 32 := 7#32
  let v54 : BitVec 32 := Scalar.andi v52 c7_i32_33
  let c0_i32_34 : BitVec 32 := 0#32
  ![v53.toNat, v54.toNat, 0]

def k0_chk5 (v52 : BitVec 32) : Prop :=
  (∀ a, (k0_off14 v52) a + S1x1x1152.size a ≤ S2304x8x1152.size a)
theorem k0_off14_inb : ∀ (v52 : BitVec 32) (k0_hw5 : k0_chk5 v52), ∀ a, (k0_off14 v52) a + S1x1x1152.size a ≤ S2304x8x1152.size a := fun v52 k0_hw5 => k0_hw5

def k0_off15 (k0_t1 : Fin k0_t1_loop.trips) : Fin 3 → Nat :=
  let c0_i32 : BitVec 32 := 0#32
  let c1_i32 : BitVec 32 := 1#32
  let arg6 : BitVec 32 := Scf.iv c0_i32 c1_i32 k0_t1
  let c4_i32_35 : BitVec 32 := 4#32
  let c0_i32_36 : BitVec 32 := 0#32
  ![arg6.toNat, 4, 0]
def k0_off16 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_37 : BitVec 32 := 8#32
  let v59 : BitVec 32 := Scalar.muli arg6 c8_i32_37
  let v60 : BitVec 32 := Scalar.addi v1 v59
  let c5_i32 : BitVec 32 := 5#32
  let v61 : BitVec 32 := Scalar.addi v60 c5_i32
  let v62 : Index := Scalar.indexCast v61
  ![v62.toNat]
def k0_off17 (v63 : BitVec 32) : Fin 3 → Nat :=
  let c3_i32_38 : BitVec 32 := 3#32
  let v64 : BitVec 32 := Scalar.shrui v63 c3_i32_38
  let c7_i32_39 : BitVec 32 := 7#32
  let v65 : BitVec 32 := Scalar.andi v63 c7_i32_39
  let c0_i32_40 : BitVec 32 := 0#32
  ![v64.toNat, v65.toNat, 0]

def k0_chk6 (v63 : BitVec 32) : Prop :=
  (∀ a, (k0_off17 v63) a + S1x1x1152.size a ≤ S2304x8x1152.size a)
theorem k0_off17_inb : ∀ (v63 : BitVec 32) (k0_hw6 : k0_chk6 v63), ∀ a, (k0_off17 v63) a + S1x1x1152.size a ≤ S2304x8x1152.size a := fun v63 k0_hw6 => k0_hw6

def k0_off18 (k0_t1 : Fin k0_t1_loop.trips) : Fin 3 → Nat :=
  let c0_i32 : BitVec 32 := 0#32
  let c1_i32 : BitVec 32 := 1#32
  let arg6 : BitVec 32 := Scf.iv c0_i32 c1_i32 k0_t1
  let c5_i32_41 : BitVec 32 := 5#32
  let c0_i32_42 : BitVec 32 := 0#32
  ![arg6.toNat, 5, 0]
def k0_off19 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_43 : BitVec 32 := 8#32
  let v70 : BitVec 32 := Scalar.muli arg6 c8_i32_43
  let v71 : BitVec 32 := Scalar.addi v1 v70
  let c6_i32 : BitVec 32 := 6#32
  let v72 : BitVec 32 := Scalar.addi v71 c6_i32
  let v73 : Index := Scalar.indexCast v72
  ![v73.toNat]
def k0_off20 (v74 : BitVec 32) : Fin 3 → Nat :=
  let c3_i32_44 : BitVec 32 := 3#32
  let v75 : BitVec 32 := Scalar.shrui v74 c3_i32_44
  let c7_i32_45 : BitVec 32 := 7#32
  let v76 : BitVec 32 := Scalar.andi v74 c7_i32_45
  let c0_i32_46 : BitVec 32 := 0#32
  ![v75.toNat, v76.toNat, 0]

def k0_chk7 (v74 : BitVec 32) : Prop :=
  (∀ a, (k0_off20 v74) a + S1x1x1152.size a ≤ S2304x8x1152.size a)
theorem k0_off20_inb : ∀ (v74 : BitVec 32) (k0_hw7 : k0_chk7 v74), ∀ a, (k0_off20 v74) a + S1x1x1152.size a ≤ S2304x8x1152.size a := fun v74 k0_hw7 => k0_hw7

def k0_off21 (k0_t1 : Fin k0_t1_loop.trips) : Fin 3 → Nat :=
  let c0_i32 : BitVec 32 := 0#32
  let c1_i32 : BitVec 32 := 1#32
  let arg6 : BitVec 32 := Scf.iv c0_i32 c1_i32 k0_t1
  let c6_i32_47 : BitVec 32 := 6#32
  let c0_i32_48 : BitVec 32 := 0#32
  ![arg6.toNat, 6, 0]
def k0_off22 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg6 : BitVec 32 := Scf.iv c0_i32 c1_i32 k0_t1
  let c8_i32_49 : BitVec 32 := 8#32
  let v81 : BitVec 32 := Scalar.muli arg6 c8_i32_49
  let v82 : BitVec 32 := Scalar.addi v1 v81
  let c7_i32_50 : BitVec 32 := 7#32
  let v83 : BitVec 32 := Scalar.addi v82 c7_i32_50
  let v84 : Index := Scalar.indexCast v83
  ![v84.toNat]
def k0_off23 (v85 : BitVec 32) : Fin 3 → Nat :=
  let c3_i32_51 : BitVec 32 := 3#32
  let v86 : BitVec 32 := Scalar.shrui v85 c3_i32_51
  let c7_i32_52 : BitVec 32 := 7#32
  let v87 : BitVec 32 := Scalar.andi v85 c7_i32_52
  let c0_i32_53 : BitVec 32 := 0#32
  ![v86.toNat, v87.toNat, 0]

def k0_chk8 (v85 : BitVec 32) : Prop :=
  (∀ a, (k0_off23 v85) a + S1x1x1152.size a ≤ S2304x8x1152.size a)
theorem k0_off23_inb : ∀ (v85 : BitVec 32) (k0_hw8 : k0_chk8 v85), ∀ a, (k0_off23 v85) a + S1x1x1152.size a ≤ S2304x8x1152.size a := fun v85 k0_hw8 => k0_hw8

def k0_off24 (k0_t1 : Fin k0_t1_loop.trips) : Fin 3 → Nat :=
  let c0_i32 : BitVec 32 := 0#32
  let c1_i32 : BitVec 32 := 1#32
  let arg6 : BitVec 32 := Scf.iv c0_i32 c1_i32 k0_t1
  let c7_i32_54 : BitVec 32 := 7#32
  let c0_i32_55 : BitVec 32 := 0#32
  ![arg6.toNat, 7, 0]
@[reducible] def k0_t2_loop : Scf.Loop 32 :=
  let c0_i32_2 : BitVec 32 := 0#32
  let c256_i32_3 : BitVec 32 := 256#32
  let v3 : BitVec 32 := Scalar.addi c0_i32_2 c256_i32_3
  let c1_i32_4 : BitVec 32 := 1#32
  ⟨c0_i32_2, v3, c1_i32_4⟩
def k0_off25 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c0_i32_6 : BitVec 32 := 0#32
  let c0_i32_7 : BitVec 32 := 0#32
  ![arg6.toNat, 0, 0]
def k0_off26 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c0_i32_8 : BitVec 32 := 0#32
  let c0_i32_9 : BitVec 32 := 0#32
  ![arg6.toNat, 0, 0]
def k0_off27 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c1_i32_10 : BitVec 32 := 1#32
  let c0_i32_11 : BitVec 32 := 0#32
  ![arg6.toNat, 1, 0]
def k0_off28 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c1_i32_12 : BitVec 32 := 1#32
  let c0_i32_13 : BitVec 32 := 0#32
  ![arg6.toNat, 1, 0]
def k0_off29 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c2_i32 : BitVec 32 := 2#32
  let c0_i32_14 : BitVec 32 := 0#32
  ![arg6.toNat, 2, 0]
def k0_off30 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c2_i32_15 : BitVec 32 := 2#32
  let c0_i32_16 : BitVec 32 := 0#32
  ![arg6.toNat, 2, 0]
def k0_off31 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c3_i32 : BitVec 32 := 3#32
  let c0_i32_17 : BitVec 32 := 0#32
  ![arg6.toNat, 3, 0]
def k0_off32 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c3_i32_18 : BitVec 32 := 3#32
  let c0_i32_19 : BitVec 32 := 0#32
  ![arg6.toNat, 3, 0]
def k0_off33 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c4_i32 : BitVec 32 := 4#32
  let c0_i32_20 : BitVec 32 := 0#32
  ![arg6.toNat, 4, 0]
def k0_off34 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c4_i32_21 : BitVec 32 := 4#32
  let c0_i32_22 : BitVec 32 := 0#32
  ![arg6.toNat, 4, 0]
def k0_off35 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c5_i32 : BitVec 32 := 5#32
  let c0_i32_23 : BitVec 32 := 0#32
  ![arg6.toNat, 5, 0]
def k0_off36 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c5_i32_24 : BitVec 32 := 5#32
  let c0_i32_25 : BitVec 32 := 0#32
  ![arg6.toNat, 5, 0]
def k0_off37 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c6_i32 : BitVec 32 := 6#32
  let c0_i32_26 : BitVec 32 := 0#32
  ![arg6.toNat, 6, 0]
def k0_off38 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c6_i32_27 : BitVec 32 := 6#32
  let c0_i32_28 : BitVec 32 := 0#32
  ![arg6.toNat, 6, 0]
def k0_off39 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c7_i32 : BitVec 32 := 7#32
  let c0_i32_29 : BitVec 32 := 0#32
  ![arg6.toNat, 7, 0]
def k0_off40 (k0_t2 : Fin k0_t2_loop.trips) : Fin 3 → Nat :=
  let c0_i32_2 : BitVec 32 := 0#32
  let c1_i32_4 : BitVec 32 := 1#32
  let arg6 : BitVec 32 := Scf.iv c0_i32_2 c1_i32_4 k0_t2
  let c7_i32_30 : BitVec 32 := 7#32
  let c0_i32_31 : BitVec 32 := 0#32
  ![arg6.toNat, 7, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![36], ![false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v27 : Index := Scalar.indexCast arg0
  ![v27.toNat]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k1_cond2 (i : grid1.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S128.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_3 (k1_off1_inb : ∀ i : grid1.Coords, ∀ a, (k1_off1 i) a + S1.size a ≤ S128.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_4 (k1_off1_inb : ∀ i : grid1.Coords, ∀ a, (k1_off1 i) a + S1.size a ≤ S128.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x8x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x8x256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

abbrev pre2 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k2_t1_loop : Scf.Loop 32 :=
  let c0_i32 : BitVec 32 := 0#32
  let c256_i32_0 : BitVec 32 := 256#32
  let v2 : BitVec 32 := Scalar.addi c0_i32 c256_i32_0
  let c1_i32 : BitVec 32 := 1#32
  ⟨c0_i32, v2, c1_i32⟩
def k2_off1 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_6 : BitVec 32 := 8#32
  let v4 : BitVec 32 := Scalar.muli arg5 c8_i32_6
  let v5 : BitVec 32 := Scalar.addi v1 v4
  let c0_i32_7 : BitVec 32 := 0#32
  let v6 : BitVec 32 := Scalar.addi v5 c0_i32_7
  let v7 : Index := Scalar.indexCast v6
  ![v7.toNat]
def k2_off2 (k2_t1 : Fin k2_t1_loop.trips) : Fin 3 → Nat :=
  let c0_i32 : BitVec 32 := 0#32
  let c1_i32 : BitVec 32 := 1#32
  let arg5 : BitVec 32 := Scf.iv c0_i32 c1_i32 k2_t1
  let c0_i32_8 : BitVec 32 := 0#32
  let c0_i32_9 : BitVec 32 := 0#32
  ![arg5.toNat, 0, 0]
def k2_off3 (v8 : BitVec 32) : Fin 3 → Nat :=
  let c3_i32 : BitVec 32 := 3#32
  let v9 : BitVec 32 := Scalar.shrui v8 c3_i32
  let c7_i32 : BitVec 32 := 7#32
  let v10 : BitVec 32 := Scalar.andi v8 c7_i32
  let c0_i32_10 : BitVec 32 := 0#32
  ![v9.toNat, v10.toNat, 0]

def k2_chk1 (v8 : BitVec 32) : Prop :=
  (∀ a, (k2_off3 v8) a + S1x1x1024.size a ≤ S2304x8x1024.size a)
theorem k2_off3_inb : ∀ (v8 : BitVec 32) (k2_hw1 : k2_chk1 v8), ∀ a, (k2_off3 v8) a + S1x1x1024.size a ≤ S2304x8x1024.size a := fun v8 k2_hw1 => k2_hw1

def k2_off4 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_11 : BitVec 32 := 8#32
  let v15 : BitVec 32 := Scalar.muli arg5 c8_i32_11
  let v16 : BitVec 32 := Scalar.addi v1 v15
  let c1_i32_12 : BitVec 32 := 1#32
  let v17 : BitVec 32 := Scalar.addi v16 c1_i32_12
  let v18 : Index := Scalar.indexCast v17
  ![v18.toNat]
def k2_off5 (k2_t1 : Fin k2_t1_loop.trips) : Fin 3 → Nat :=
  let c0_i32 : BitVec 32 := 0#32
  let c1_i32 : BitVec 32 := 1#32
  let arg5 : BitVec 32 := Scf.iv c0_i32 c1_i32 k2_t1
  let c1_i32_15 : BitVec 32 := 1#32
  let c0_i32_16 : BitVec 32 := 0#32
  ![arg5.toNat, 1, 0]
def k2_off6 (v19 : BitVec 32) : Fin 3 → Nat :=
  let c3_i32_13 : BitVec 32 := 3#32
  let v20 : BitVec 32 := Scalar.shrui v19 c3_i32_13
  let c7_i32_14 : BitVec 32 := 7#32
  let v21 : BitVec 32 := Scalar.andi v19 c7_i32_14
  let c0_i32_17 : BitVec 32 := 0#32
  ![v20.toNat, v21.toNat, 0]

def k2_chk2 (v19 : BitVec 32) : Prop :=
  (∀ a, (k2_off6 v19) a + S1x1x1024.size a ≤ S2304x8x1024.size a)
theorem k2_off6_inb : ∀ (v19 : BitVec 32) (k2_hw2 : k2_chk2 v19), ∀ a, (k2_off6 v19) a + S1x1x1024.size a ≤ S2304x8x1024.size a := fun v19 k2_hw2 => k2_hw2

def k2_off7 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_18 : BitVec 32 := 8#32
  let v26 : BitVec 32 := Scalar.muli arg5 c8_i32_18
  let v27 : BitVec 32 := Scalar.addi v1 v26
  let c2_i32 : BitVec 32 := 2#32
  let v28 : BitVec 32 := Scalar.addi v27 c2_i32
  let v29 : Index := Scalar.indexCast v28
  ![v29.toNat]
def k2_off8 (k2_t1 : Fin k2_t1_loop.trips) : Fin 3 → Nat :=
  let c0_i32 : BitVec 32 := 0#32
  let c1_i32 : BitVec 32 := 1#32
  let arg5 : BitVec 32 := Scf.iv c0_i32 c1_i32 k2_t1
  let c2_i32_21 : BitVec 32 := 2#32
  let c0_i32_22 : BitVec 32 := 0#32
  ![arg5.toNat, 2, 0]
def k2_off9 (v30 : BitVec 32) : Fin 3 → Nat :=
  let c3_i32_19 : BitVec 32 := 3#32
  let v31 : BitVec 32 := Scalar.shrui v30 c3_i32_19
  let c7_i32_20 : BitVec 32 := 7#32
  let v32 : BitVec 32 := Scalar.andi v30 c7_i32_20
  let c0_i32_23 : BitVec 32 := 0#32
  ![v31.toNat, v32.toNat, 0]

def k2_chk3 (v30 : BitVec 32) : Prop :=
  (∀ a, (k2_off9 v30) a + S1x1x1024.size a ≤ S2304x8x1024.size a)
theorem k2_off9_inb : ∀ (v30 : BitVec 32) (k2_hw3 : k2_chk3 v30), ∀ a, (k2_off9 v30) a + S1x1x1024.size a ≤ S2304x8x1024.size a := fun v30 k2_hw3 => k2_hw3

def k2_off10 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_24 : BitVec 32 := 8#32
  let v37 : BitVec 32 := Scalar.muli arg5 c8_i32_24
  let v38 : BitVec 32 := Scalar.addi v1 v37
  let c3_i32_25 : BitVec 32 := 3#32
  let v39 : BitVec 32 := Scalar.addi v38 c3_i32_25
  let v40 : Index := Scalar.indexCast v39
  ![v40.toNat]
def k2_off11 (k2_t1 : Fin k2_t1_loop.trips) : Fin 3 → Nat :=
  let c0_i32 : BitVec 32 := 0#32
  let c1_i32 : BitVec 32 := 1#32
  let arg5 : BitVec 32 := Scf.iv c0_i32 c1_i32 k2_t1
  let c3_i32_28 : BitVec 32 := 3#32
  let c0_i32_29 : BitVec 32 := 0#32
  ![arg5.toNat, 3, 0]
def k2_off12 (v41 : BitVec 32) : Fin 3 → Nat :=
  let c3_i32_26 : BitVec 32 := 3#32
  let v42 : BitVec 32 := Scalar.shrui v41 c3_i32_26
  let c7_i32_27 : BitVec 32 := 7#32
  let v43 : BitVec 32 := Scalar.andi v41 c7_i32_27
  let c0_i32_30 : BitVec 32 := 0#32
  ![v42.toNat, v43.toNat, 0]

def k2_chk4 (v41 : BitVec 32) : Prop :=
  (∀ a, (k2_off12 v41) a + S1x1x1024.size a ≤ S2304x8x1024.size a)
theorem k2_off12_inb : ∀ (v41 : BitVec 32) (k2_hw4 : k2_chk4 v41), ∀ a, (k2_off12 v41) a + S1x1x1024.size a ≤ S2304x8x1024.size a := fun v41 k2_hw4 => k2_hw4

def k2_off13 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_31 : BitVec 32 := 8#32
  let v48 : BitVec 32 := Scalar.muli arg5 c8_i32_31
  let v49 : BitVec 32 := Scalar.addi v1 v48
  let c4_i32 : BitVec 32 := 4#32
  let v50 : BitVec 32 := Scalar.addi v49 c4_i32
  let v51 : Index := Scalar.indexCast v50
  ![v51.toNat]
def k2_off14 (k2_t1 : Fin k2_t1_loop.trips) : Fin 3 → Nat :=
  let c0_i32 : BitVec 32 := 0#32
  let c1_i32 : BitVec 32 := 1#32
  let arg5 : BitVec 32 := Scf.iv c0_i32 c1_i32 k2_t1
  let c4_i32_34 : BitVec 32 := 4#32
  let c0_i32_35 : BitVec 32 := 0#32
  ![arg5.toNat, 4, 0]
def k2_off15 (v52 : BitVec 32) : Fin 3 → Nat :=
  let c3_i32_32 : BitVec 32 := 3#32
  let v53 : BitVec 32 := Scalar.shrui v52 c3_i32_32
  let c7_i32_33 : BitVec 32 := 7#32
  let v54 : BitVec 32 := Scalar.andi v52 c7_i32_33
  let c0_i32_36 : BitVec 32 := 0#32
  ![v53.toNat, v54.toNat, 0]

def k2_chk5 (v52 : BitVec 32) : Prop :=
  (∀ a, (k2_off15 v52) a + S1x1x1024.size a ≤ S2304x8x1024.size a)
theorem k2_off15_inb : ∀ (v52 : BitVec 32) (k2_hw5 : k2_chk5 v52), ∀ a, (k2_off15 v52) a + S1x1x1024.size a ≤ S2304x8x1024.size a := fun v52 k2_hw5 => k2_hw5

def k2_off16 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_37 : BitVec 32 := 8#32
  let v59 : BitVec 32 := Scalar.muli arg5 c8_i32_37
  let v60 : BitVec 32 := Scalar.addi v1 v59
  let c5_i32 : BitVec 32 := 5#32
  let v61 : BitVec 32 := Scalar.addi v60 c5_i32
  let v62 : Index := Scalar.indexCast v61
  ![v62.toNat]
def k2_off17 (k2_t1 : Fin k2_t1_loop.trips) : Fin 3 → Nat :=
  let c0_i32 : BitVec 32 := 0#32
  let c1_i32 : BitVec 32 := 1#32
  let arg5 : BitVec 32 := Scf.iv c0_i32 c1_i32 k2_t1
  let c5_i32_40 : BitVec 32 := 5#32
  let c0_i32_41 : BitVec 32 := 0#32
  ![arg5.toNat, 5, 0]
def k2_off18 (v63 : BitVec 32) : Fin 3 → Nat :=
  let c3_i32_38 : BitVec 32 := 3#32
  let v64 : BitVec 32 := Scalar.shrui v63 c3_i32_38
  let c7_i32_39 : BitVec 32 := 7#32
  let v65 : BitVec 32 := Scalar.andi v63 c7_i32_39
  let c0_i32_42 : BitVec 32 := 0#32
  ![v64.toNat, v65.toNat, 0]

def k2_chk6 (v63 : BitVec 32) : Prop :=
  (∀ a, (k2_off18 v63) a + S1x1x1024.size a ≤ S2304x8x1024.size a)
theorem k2_off18_inb : ∀ (v63 : BitVec 32) (k2_hw6 : k2_chk6 v63), ∀ a, (k2_off18 v63) a + S1x1x1024.size a ≤ S2304x8x1024.size a := fun v63 k2_hw6 => k2_hw6

def k2_off19 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_43 : BitVec 32 := 8#32
  let v70 : BitVec 32 := Scalar.muli arg5 c8_i32_43
  let v71 : BitVec 32 := Scalar.addi v1 v70
  let c6_i32 : BitVec 32 := 6#32
  let v72 : BitVec 32 := Scalar.addi v71 c6_i32
  let v73 : Index := Scalar.indexCast v72
  ![v73.toNat]
def k2_off20 (k2_t1 : Fin k2_t1_loop.trips) : Fin 3 → Nat :=
  let c0_i32 : BitVec 32 := 0#32
  let c1_i32 : BitVec 32 := 1#32
  let arg5 : BitVec 32 := Scf.iv c0_i32 c1_i32 k2_t1
  let c6_i32_46 : BitVec 32 := 6#32
  let c0_i32_47 : BitVec 32 := 0#32
  ![arg5.toNat, 6, 0]
def k2_off21 (v74 : BitVec 32) : Fin 3 → Nat :=
  let c3_i32_44 : BitVec 32 := 3#32
  let v75 : BitVec 32 := Scalar.shrui v74 c3_i32_44
  let c7_i32_45 : BitVec 32 := 7#32
  let v76 : BitVec 32 := Scalar.andi v74 c7_i32_45
  let c0_i32_48 : BitVec 32 := 0#32
  ![v75.toNat, v76.toNat, 0]

def k2_chk7 (v74 : BitVec 32) : Prop :=
  (∀ a, (k2_off21 v74) a + S1x1x1024.size a ≤ S2304x8x1024.size a)
theorem k2_off21_inb : ∀ (v74 : BitVec 32) (k2_hw7 : k2_chk7 v74), ∀ a, (k2_off21 v74) a + S1x1x1024.size a ≤ S2304x8x1024.size a := fun v74 k2_hw7 => k2_hw7

def k2_off22 (i : grid2.Coords) (k2_t1 : Fin k2_t1_loop.trips) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v1 : BitVec 32 := Scalar.muli v0 c8_i32
  let c0_i32 : BitVec 32 := 0#32
  let c1_i32 : BitVec 32 := 1#32
  let arg5 : BitVec 32 := Scf.iv c0_i32 c1_i32 k2_t1
  let c8_i32_49 : BitVec 32 := 8#32
  let v81 : BitVec 32 := Scalar.muli arg5 c8_i32_49
  let v82 : BitVec 32 := Scalar.addi v1 v81
  let c7_i32_50 : BitVec 32 := 7#32
  let v83 : BitVec 32 := Scalar.addi v82 c7_i32_50
  let v84 : Index := Scalar.indexCast v83
  ![v84.toNat]
def k2_off23 (k2_t1 : Fin k2_t1_loop.trips) : Fin 3 → Nat :=
  let c0_i32 : BitVec 32 := 0#32
  let c1_i32 : BitVec 32 := 1#32
  let arg5 : BitVec 32 := Scf.iv c0_i32 c1_i32 k2_t1
  let c7_i32_53 : BitVec 32 := 7#32
  let c0_i32_54 : BitVec 32 := 0#32
  ![arg5.toNat, 7, 0]
def k2_off24 (v85 : BitVec 32) : Fin 3 → Nat :=
  let c3_i32_51 : BitVec 32 := 3#32
  let v86 : BitVec 32 := Scalar.shrui v85 c3_i32_51
  let c7_i32_52 : BitVec 32 := 7#32
  let v87 : BitVec 32 := Scalar.andi v85 c7_i32_52
  let c0_i32_55 : BitVec 32 := 0#32
  ![v86.toNat, v87.toNat, 0]

def k2_chk8 (v85 : BitVec 32) : Prop :=
  (∀ a, (k2_off24 v85) a + S1x1x1024.size a ≤ S2304x8x1024.size a)
theorem k2_off24_inb : ∀ (v85 : BitVec 32) (k2_hw8 : k2_chk8 v85), ∀ a, (k2_off24 v85) a + S1x1x1024.size a ≤ S2304x8x1024.size a := fun v85 k2_hw8 => k2_hw8

@[reducible] def k2_t2_loop : Scf.Loop 32 :=
  let c0_i32_2 : BitVec 32 := 0#32
  let c256_i32_3 : BitVec 32 := 256#32
  let v3 : BitVec 32 := Scalar.addi c0_i32_2 c256_i32_3
  let c1_i32_4 : BitVec 32 := 1#32
  ⟨c0_i32_2, v3, c1_i32_4⟩
def k2_off25 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c0_i32_6 : BitVec 32 := 0#32
  let c0_i32_7 : BitVec 32 := 0#32
  ![arg5.toNat, 0, 0]
def k2_off26 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c0_i32_8 : BitVec 32 := 0#32
  let c0_i32_9 : BitVec 32 := 0#32
  ![arg5.toNat, 0, 0]
def k2_off27 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c1_i32_10 : BitVec 32 := 1#32
  let c0_i32_11 : BitVec 32 := 0#32
  ![arg5.toNat, 1, 0]
def k2_off28 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c1_i32_12 : BitVec 32 := 1#32
  let c0_i32_13 : BitVec 32 := 0#32
  ![arg5.toNat, 1, 0]
def k2_off29 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c2_i32 : BitVec 32 := 2#32
  let c0_i32_14 : BitVec 32 := 0#32
  ![arg5.toNat, 2, 0]
def k2_off30 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c2_i32_15 : BitVec 32 := 2#32
  let c0_i32_16 : BitVec 32 := 0#32
  ![arg5.toNat, 2, 0]
def k2_off31 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c3_i32 : BitVec 32 := 3#32
  let c0_i32_17 : BitVec 32 := 0#32
  ![arg5.toNat, 3, 0]
def k2_off32 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c3_i32_18 : BitVec 32 := 3#32
  let c0_i32_19 : BitVec 32 := 0#32
  ![arg5.toNat, 3, 0]
def k2_off33 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c4_i32 : BitVec 32 := 4#32
  let c0_i32_20 : BitVec 32 := 0#32
  ![arg5.toNat, 4, 0]
def k2_off34 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c4_i32_21 : BitVec 32 := 4#32
  let c0_i32_22 : BitVec 32 := 0#32
  ![arg5.toNat, 4, 0]
def k2_off35 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c5_i32 : BitVec 32 := 5#32
  let c0_i32_23 : BitVec 32 := 0#32
  ![arg5.toNat, 5, 0]
def k2_off36 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c5_i32_24 : BitVec 32 := 5#32
  let c0_i32_25 : BitVec 32 := 0#32
  ![arg5.toNat, 5, 0]
def k2_off37 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c6_i32 : BitVec 32 := 6#32
  let c0_i32_26 : BitVec 32 := 0#32
  ![arg5.toNat, 6, 0]
def k2_off38 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c6_i32_27 : BitVec 32 := 6#32
  let c0_i32_28 : BitVec 32 := 0#32
  ![arg5.toNat, 6, 0]
def k2_off39 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c7_i32 : BitVec 32 := 7#32
  let c0_i32_29 : BitVec 32 := 0#32
  ![arg5.toNat, 7, 0]
def k2_off40 (k2_t2 : Fin k2_t2_loop.trips) : Fin 3 → Nat :=
  let c0_i32_2 : BitVec 32 := 0#32
  let c1_i32_4 : BitVec 32 := 1#32
  let arg5 : BitVec 32 := Scf.iv c0_i32_2 c1_i32_4 k2_t2
  let c7_i32_30 : BitVec 32 := 7#32
  let c0_i32_31 : BitVec 32 := 0#32
  ![arg5.toNat, 7, 0]
def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]
-- ==== ReferenceIdeal.lean ====
abbrev S16384 : Shape := ⟨1, ![16384]⟩
abbrev S128 : Shape := ⟨1, ![128]⟩
abbrev S16384x1152 : Shape := ⟨2, ![16384, 1152]⟩
abbrev S1x1024 : Shape := ⟨2, ![1, 1024]⟩
abbrev S4x8x1024x256 : Shape := ⟨4, ![4, 8, 1024, 256]⟩
abbrev S4x8x256x1024 : Shape := ⟨4, ![4, 8, 256, 1024]⟩
abbrev S16384x1024 : Shape := ⟨2, ![16384, 1024]⟩
abbrev S16384x32 : Shape := ⟨2, ![16384, 32]⟩
abbrev S16384x4x8 : Shape := ⟨3, ![16384, 4, 8]⟩
abbrev S_ : Shape := ⟨0, ![]⟩
abbrev S16384x1 : Shape := ⟨2, ![16384, 1]⟩
abbrev S1x8x1024x256 : Shape := ⟨4, ![1, 8, 1024, 256]⟩
abbrev S8x1024x256 : Shape := ⟨3, ![8, 1024, 256]⟩
abbrev S16384x8x256 : Shape := ⟨3, ![16384, 8, 256]⟩
abbrev S16384x1x8 : Shape := ⟨3, ![16384, 1, 8]⟩
abbrev S16384x8 : Shape := ⟨2, ![16384, 8]⟩
abbrev S16384x8x1 : Shape := ⟨3, ![16384, 8, 1]⟩
abbrev S1x8x256x1024 : Shape := ⟨4, ![1, 8, 256, 1024]⟩
abbrev S8x256x1024 : Shape := ⟨3, ![8, 256, 1024]⟩

abbrev nBuf : Space → Nat
  | .hbm => 128
  | .vmem => 0
  | .smem => 0
  | _ => 0

abbrev bufTy : (tb : Table) → Fin (tcTables nBuf tb) → BufTy
  | .hbm, ⟨0, _⟩ => ⟨S16384, .i32⟩
  | .hbm, ⟨1, _⟩ => ⟨S128, .i32⟩
  | .hbm, ⟨2, _⟩ => ⟨S16384x1152, .f32⟩
  | .hbm, ⟨3, _⟩ => ⟨S1x1024, .f32⟩
  | .hbm, ⟨4, _⟩ => ⟨S4x8x1024x256, .f32⟩
  | .hbm, ⟨5, _⟩ => ⟨S4x8x1024x256, .f32⟩
  | .hbm, ⟨6, _⟩ => ⟨S4x8x256x1024, .f32⟩
  | .hbm, ⟨7, _⟩ => ⟨S16384x1024, .f32⟩
  | .hbm, ⟨8, _⟩ => ⟨S16384x32, .f32⟩
  | .hbm, ⟨9, _⟩ => ⟨S16384x4x8, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S1x8x1024x256, .f32⟩
  | .hbm, ⟨28, _⟩ => ⟨S8x1024x256, .f32⟩
  | .hbm, ⟨29, _⟩ => ⟨S16384x8x256, .f32⟩
  | .hbm, ⟨30, _⟩ => ⟨S1x8x1024x256, .f32⟩
  | .hbm, ⟨31, _⟩ => ⟨S8x1024x256, .f32⟩
  | .hbm, ⟨32, _⟩ => ⟨S16384x8x256, .f32⟩
  | .hbm, ⟨33, _⟩ => ⟨S16384x8x256, .f32⟩
  | .hbm, ⟨34, _⟩ => ⟨S16384x8x256, .f32⟩
  | .hbm, ⟨35, _⟩ => ⟨S_, .f32⟩
  | .hbm, ⟨36, _⟩ => ⟨S16384x8x256, .f32⟩
  | .hbm, ⟨37, _⟩ => ⟨S16384x8x256, .f32⟩
  | .hbm, ⟨38, _⟩ => ⟨S_, .f32⟩
  | .hbm, ⟨39, _⟩ => ⟨S16384x8x256, .f32⟩
  | .hbm, ⟨40, _⟩ => ⟨S16384x8x256, .f32⟩
  | .hbm, ⟨41, _⟩ => ⟨S16384x8x256, .f32⟩
  | .hbm, ⟨42, _⟩ => ⟨S16384x8x256, .f32⟩
  | .hbm, ⟨43, _⟩ => ⟨S16384x1x8, .f32⟩
  | .hbm, ⟨44, _⟩ => ⟨S16384x8, .f32⟩
  | .hbm, ⟨45, _⟩ => ⟨S16384x8x1, .f32⟩
  | .hbm, ⟨46, _⟩ => ⟨S16384x8x256, .f32⟩
  | .hbm, ⟨47, _⟩ => ⟨S16384x8x256, .f32⟩
  | .hbm, ⟨48, _⟩ => ⟨S1x8x256x1024, .f32⟩
  | .hbm, ⟨49, _⟩ => ⟨S8x256x1024, .f32⟩
  | .hbm, ⟨50, _⟩ => ⟨S16384x1024, .f32⟩
  | .hbm, ⟨51, _⟩ => ⟨S16384x1024, .f32⟩
  | .hbm, ⟨52, _⟩ => ⟨S1x8x1024x256, .f32⟩
  | .hbm, ⟨53, _⟩ => ⟨S8x1024x256, .f32⟩
  | .hbm, ⟨54, _⟩ => ⟨S16384x8x256, .f32⟩
  | .hbm, ⟨55, _⟩ => ⟨S1x8x1024x256, .f32⟩
  | .hbm, ⟨56, _⟩ => ⟨S8x1024x256, .f32⟩
  | .hbm, ⟨57, _⟩ => ⟨S16384x8x256, .f32⟩
  | .hbm, ⟨58, _⟩ => ⟨S16384x8x256, .f32⟩
  | .hbm, ⟨59, _⟩ => ⟨S16384x8x256, .f32⟩
  | .hbm, ⟨60, _⟩ => ⟨S_, .f32⟩
  | .hbm, ⟨61, _⟩ => ⟨S16384x8x256, .f32⟩
  | .hbm, ⟨62, _⟩ => ⟨S16384x8x256, .f32⟩
  | .hbm, ⟨63, _⟩ => ⟨S_, .f32⟩
  | .hbm, ⟨64, _⟩ => ⟨S16384x8x256, .f32⟩
  | .hbm, ⟨65, _⟩ => ⟨S16384x8x256, .f32⟩
  | .hbm, ⟨66, _⟩ => ⟨S16384x8x256, .f32⟩
  | .hbm, ⟨67, _⟩ => ⟨S16384x8x256, .f32⟩
  | .hbm, ⟨68, _⟩ => ⟨S16384x1x8, .f32⟩
  | .hbm, ⟨69, _⟩ => ⟨S16384x8, .f32⟩
  | .hbm, ⟨70, _⟩ => ⟨S16384x8x1, .f32⟩
  | .hbm, ⟨71, _⟩ => ⟨S16384x8x256, .f32⟩
  | .hbm, ⟨72, _⟩ => ⟨S16384x8x256, .f32⟩
  | .hbm, ⟨73, _⟩ => ⟨S1x8x256x1024, .f32⟩
  | .hbm, ⟨74, _⟩ => ⟨S8x256x1024, .f32⟩
  | .hbm, ⟨75, _⟩ => ⟨S16384x1024, .f32⟩
  | .hbm, ⟨76, _⟩ => ⟨S16384x1024, .f32⟩
  | .hbm, ⟨77, _⟩ => ⟨S1x8x1024x256, .f32⟩
  | .hbm, ⟨78, _⟩ => ⟨S8x1024x256, .f32⟩
  | .hbm, ⟨79, _⟩ => ⟨S16384x8x256, .f32⟩
  | .hbm, ⟨80, _⟩ => ⟨S1x8x1024x256, .f32⟩
  | .hbm, ⟨81, _⟩ => ⟨S8x1024x256, .f32⟩
  | .hbm, ⟨82, _⟩ => ⟨S16384x8x256, .f32⟩
  | .hbm, ⟨83, _⟩ => ⟨S16384x8x256, .f32⟩
  | .hbm, ⟨84, _⟩ => ⟨S16384x8x256, .f32⟩
  | .hbm, ⟨85, _⟩ => ⟨S_, .f32⟩
  | .hbm, ⟨86, _⟩ => ⟨S16384x8x256, .f32⟩
  | .hbm, ⟨87, _⟩ => ⟨S16384x8x256, .f32⟩
  | .hbm, ⟨88, _⟩ => ⟨S_, .f32⟩
  | .hbm, ⟨89, _⟩ => ⟨S16384x8x256, .f32⟩
  | .hbm, ⟨90, _⟩ => ⟨S16384x8x256, .f32⟩
  | .hbm, ⟨91, _⟩ => ⟨S16384x8x256, .f32⟩
  | .hbm, ⟨92, _⟩ => ⟨S16384x8x256, .f32⟩
  | .hbm, ⟨93, _⟩ => ⟨S16384x1x8, .f32⟩
  | .hbm, ⟨94, _⟩ => ⟨S16384x8, .f32⟩
  | .hbm, ⟨95, _⟩ => ⟨S16384x8x1, .f32⟩
  | .hbm, ⟨96, _⟩ => ⟨S16384x8x256, .f32⟩
  | .hbm, ⟨97, _⟩ => ⟨S16384x8x256, .f32⟩
  | .hbm, ⟨98, _⟩ => ⟨S1x8x256x1024, .f32⟩
  | .hbm, ⟨99, _⟩ => ⟨S8x256x1024, .f32⟩
  | .hbm, ⟨100, _⟩ => ⟨S16384x1024, .f32⟩
  | .hbm, ⟨101, _⟩ => ⟨S16384x1024, .f32⟩
  | .hbm, ⟨102, _⟩ => ⟨S1x8x1024x256, .f32⟩
  | .hbm, ⟨103, _⟩ => ⟨S8x1024x256, .f32⟩
  | .hbm, ⟨104, _⟩ => ⟨S16384x8x256, .f32⟩
  | .hbm, ⟨105, _⟩ => ⟨S1x8x1024x256, .f32⟩
  | .hbm, ⟨106, _⟩ => ⟨S8x1024x256, .f32⟩
  | .hbm, ⟨107, _⟩ => ⟨S16384x8x256, .f32⟩
  | .hbm, ⟨108, _⟩ => ⟨S16384x8x256, .f32⟩
  | .hbm, ⟨109, _⟩ => ⟨S16384x8x256, .f32⟩
  | .hbm, ⟨110, _⟩ => ⟨S_, .f32⟩
  | .hbm, ⟨111, _⟩ => ⟨S16384x8x256, .f32⟩
  | .hbm, ⟨112, _⟩ => ⟨S16384x8x256, .f32⟩
  | .hbm, ⟨113, _⟩ => ⟨S_, .f32⟩
  | .hbm, ⟨114, _⟩ => ⟨S16384x8x256, .f32⟩
  | .hbm, ⟨115, _⟩ => ⟨S16384x8x256, .f32⟩
  | .hbm, ⟨116, _⟩ => ⟨S16384x8x256, .f32⟩
  | .hbm, ⟨117, _⟩ => ⟨S16384x8x256, .f32⟩
  | .hbm, ⟨118, _⟩ => ⟨S16384x1x8, .f32⟩
  | .hbm, ⟨119, _⟩ => ⟨S16384x8, .f32⟩
  | .hbm, ⟨120, _⟩ => ⟨S16384x8x1, .f32⟩
  | .hbm, ⟨121, _⟩ => ⟨S16384x8x256, .f32⟩
  | .hbm, ⟨122, _⟩ => ⟨S16384x8x256, .f32⟩
  | .hbm, ⟨123, _⟩ => ⟨S1x8x256x1024, .f32⟩
  | .hbm, ⟨124, _⟩ => ⟨S8x256x1024, .f32⟩
  | .hbm, ⟨125, _⟩ => ⟨S16384x1024, .f32⟩
  | .hbm, ⟨126, _⟩ => ⟨S16384x1024, .f32⟩
  | .hbm, ⟨127, _⟩ => ⟨S16384x1024, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1024x128 : Shape := ⟨2, ![1024, 128]⟩
abbrev S1x128 : Shape := ⟨2, ![1, 128]⟩
abbrev S1x1024 : Shape := ⟨2, ![1, 1024]⟩
abbrev S4x256x512 : Shape := ⟨3, ![4, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩
abbrev S4x4096x1152 : Shape := ⟨3, ![4, 4096, 1152]⟩
abbrev S16x1x1024 : Shape := ⟨3, ![16, 1, 1024]⟩
abbrev S1x1024x1024 : Shape := ⟨3, ![1, 1024, 1024]⟩
abbrev S1x1024x512 : Shape := ⟨3, ![1, 1024, 512]⟩
abbrev S1x1024x1152 : Shape := ⟨3, ![1, 1024, 1152]⟩
abbrev S1x1x1024 : Shape := ⟨3, ![1, 1, 1024]⟩
abbrev S1024x1 : Shape := ⟨2, ![1024, 1]⟩
abbrev S1024x256 : Shape := ⟨2, ![1024, 256]⟩
abbrev S1x1024x128 : Shape := ⟨3, ![1, 1024, 128]⟩
abbrev S128x1024 : Shape := ⟨2, ![128, 1024]⟩

abbrev nBuf : Space → Nat
  | .hbm => 32
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S1024x1024, .f32⟩
  | .hbm, ⟨9, _⟩ => ⟨S128, .f32⟩
  | .hbm, ⟨10, _⟩ => ⟨S128, .f32⟩
  | .hbm, ⟨11, _⟩ => ⟨S512x1024, .f32⟩
  | .hbm, ⟨12, _⟩ => ⟨S1024, .f32⟩
  | .hbm, ⟨13, _⟩ => ⟨S1024x128, .f32⟩
  | .hbm, ⟨14, _⟩ => ⟨S1x128, .f32⟩
  | .hbm, ⟨15, _⟩ => ⟨S1x1024, .f32⟩
  | .hbm, ⟨16, _⟩ => ⟨S1024x1024, .bf16⟩
  | .hbm, ⟨17, _⟩ => ⟨S1x128, .f32⟩
  | .hbm, ⟨18, _⟩ => ⟨S4x256x512, .bf16⟩
  | .hbm, ⟨19, _⟩ => ⟨S4x256x512, .bf16⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1x1024, .f32⟩
  | .hbm, ⟨25, _⟩ => ⟨S1024x512, .bf16⟩
  | .hbm, ⟨26, _⟩ => ⟨S1x128, .f32⟩
  | .hbm, ⟨27, _⟩ => ⟨S512x1024, .bf16⟩
  | .hbm, ⟨28, _⟩ => ⟨S1x1024, .f32⟩
  | .hbm, ⟨29, _⟩ => ⟨S4x4096x1152, .f32⟩
  | .hbm, ⟨30, _⟩ => ⟨S16x1x1024, .f32⟩
  | .hbm, ⟨31, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1024x512, .bf16⟩
  | .local _ .vmem, ⟨19, _⟩ => ⟨S1x128, .f32⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S512x1024, .bf16⟩
  | .local _ .vmem, ⟨25, _⟩ => ⟨S1x1024, .f32⟩
  | .local _ .vmem, ⟨26, _⟩ => ⟨S1024x128, .f32⟩
  | .local _ .vmem, ⟨27, _⟩ => ⟨S1x128, .f32⟩
  | .local _ .vmem, ⟨28, _⟩ => ⟨S1x1024x1152, .f32⟩
  | .local _ .vmem, ⟨29, _⟩ => ⟨S1x1024x1152, .f32⟩
  | .local _ .vmem, ⟨30, _⟩ => ⟨S1x1x1024, .f32⟩
  | .local _ .vmem, ⟨31, _⟩ => ⟨S1x1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem14_1 : DmaSem sig := 29
abbrev cc1_sem15_0 : DmaSem sig := 30
abbrev cc1_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 1 → Memref sig .tc .vmem S512x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1024x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S1x1024x1152 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x1x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]
-- ==== Reference2Ideal.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1024x128 : Shape := ⟨2, ![1024, 128]⟩
abbrev S1x128 : Shape := ⟨2, ![1, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x256 : Shape := ⟨2, ![4, 256]⟩
abbrev S4x256x1 : Shape := ⟨3, ![4, 256, 1]⟩
abbrev S4x4096x4x128 : Shape := ⟨4, ![4, 4096, 4, 128]⟩
abbrev S4x256x2x4x128 : Shape := ⟨5, ![4, 256, 2, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x256x1x4x128 : Shape := ⟨5, ![4, 256, 1, 4, 128]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S1024x1024, .f32⟩
  | .hbm, ⟨9, _⟩ => ⟨S128, .f32⟩
  | .hbm, ⟨10, _⟩ => ⟨S128, .f32⟩
  | .hbm, ⟨11, _⟩ => ⟨S512x1024, .f32⟩
  | .hbm, ⟨12, _⟩ => ⟨S1024, .f32⟩
  | .hbm, ⟨13, _⟩ => ⟨S1024x128, .f32⟩
  | .hbm, ⟨14, _⟩ => ⟨S1x128, .f32⟩
  | .hbm, ⟨15, _⟩ => ⟨S4x4096x512, .f32⟩
  | .hbm, ⟨16, _⟩ => ⟨S4x4096x512, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S4x256x1024, .f32⟩
  | .hbm, ⟨37, _⟩ => ⟨S_, .f32⟩
  | .hbm, ⟨38, _⟩ => ⟨S4x256, .f32⟩
  | .hbm, ⟨39, _⟩ => ⟨S4x256x1, .f32⟩
  | .hbm, ⟨40, _⟩ => ⟨S_, .f32⟩
  | .hbm, ⟨41, _⟩ => ⟨S4x256x1, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S4x256x1, .f32⟩
  | .hbm, ⟨47, _⟩ => ⟨S4x256x1024, .f32⟩
  | .hbm, ⟨48, _⟩ => ⟨S4x256x1024, .f32⟩
  | .hbm, ⟨49, _⟩ => ⟨S1x1x1024, .f32⟩
  | .hbm, ⟨50, _⟩ => ⟨S4x256x1024, .f32⟩
  | .hbm, ⟨51, _⟩ => ⟨S4x256x1024, .f32⟩
  | .hbm, ⟨52, _⟩ => ⟨S4x4096x512, .f32⟩
  | .hbm, ⟨53, _⟩ => ⟨S4x4096x4x128, .f32⟩
  | .hbm, ⟨54, _⟩ => ⟨S4x256x1024, .f32⟩
  | .hbm, ⟨55, _⟩ => ⟨S4x256x2x4x128, .f32⟩
  | .hbm, ⟨56, _⟩ => ⟨S4x4096x4x128, .f32⟩
  | .hbm, ⟨57, _⟩ => ⟨S_, .f32⟩
  | .hbm, ⟨58, _⟩ => ⟨S4x4096x4, .f32⟩
  | .hbm, ⟨59, _⟩ => ⟨S4x4096x4x1, .f32⟩
  | .hbm, ⟨60, _⟩ => ⟨S_, .f32⟩
  | .hbm, ⟨61, _⟩ => ⟨S4x4096x4x1, .f32⟩
  | .hbm, ⟨62, _⟩ => ⟨S4x4096x4x1, .f32⟩
  | .hbm, ⟨63, _⟩ => ⟨S_, .f32⟩
  | .hbm, ⟨64, _⟩ => ⟨S4x4096x4x1, .f32⟩
  | .hbm, ⟨65, _⟩ => ⟨S4x4096x4x1, .f32⟩
  | .hbm, ⟨66, _⟩ => ⟨S4x4096x4x1, .f32⟩
  | .hbm, ⟨67, _⟩ => ⟨S4x4096x4x128, .f32⟩
  | .hbm, ⟨68, _⟩ => ⟨S4x4096x4x128, .f32⟩
  | .hbm, ⟨69, _⟩ => ⟨S1x1x1x128, .f32⟩
  | .hbm, ⟨70, _⟩ => ⟨S4x4096x4x128, .f32⟩
  | .hbm, ⟨71, _⟩ => ⟨S4x4096x4x128, .f32⟩
  | .hbm, ⟨72, _⟩ => ⟨S4x256x1x4x128, .f32⟩
  | .hbm, ⟨73, _⟩ => ⟨S4x256x4x128, .f32⟩
  | .hbm, ⟨74, _⟩ => ⟨S4x256x4x128, .f32⟩
  | .hbm, ⟨75, _⟩ => ⟨S_, .f32⟩
  | .hbm, ⟨76, _⟩ => ⟨S4x256x4, .f32⟩
  | .hbm, ⟨77, _⟩ => ⟨S4x256x4x1, .f32⟩
  | .hbm, ⟨78, _⟩ => ⟨S_, .f32⟩
  | .hbm, ⟨79, _⟩ => ⟨S4x256x4x1, .f32⟩
  | .hbm, ⟨80, _⟩ => ⟨S4x256x4x1, .f32⟩
  | .hbm, ⟨81, _⟩ => ⟨S_, .f32⟩
  | .hbm, ⟨82, _⟩ => ⟨S4x256x4x1, .f32⟩
  | .hbm, ⟨83, _⟩ => ⟨S4x256x4x1, .f32⟩
  | .hbm, ⟨84, _⟩ => ⟨S4x256x4x1, .f32⟩
  | .hbm, ⟨85, _⟩ => ⟨S4x256x4x128, .f32⟩
  | .hbm, ⟨86, _⟩ => ⟨S4x256x4x128, .f32⟩
  | .hbm, ⟨87, _⟩ => ⟨S1x1x1x128, .f32⟩
  | .hbm, ⟨88, _⟩ => ⟨S4x256x4x128, .f32⟩
  | .hbm, ⟨89, _⟩ => ⟨S4x256x4x128, .f32⟩
  | .hbm, ⟨90, _⟩ => ⟨S4x256x1x4x128, .f32⟩
  | .hbm, ⟨91, _⟩ => ⟨S4x256x4x128, .f32⟩
  | .hbm, ⟨92, _⟩ => ⟨S4x4x4096x256, .f32⟩
  | .hbm, ⟨93, _⟩ => ⟨S_, .f32⟩
  | .hbm, ⟨94, _⟩ => ⟨S4x4x4096x256, .f32⟩
  | .hbm, ⟨95, _⟩ => ⟨S4x4x4096x256, .f32⟩
  | .hbm, ⟨96, _⟩ => ⟨S_, .f32⟩
  | .hbm, ⟨97, _⟩ => ⟨S4x4x4096, .f32⟩
  | .hbm, ⟨98, _⟩ => ⟨S_, .f32⟩
  | .hbm, ⟨99, _⟩ => ⟨S4x4x4096, .f32⟩
  | .hbm, ⟨100, _⟩ => ⟨S4x4x4096, .f32⟩
  | .hbm, ⟨101, _⟩ => ⟨S4x4x4096x1, .f32⟩
  | .hbm, ⟨102, _⟩ => ⟨S4x4x4096x256, .f32⟩
  | .hbm, ⟨103, _⟩ => ⟨S4x4x4096x256, .f32⟩
  | .hbm, ⟨104, _⟩ => ⟨S4x4x4096x256, .f32⟩
  | .hbm, ⟨105, _⟩ => ⟨S_, .f32⟩
  | .hbm, ⟨106, _⟩ => ⟨S4x4x4096, .f32⟩
  | .hbm, ⟨107, _⟩ => ⟨S4x4x4096x1, .f32⟩
  | .hbm, ⟨108, _⟩ => ⟨S4x4x4096x256, .f32⟩
  | .hbm, ⟨109, _⟩ => ⟨S4x4x4096x256, .f32⟩
  | .hbm, ⟨110, _⟩ => ⟨S4x4x128x4096, .f32⟩
  | .hbm, ⟨111, _⟩ => ⟨S4x4096x4x128, .f32⟩
  | .hbm, ⟨112, _⟩ => ⟨S4x4096x512, .f32⟩
  | .hbm, ⟨113, _⟩ => ⟨S4x4096x1024, .f32⟩
  | .hbm, ⟨114, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x2632 : Shape := ⟨2, ![1024, 2632]⟩
abbrev S4x128x128 : Shape := ⟨3, ![4, 128, 128]⟩
abbrev S512 : Shape := ⟨1, ![512]⟩
abbrev S64 : Shape := ⟨1, ![64]⟩
abbrev S4096x64 : Shape := ⟨2, ![4096, 64]⟩
abbrev S1024x512 : Shape := ⟨2, ![1024, 512]⟩
abbrev S1024x2048 : Shape := ⟨2, ![1024, 2048]⟩
abbrev S2048x1024 : Shape := ⟨2, ![2048, 1024]⟩
abbrev S1024x64 : Shape := ⟨2, ![1024, 64]⟩
abbrev S64x1024 : Shape := ⟨2, ![64, 1024]⟩
abbrev S_ : Shape := ⟨0, ![]⟩
abbrev S1024x8 : Shape := ⟨2, ![1024, 8]⟩
abbrev S8x1024 : Shape := ⟨2, ![8, 1024]⟩
abbrev S2192x1024 : Shape := ⟨2, ![2192, 1024]⟩
abbrev S32 : Shape := ⟨1, ![32]⟩
abbrev S1x1024 : Shape := ⟨2, ![1, 1024]⟩
abbrev S1x512 : Shape := ⟨2, ![1, 512]⟩
abbrev S64x1 : Shape := ⟨2, ![64, 1]⟩
abbrev S64x4096 : Shape := ⟨2, ![64, 4096]⟩
abbrev S1x64 : Shape := ⟨2, ![1, 64]⟩
abbrev S4x4096x512 : Shape := ⟨3, ![4, 4096, 512]⟩
abbrev S4x512x4096 : Shape := ⟨3, ![4, 512, 4096]⟩
abbrev S4x8x512x512 : Shape := ⟨4, ![4, 8, 512, 512]⟩
abbrev S4x4096x128 : Shape := ⟨3, ![4, 4096, 128]⟩
abbrev S4x8x4096 : Shape := ⟨3, ![4, 8, 4096]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1x2x512x512 : Shape := ⟨4, ![1, 2, 512, 512]⟩
abbrev S1x1024x128 : Shape := ⟨3, ![1, 1024, 128]⟩
abbrev S1x8x1024 : Shape := ⟨3, ![1, 8, 1024]⟩
abbrev S16x512 : Shape := ⟨2, ![16, 512]⟩
abbrev S1040x512 : Shape := ⟨2, ![1040, 512]⟩
abbrev S512x1024 : Shape := ⟨2, ![512, 1024]⟩
abbrev S1024x1024 : Shape := ⟨2, ![1024, 1024]⟩
abbrev S1024x1 : Shape := ⟨2, ![1024, 1]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S32x1024 : Shape := ⟨2, ![32, 1024]⟩
abbrev S1x64x1024 : Shape := ⟨3, ![1, 64, 1024]⟩
abbrev S512x512 : Shape := ⟨2, ![512, 512]⟩
abbrev S1x1x512x512 : Shape := ⟨4, ![1, 1, 512, 512]⟩
abbrev S144x1024 : Shape := ⟨2, ![144, 1024]⟩
abbrev S128x1024 : Shape := ⟨2, ![128, 1024]⟩
abbrev S4x4096x64 : Shape := ⟨3, ![4, 4096, 64]⟩

abbrev nBuf : Space → Nat
  | .hbm => 59
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2632, .f32⟩
  | .hbm, ⟨3, _⟩ => ⟨S4x128x128, .f32⟩
  | .hbm, ⟨4, _⟩ => ⟨S512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096x64, .f32⟩
  | .hbm, ⟨9, _⟩ => ⟨S4096x64, .f32⟩
  | .hbm, ⟨10, _⟩ => ⟨S1024x512, .f32⟩
  | .hbm, ⟨11, _⟩ => ⟨S1024x512, .bf16⟩
  | .hbm, ⟨12, _⟩ => ⟨S1024x2048, .f32⟩
  | .hbm, ⟨13, _⟩ => ⟨S2048x1024, .f32⟩
  | .hbm, ⟨14, _⟩ => ⟨S1024x64, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S1024x8, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S2192x1024, .f32⟩
  | .hbm, ⟨23, _⟩ => ⟨S2192x1024, .bf16⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S64, .f32⟩
  | .hbm, ⟨30, _⟩ => ⟨S1x1024, .f32⟩
  | .hbm, ⟨31, _⟩ => ⟨S4x128x128, .bf16⟩
  | .hbm, ⟨32, _⟩ => ⟨S1x512, .f32⟩
  | .hbm, ⟨33, _⟩ => ⟨S64x1, .f32⟩
  | .hbm, ⟨34, _⟩ => ⟨S64x1024, .f32⟩
  | .hbm, ⟨35, _⟩ => ⟨S64x1, .f32⟩
  | .hbm, ⟨36, _⟩ => ⟨S64x1024, .f32⟩
  | .hbm, ⟨37, _⟩ => ⟨S64x1, .f32⟩
  | .hbm, ⟨38, _⟩ => ⟨S64x1024, .f32⟩
  | .hbm, ⟨39, _⟩ => ⟨S64x4096, .f32⟩
  | .hbm, ⟨40, _⟩ => ⟨S1x64, .f32⟩
  | .hbm, ⟨41, _⟩ => ⟨S4096x64, .f32⟩
  | .hbm, ⟨42, _⟩ => ⟨S4096x64, .f32⟩
  | .hbm, ⟨43, _⟩ => ⟨S64x4096, .f32⟩
  | .hbm, ⟨44, _⟩ => ⟨S4x4096x512, .bf16⟩
  | .hbm, ⟨45, _⟩ => ⟨S4x512x4096, .bf16⟩
  | .hbm, ⟨46, _⟩ => ⟨S4x4096x512, .bf16⟩
  | .hbm, ⟨47, _⟩ => ⟨S4x8x512x512, .bf16⟩
  | .hbm, ⟨48, _⟩ => ⟨S4x512x4096, .bf16⟩
  | .hbm, ⟨49, _⟩ => ⟨S4x4096x128, .bf16⟩
  | .hbm, ⟨50, _⟩ => ⟨S4x8x4096, .f32⟩
  | .hbm, ⟨51, _⟩ => ⟨S4x4096x512, .f32⟩
  | .hbm, ⟨52, _⟩ => ⟨S4x8x512x512, .bf16⟩
  | .hbm, ⟨53, _⟩ => ⟨S4x4096x512, .bf16⟩
  | .hbm, ⟨54, _⟩ => ⟨S4x4096x512, .f32⟩
  | .hbm, ⟨55, _⟩ => ⟨S4x4096x512, .bf16⟩
  | .hbm, ⟨56, _⟩ => ⟨S4x4096x512, .f32⟩
  | .hbm, ⟨57, _⟩ => ⟨S4x4096x64, .bf16⟩
  | .hbm, ⟨58, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x512, .bf16⟩
  | .local _ .vmem, ⟨4, _⟩ => ⟨S2192x1024, .bf16⟩
  | .local _ .vmem, ⟨5, _⟩ => ⟨S4x128x128, .bf16⟩
  | .local _ .vmem, ⟨6, _⟩ => ⟨S1x512, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S1x1024x512, .bf16⟩
  | .local _ .vmem, ⟨15, _⟩ => ⟨S1x1024x512, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x2x512x512, .bf16⟩
  | .local _ .vmem, ⟨21, _⟩ => ⟨S1x2x512x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x1024x128, .bf16⟩
  | .local _ .vmem, ⟨25, _⟩ => ⟨S1x1024x128, .bf16⟩
  | .local _ .vmem, ⟨26, _⟩ => ⟨S1x8x1024, .f32⟩
  | .local _ .vmem, ⟨27, _⟩ => ⟨S1x8x1024, .f32⟩
  | .local _ .vmem, ⟨28, _⟩ => ⟨S16x512, .f32⟩
  | .local _ .vmem, ⟨29, _⟩ => ⟨S1040x512, .f32⟩
  | .local _ .vmem, ⟨30, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev main_v30_5 : Ref sig .tc := ⟨.hbm, 49, rfl⟩
abbrev main_v30_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x4096x1024 : Shape := ⟨3, ![4, 4096, 1024]⟩
abbrev S1024 : Shape := ⟨1, ![1024]⟩
abbrev S1024x2632 : Shape := ⟨2, ![1024, 2632]⟩
abbrev S4x128x128 : Shape := ⟨3, ![4, 128, 128]⟩
abbrev S512 : Shape := ⟨1, ![512]⟩
abbrev S64 : Shape := ⟨1, ![64]⟩
abbrev S4096x64 : Shape := ⟨2, ![4096, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2632 : Shape := ⟨3, ![4, 4096, 2632]⟩
abbrev S4x4096x512 : Shape := ⟨3, ![4, 4096, 512]⟩
abbrev S4x4096x8x64 : Shape := ⟨4, ![4, 4096, 8, 64]⟩
abbrev S4x4096x64 : Shape := ⟨3, ![4, 4096, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x8x32 : Shape := ⟨4, ![4, 4096, 8, 32]⟩
abbrev S1x4096x1x64 : Shape := ⟨4, ![1, 4096, 1, 64]⟩
abbrev S1x1x64 : Shape := ⟨3, ![1, 1, 64]⟩
abbrev S4x4096x1x64 : Shape := ⟨4, ![4, 4096, 1, 64]⟩
abbrev S4x4096x1x32 : Shape := ⟨4, ![4, 4096, 1, 32]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2632, .f32⟩
  | .hbm, ⟨3, _⟩ => ⟨S4x128x128, .f32⟩
  | .hbm, ⟨4, _⟩ => ⟨S512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096x64, .f32⟩
  | .hbm, ⟨9, _⟩ => ⟨S4096x64, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x2632, .f32⟩
  | .hbm, ⟨27, _⟩ => ⟨S4x4096x512, .f32⟩
  | .hbm, ⟨28, _⟩ => ⟨S4x4096x8x64, .f32⟩
  | .hbm, ⟨29, _⟩ => ⟨S4x4096x512, .f32⟩
  | .hbm, ⟨30, _⟩ => ⟨S4x4096x512, .f32⟩
  | .hbm, ⟨31, _⟩ => ⟨S4x4096x8x64, .f32⟩
  | .hbm, ⟨32, _⟩ => ⟨S4x4096x64, .f32⟩
  | .hbm, ⟨33, _⟩ => ⟨S4x4096x8x64, .f32⟩
  | .hbm, ⟨34, _⟩ => ⟨S_, .f32⟩
  | .hbm, ⟨35, _⟩ => ⟨S4x4096x8, .f32⟩
  | .hbm, ⟨36, _⟩ => ⟨S4x4096x8x1, .f32⟩
  | .hbm, ⟨37, _⟩ => ⟨S_, .f32⟩
  | .hbm, ⟨38, _⟩ => ⟨S4x4096x8x1, .f32⟩
  | .hbm, ⟨39, _⟩ => ⟨S4x4096x8x1, .f32⟩
  | .hbm, ⟨40, _⟩ => ⟨S_, .f32⟩
  | .hbm, ⟨41, _⟩ => ⟨S4x4096x8x1, .f32⟩
  | .hbm, ⟨42, _⟩ => ⟨S4x4096x8x1, .f32⟩
  | .hbm, ⟨43, _⟩ => ⟨S4x4096x8x1, .f32⟩
  | .hbm, ⟨44, _⟩ => ⟨S4x4096x8x64, .f32⟩
  | .hbm, ⟨45, _⟩ => ⟨S4x4096x8x64, .f32⟩
  | .hbm, ⟨46, _⟩ => ⟨S1x1x1x64, .f32⟩
  | .hbm, ⟨47, _⟩ => ⟨S4x4096x8x64, .f32⟩
  | .hbm, ⟨48, _⟩ => ⟨S4x4096x8x64, .f32⟩
  | .hbm, ⟨49, _⟩ => ⟨S4x4096x8x32, .f32⟩
  | .hbm, ⟨50, _⟩ => ⟨S4x4096x8x32, .f32⟩
  | .hbm, ⟨51, _⟩ => ⟨S4x4096x8x32, .f32⟩
  | .hbm, ⟨52, _⟩ => ⟨S4x4096x8x64, .f32⟩
  | .hbm, ⟨53, _⟩ => ⟨S1x4096x1x64, .f32⟩
  | .hbm, ⟨54, _⟩ => ⟨S4x4096x8x64, .f32⟩
  | .hbm, ⟨55, _⟩ => ⟨S4x4096x8x64, .f32⟩
  | .hbm, ⟨56, _⟩ => ⟨S1x4096x1x64, .f32⟩
  | .hbm, ⟨57, _⟩ => ⟨S4x4096x8x64, .f32⟩
  | .hbm, ⟨58, _⟩ => ⟨S4x4096x8x64, .f32⟩
  | .hbm, ⟨59, _⟩ => ⟨S4x4096x8x64, .f32⟩
  | .hbm, ⟨60, _⟩ => ⟨S4x4096x8x32, .f32⟩
  | .hbm, ⟨61, _⟩ => ⟨S4x4096x8x32, .f32⟩
  | .hbm, ⟨62, _⟩ => ⟨S4x4096x8x32, .f32⟩
  | .hbm, ⟨63, _⟩ => ⟨S4x4096x8x64, .f32⟩
  | .hbm, ⟨64, _⟩ => ⟨S1x4096x1x64, .f32⟩
  | .hbm, ⟨65, _⟩ => ⟨S4x4096x8x64, .f32⟩
  | .hbm, ⟨66, _⟩ => ⟨S4x4096x8x64, .f32⟩
  | .hbm, ⟨67, _⟩ => ⟨S1x4096x1x64, .f32⟩
  | .hbm, ⟨68, _⟩ => ⟨S4x4096x8x64, .f32⟩
  | .hbm, ⟨69, _⟩ => ⟨S4x4096x8x64, .f32⟩
  | .hbm, ⟨70, _⟩ => ⟨S4x4096x8x64, .f32⟩
  | .hbm, ⟨71, _⟩ => ⟨S4x4096x64, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x64, .f32⟩
  | .hbm, ⟨83, _⟩ => ⟨S4x4096x64, .f32⟩
  | .hbm, ⟨84, _⟩ => ⟨S1x1x64, .f32⟩
  | .hbm, ⟨85, _⟩ => ⟨S4x4096x64, .f32⟩
  | .hbm, ⟨86, _⟩ => ⟨S4x4096x64, .f32⟩
  | .hbm, ⟨87, _⟩ => ⟨S4x4096x1x64, .f32⟩
  | .hbm, ⟨88, _⟩ => ⟨S4x4096x1x32, .f32⟩
  | .hbm, ⟨89, _⟩ => ⟨S4x4096x1x32, .f32⟩
  | .hbm, ⟨90, _⟩ => ⟨S4x4096x1x32, .f32⟩
  | .hbm, ⟨91, _⟩ => ⟨S4x4096x1x64, .f32⟩
  | .hbm, ⟨92, _⟩ => ⟨S1x4096x1x64, .f32⟩
  | .hbm, ⟨93, _⟩ => ⟨S4x4096x1x64, .f32⟩
  | .hbm, ⟨94, _⟩ => ⟨S4x4096x1x64, .f32⟩
  | .hbm, ⟨95, _⟩ => ⟨S1x4096x1x64, .f32⟩
  | .hbm, ⟨96, _⟩ => ⟨S4x4096x1x64, .f32⟩
  | .hbm, ⟨97, _⟩ => ⟨S4x4096x1x64, .f32⟩
  | .hbm, ⟨98, _⟩ => ⟨S4x4096x1x64, .f32⟩
  | .hbm, ⟨99, _⟩ => ⟨S4x4096x512, .f32⟩
  | .hbm, ⟨100, _⟩ => ⟨S4x4096x512, .f32⟩
  | .hbm, ⟨101, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Proof.Rows.lean ====
/-
  Rows of a rank-three array `A × 8 × W` counted in one sequence (row `p` is the lanes at leading indices `p / 8`, `p % 8`),
  and one step of a batch of row transfers: transfer `t` moves row `rs t` of a source array to row `rd t` of a destination
  array, every transfer signalling one DMA semaphore.
-/
module

public import Idealize.ShloMosaic.Lib.Batch
public import Idealize.ShloMosaic.Lib.ViewIndex
public import Idealize.ShloMosaic.Lib.Tactic

@[expose] public section

noncomputable section

namespace Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The shape of an array of rows: `A` groups of eight rows of `W` lanes. -/
abbrev S3 (A W : ℕ) : Shape := ⟨3, ![A, 8, W]⟩

variable {A As W : ℕ}

/-- The index of row `p`'s lane `l`, where there is one. -/
def at3 (p : ℕ) (hp : p < 8 * A) (l : Fin W) : (S3 A W).Idx := fun
  | 0 => (⟨p / 8, by omega⟩ : Fin A)
  | 1 => (⟨p % 8, by omega⟩ : Fin 8)
  | 2 => l

/-- The number of the row an index lies in, -/
def rowOf (y : (S3 A W).Idx) : ℕ := 8 * (y 0).val + (y 1).val
/-- and its lane. -/
def laneOf (y : (S3 A W).Idx) : Fin W := y 2

theorem y1_lt (y : (S3 A W).Idx) : (y 1).val < 8 := (y 1).isLt
theorem y0_lt (y : (S3 A W).Idx) : (y 0).val < A := (y 0).isLt

theorem rowOf_lt (y : (S3 A W).Idx) : rowOf y < 8 * A := by
  have := y1_lt y; have := y0_lt y; unfold rowOf; omega

theorem at3_rowOf (y : (S3 A W).Idx) : at3 (rowOf y) (rowOf_lt y) (laneOf y) = y := by
  have h := y1_lt y
  refine Shape.idx3_ext ?_ ?_ rfl
  · show rowOf y / 8 = _; unfold rowOf; omega
  · show rowOf y % 8 = _; unfold rowOf; omega

theorem rowOf_at3 (p : ℕ) (hp : p < 8 * A) (l : Fin W) : rowOf (at3 p hp l) = p := by
  show 8 * (p / 8) + p % 8 = p; omega

/-- Row `p`'s indices. -/
def rowSet (A W p : ℕ) : Finset (S3 A W).Idx := Finset.univ.filter fun y => rowOf y = p

theorem mem_rowSet {p : ℕ} {y : (S3 A W).Idx} : y ∈ rowSet A W p ↔ rowOf y = p := by simp [rowSet]

theorem rowSet_disjoint {p p' : ℕ} (h : p ≠ p') : Disjoint (rowSet A W p) (rowSet A W p') := by
  rw [Finset.disjoint_left]; intro y hy hy'; rw [mem_rowSet] at hy hy'; exact h (hy.symm.trans hy')

/-- The rectangle of one row is the row. -/
theorem rect_set {off : Fin 3 → ℕ} (inb : ∀ a, off a + (![1, 1, W] : Fin 3 → ℕ) a ≤ (S3 A W).size a) :
    (Rect.unit (s := S3 A W) off ![1, 1, W] inb).set = rowSet A W (8 * off 0 + off 1) := by
  ext y
  rw [Rect.mem_set_unit, mem_rowSet]
  have h1 : off 1 + 1 ≤ 8 := inb 1
  have h2 : off 2 + W ≤ W := inb 2
  have hy1 := y1_lt y
  have hy2 : (y 2).val < W := (y 2).isLt
  unfold rowOf
  constructor
  · intro H
    have a0 : off 0 ≤ (y 0).val ∧ (y 0).val < off 0 + 1 := H 0
    have a1 : off 1 ≤ (y 1).val ∧ (y 1).val < off 1 + 1 := H 1
    omega
  · intro H a
    match a with
    | 0 => show off 0 ≤ (y 0).val ∧ (y 0).val < off 0 + 1; omega
    | 1 => show off 1 ≤ (y 1).val ∧ (y 1).val < off 1 + 1; omega
    | 2 => show off 2 ≤ (y 2).val ∧ (y 2).val < off 2 + W; omega

variable {sig : RefSig} {κ : Kind} {sp sp' : Space} {e : EltTy} {Val : EltTy → Type}

/-- Row `p`'s elements under a view. -/
def vrow (v : View sig κ sp (S3 A W) e) (p : ℕ) : Finset v.ty.Idx := (rowSet A W p).map v.emb

theorem vrow_disjoint (v : View sig κ sp (S3 A W) e) {p p' : ℕ} (h : p ≠ p') : Disjoint (vrow v p) (vrow v p') :=
  (Finset.disjoint_map v.emb).mpr (rowSet_disjoint h)

theorem vrow_subset (v : View sig κ sp (S3 A W) e) (p : ℕ) : vrow v p ⊆ v.set :=
  Finset.map_subset_map.mpr (Finset.subset_univ _)

/-- A row's memref: the slice of one row, squeezed to two axes. -/
abbrev rowRef (m : Memref sig κ sp (S3 A W) e) (off : Fin 3 → ℕ) (inb : ∀ a, off a + (![1, 1, W] : Fin 3 → ℕ) a ≤ (S3 A W).size a)
    (hs : (⟨3, ![1, 1, W]⟩ : Shape).Squeezes ⟨2, ![1, W]⟩) : Memref sig κ sp ⟨2, ![1, W]⟩ e :=
  (m.slice (Rect.unit (s := S3 A W) off ![1, 1, W] inb) (fun _ => rfl)).squeeze ⟨2, ![1, W]⟩ hs

theorem rowRef_set (m : Memref sig κ sp (S3 A W) e) (off : Fin 3 → ℕ) (inb) (hs) :
    (rowRef m off inb hs).view.set = vrow m.view (8 * off 0 + off 1) := by
  refine (View.set_reshape _ _).trans ?_
  rw [View.set_slice, rect_set]; rfl

/-- An element of a row of the destination after the row of a source is written over it: the source's, at the same lane. -/
theorem row_written (md : Memref sig κ sp (S3 A W) e) (ms : Memref sig κ sp' (S3 As W) e) (offd offs : Fin 3 → ℕ)
    (inbd inbs) (hs hs') (hps : 8 * offs 0 + offs 1 < 8 * As) (fd : md.view.ty.Contents Val) (fs : ms.view.ty.Contents Val)
    (y : (S3 A W).Idx) (hy : rowOf y = 8 * offd 0 + offd 1) :
    md.view.read Val ((rowRef md offd inbd hs).view.write Val fd ((rowRef ms offs inbs hs').view.read Val fs) Finset.univ) y
      = ms.view.read Val fs (at3 (8 * offs 0 + offs 1) hps (laneOf y)) := by
  have hmem : y ∈ (Rect.unit (s := S3 A W) offd ![1, 1, W] inbd).set := by rw [rect_set, mem_rowSet]; exact hy
  obtain ⟨z, hz⟩ := (Rect.unit (s := S3 A W) offd ![1, 1, W] inbd).toLoadRect.exists_idx_of_mem hmem
  obtain ⟨x, rfl⟩ := (Shape.reshapeEquiv hs.numel_eq).surjective z
  have h1 := View.read_write_of_mem (v := (rowRef md offd inbd hs).view) (Val := Val) fd ((rowRef ms offs inbs hs').view.read Val fs) (Finset.mem_univ x)
  have h2 : (rowRef md offd inbd hs).view.read Val ((rowRef md offd inbd hs).view.write Val fd ((rowRef ms offs inbs hs').view.read Val fs) Finset.univ) x
      = md.view.read Val ((rowRef md offd inbd hs).view.write Val fd ((rowRef ms offs inbs hs').view.read Val fs) Finset.univ)
          ((Rect.unit (s := S3 A W) offd ![1, 1, W] inbd).emb (Shape.reshapeEquiv hs.numel_eq x)) := rfl
  rw [show (Rect.unit (s := S3 A W) offd ![1, 1, W] inbd).emb (Shape.reshapeEquiv hs.numel_eq x) = y from hz] at h2
  rw [← h2, h1]
  show ms.view.read Val fs ((Rect.unit (s := S3 As W) offs ![1, 1, W] inbs).emb (Shape.reshapeEquiv hs'.numel_eq x)) = _
  congr 1
  generalize hzz : Shape.reshapeEquiv hs.numel_eq x = z at hz
  have z0 : (z 0).val < 1 := (z 0).isLt
  have z1 : (z 1).val < 1 := (z 1).isLt
  have i1 : offs 1 + 1 ≤ 8 := inbs 1
  have i2 : offs 2 + W ≤ W := inbs 2
  have i3 : offd 2 + W ≤ W := inbd 2
  subst hz
  refine Shape.idx3_ext ?_ ?_ ?_
  · show offs 0 + 1 * (z 0).val = (8 * offs 0 + offs 1) / 8; omega
  · show offs 1 + 1 * (z 1).val = (8 * offs 0 + offs 1) % 8; omega
  · show offs 2 + 1 * (z 2).val = offd 2 + 1 * (z 2).val; omega

/-! ## Rows of a buffer held one by one -/

section Held

variable {nD : ℕ} {τ : Topo} {Ix : Type} [DecidableEq Ix] {Name : Type} [DecidableEq Name] {U : Type} [URA U] {Lvl : Type}

local notation "𝕄" => MT nD τ sig Ix Val Name U Lvl

variable (c : Thread nD τ) {n : ℕ}

/-- The elements of distinct rows `r t` under a view, held row by row, beside the rest of the view's. -/
theorem rows_split {sp : Space} (v : View sig c.2.kind sp (S3 A W) e) (r : Fin n → ℕ) (hr : Function.Injective r) (q : PosShare TreeShare)
    (f : Buf Val (v.loc c)) :
    (v.loc c ↦[v.set]{q} f : sProp 𝕄)
      ⊣⊢ iprop(bigSep Finset.univ (fun t => v.loc c ↦[vrow v (r t)]{q} f) ∗ (v.loc c ↦[v.set \ Finset.univ.biUnion fun t => vrow v (r t)]{q} f)) := by
  have hsub : (Finset.univ.biUnion fun t => vrow v (r t)) ⊆ v.set := Finset.biUnion_subset.mpr fun t _ => vrow_subset v _
  rw [← pointsTo_biUnion (ℓ := v.loc c) Finset.univ (fun t => vrow v (r t)) (fun t _ t' _ h => vrow_disjoint v (fun h' => h (hr h')))]
  exact pointsTo_split_subset hsub

/-- Two contents that read the same off the rows named. -/
theorem rest_congr {sp : Space} (v : View sig c.2.kind sp (S3 A W) e) (r : Fin n → ℕ) (q : PosShare TreeShare)
    (f g : Buf Val (v.loc c)) (h : ∀ y : (S3 A W).Idx, (∀ t, rowOf y ≠ r t) → v.read Val f y = v.read Val g y) :
    (v.loc c ↦[v.set \ Finset.univ.biUnion fun t => vrow v (r t)]{q} f : sProp 𝕄)
      = (v.loc c ↦[v.set \ Finset.univ.biUnion fun t => vrow v (r t)]{q} g) := by
  refine pointsTo_congr fun x hx => ?_
  obtain ⟨hx1, hx2⟩ := Finset.mem_sdiff.mp hx
  obtain ⟨y, -, rfl⟩ := Finset.mem_map.mp hx1
  refine View.eq_of_read_eq (h y fun t ht => hx2 ?_)
  exact Finset.mem_biUnion.mpr ⟨t, Finset.mem_univ t, Finset.mem_map.mpr ⟨y, (mem_rowSet ..).mpr ht, rfl⟩⟩

/-- Every row of the array, when the `n` rows named are all there are. -/
theorem rows_all {sp : Space} (v : View sig c.2.kind sp (S3 A W) e) (q : PosShare TreeShare) (f : Buf Val (v.loc c)) (hn : n = 8 * A) :
    (v.loc c ↦[v.set]{q} f : sProp 𝕄) = bigSep Finset.univ (fun t : Fin n => v.loc c ↦[vrow v t.val]{q} f) := by
  rw [← pointsTo_biUnion (ℓ := v.loc c) Finset.univ (fun t : Fin n => vrow v t.val) (fun t _ t' _ h => vrow_disjoint v (fun h' => h (Fin.ext h')))]
  congr 1
  ext i
  simp only [View.set, vrow, Finset.mem_map, Finset.mem_biUnion, Finset.mem_univ, true_and]
  constructor
  · rintro ⟨y, rfl⟩; exact ⟨⟨rowOf y, hn ▸ rowOf_lt y⟩, y, mem_rowSet.mpr rfl, rfl⟩
  · rintro ⟨t, y, -, rfl⟩; exact ⟨y, rfl⟩

end Held

/-! ## A batch of row transfers -/

section Moves

variable {nD : ℕ} {τ : Topo} {Ix : Type} [DecidableEq Ix] {Name : Type} [DecidableEq Name] {U : Type} [URA U] {Lvl : Type} [Preorder Lvl]

local notation "𝕄" => MT nD τ sig Ix Val Name U Lvl

variable (EC : UEmb Counters (MT nD τ sig Ix Val Name U Lvl))
variable {Λ : Labels} {defs : Defs nD τ sig Val Λ} (𝒱 : Variants) (c : Thread nD τ) (bd : Option 𝒱.V)
variable {α : Type} {Q : α → sProp (MT nD τ sig Ix Val Name U Lvl)} {spd sps : Space} {n : ℕ}

/-- What transfer `t` needs: its destination's row and its source's, each at one contents of its whole array. -/
abbrev move (md : Memref sig c.2.kind spd (S3 A W) e) (ms : Memref sig c.2.kind sps (S3 As W) e) (rd rs : Fin n → ℕ)
    (fd : Buf Val (md.view.loc c)) (fs : Buf Val (ms.view.loc c)) (t : Fin n) : sProp 𝕄 :=
  iprop((md.view.loc c ↦[vrow md.view (rd t)]{fullShare} fd) ∗ (ms.view.loc c ↦[vrow ms.view (rs t)]{fullShare} fs))

/-- The next transfer of the batch issued: its two rows given up, to come back with the destination's row at the contents
    `G`, which holds at every destination row what the source's row holds. -/
theorem issue_row [Infinite Name] [EC.LandsIn (upEmb : UEmb _ 𝕄)]
    (md : Memref sig c.2.kind spd (S3 A W) e) (ms : Memref sig c.2.kind sps (S3 As W) e) (rd rs : Fin n → ℕ)
    (fd G : Buf Val (md.view.loc c)) (fs : Buf Val (ms.view.loc c)) (hrs : ∀ t, rs t < 8 * As)
    (hG : ∀ (t : Fin n) (y : (S3 A W).Idx), rowOf y = rd t → md.view.read Val G y = ms.view.read Val fs (at3 (rs t) (hrs t) (laneOf y)))
    (ι : Ix) (N : ℕ) {sem : DmaSem sig} {offd offs : Fin 3 → ℕ} {inbd inbs} {hsd hss}
    (hN : (rowRef md offd inbd hsd).view.dmaCredit = N)
    {hsrc : (rowRef ms offs inbs hss).view.WordExact} {hdst : (rowRef md offd inbd hsd).view.WordExact}
    {hsem : DmaTarget.Typed (nD := nD) sps (.dma sem) (.here (rowRef md offd inbd hsd))}
    {k : PUnit → Prog (TpuEff nD τ sig Val Λ c.2) α} {j u : ℕ} (hj : j < n) (hu : u ≤ j * N)
    (hd : 8 * offd 0 + offd 1 = rd ⟨j, hj⟩) (hs : 8 * offs 0 + offs 1 = rs ⟨j, hj⟩) :
    iprop(bigSep (Transfers.pending j) (move c md ms rd rs fd fs) ∗ Transfers.Batch EC c (.dma sem) ι N (move c md ms rd rs G fs) j u)
      ⊢ iprop((iprop(bigSep (Transfers.pending (j + 1)) (move c md ms rd rs fd fs) ∗ Transfers.Batch EC c (.dma sem) ι N (move c md ms rd rs G fs) (j + 1) u)
          -∗ wp frame (wpE defs 𝒱 c bd) Set.univ (k ⟨⟩) Q)
        -∗ wp frame (wpE defs 𝒱 c bd) Set.univ (.op (.enqueueDmaAs (rowRef ms offs inbs hss) (.here (rowRef md offd inbd hsd)) .same (.dma sem) hsrc hdst hsem) k) Q) := by
  have hD : iprop(((rowRef md offd inbd hsd).view.loc c ↦[(rowRef md offd inbd hsd).view.set]{fullShare}
        ((rowRef md offd inbd hsd).view.write Val fd (ReadAs.same.apply ((rowRef ms offs inbs hss).view.read Val fs)) Finset.univ))
      ∗ ((rowRef ms offs inbs hss).view.loc c ↦[(rowRef ms offs inbs hss).view.set]{fullShare} fs)) ⊢ (move c md ms rd rs G fs ⟨j, hj⟩ : sProp 𝕄) := by
    have e : ((rowRef md offd inbd hsd).view.loc c ↦[(rowRef md offd inbd hsd).view.set]{fullShare}
        ((rowRef md offd inbd hsd).view.write Val fd (ReadAs.same.apply ((rowRef ms offs inbs hss).view.read Val fs)) Finset.univ) : sProp 𝕄)
        = (md.view.loc c ↦[vrow md.view (rd ⟨j, hj⟩)]{fullShare} G) := by
      have h0 : ((rowRef md offd inbd hsd).view.loc c ↦[(rowRef md offd inbd hsd).view.set]{fullShare}
        ((rowRef md offd inbd hsd).view.write Val fd (ReadAs.same.apply ((rowRef ms offs inbs hss).view.read Val fs)) Finset.univ) : sProp 𝕄)
          = (md.view.loc c ↦[vrow md.view (8 * offd 0 + offd 1)]{fullShare}
            ((rowRef md offd inbd hsd).view.write Val fd ((rowRef ms offs inbs hss).view.read Val fs) Finset.univ)) := by
        rw [rowRef_set]
      rw [h0, hd]
      refine pointsTo_congr fun i hi => ?_
      obtain ⟨y, hy, rfl⟩ := Finset.mem_map.mp hi
      rw [mem_rowSet] at hy
      refine View.eq_of_read_eq ?_
      have hps : 8 * offs 0 + offs 1 < 8 * As := hs ▸ hrs _
      rw [row_written md ms offd offs inbd inbs hsd hss hps fd fs y (hy.trans hd.symm), hG ⟨j, hj⟩ y hy]
      have hat : ∀ (a b : ℕ) (ha : a < 8 * As) (hb : b < 8 * As) (l : Fin W), a = b → at3 a ha l = at3 b hb l := by rintro a b ha hb l rfl; rfl
      rw [hat _ _ hps (hrs _) _ hs]
    rw [e, rowRef_set, hs]
  rw [Transfers.bigSep_pending_step _ j hj]
  iintro ⟨⟨⟨Hd, Hs⟩, HR⟩, HB⟩ Hk
  ihave Hd' := (show (md.view.loc c ↦[vrow md.view (rd ⟨j, hj⟩)]{fullShare} fd : sProp 𝕄)
    ⊢ ((rowRef md offd inbd hsd).view.loc c ↦[(rowRef md offd inbd hsd).view.set]{fullShare} fd) from by rw [rowRef_set, hd]) $$ Hd
  ihave Hs' := (show (ms.view.loc c ↦[vrow ms.view (rs ⟨j, hj⟩)]{fullShare} fs : sProp 𝕄)
    ⊢ ((rowRef ms offs inbs hss).view.loc c ↦[(rowRef ms offs inbs hss).view.set]{fullShare} fs) from by rw [rowRef_set, hs]) $$ Hs
  iapply (Transfers.wp_dmaBatch EC 𝒱 c bd (dst := rowRef md offd inbd hsd) (sm := .dma sem) ι N hN (Finset.Subset.refl _) hj hu hD) $$ [Hd' Hs' HB]
  · isplitl [Hs']; · iexact Hs'
    isplitl [Hd']; · iexact Hd'
    iexact HB
  iintro HB
  iapply Hk
  isplitl [HR]; · iexact HR
  iexact HB

end Moves

end Cert.Rows

end
-- ==== Proof.Scatter.lean ====
/- The row scatter: one grid point moves its 2048 rows of `rows` to the places the table `pos` names. -/
module

public import proofs.«01_k».proof.Proof.Rows
public import proofs.«01_k».proof.Proof.Gen.KernelIdeal.Loops
public import Idealize.ShloMosaic.Lib.Batch

@[expose] public section

set_option maxRecDepth 16384

noncomputable section

namespace Cert.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows

variable {F : FTy → Type} [FloatOps F]

/-- The ghost algebra of the run: the pipeline's beside the counters of the batches. -/
abbrev UU := UR sig nD τ × Counters

local notation "𝕄" => MT nD τ sig Unit (Elt F) ℕ UU ℕ

/-! ## The table -/

section Table

/-- The table's index of entry `n`. -/
def at1 (n : ℕ) (h : n < 16384) : S16384.Idx := fun a => ⟨n, by rw [Subsingleton.elim a 0]; exact h⟩

/-- Entry `n` of the table. -/
def word (T : S16384.Idx → BitVec 32) (n : ℕ) : BitVec 32 := if h : n < 16384 then T (at1 n h) else 0

/-- The row the table names for `n`. -/
def place (T : S16384.Idx → BitVec 32) (n : ℕ) : ℕ := (word T n).toNat

/-- The table names rows of the destination, no two the same. -/
structure Good (T : S16384.Idx → BitVec 32) : Prop where
  lt : ∀ n, n < 16384 → place T n < 18432
  inj : ∀ n n', n < 16384 → n' < 16384 → place T n = place T n' → n = n'

/-- A table entry's block of eight rows. -/
theorem word_hi (v : BitVec 32) : (Scalar.shrui v 3#32).toNat = v.toNat / 8 := by
  simp [Scalar.shrui, IntOp.shrui, BitVec.toNat_ushiftRight, Nat.shiftRight_eq_div_pow]

/-- A table entry's row within its block. -/
theorem word_lo (v : BitVec 32) : (Scalar.andi v 7#32).toNat = v.toNat % 8 := by
  simp only [Scalar.andi, IntOp.andi, BitVec.toNat_and]
  exact Nat.and_two_pow_sub_one_eq_mod v.toNat 3

end Table

variable (c : Dev nD) {Q : BitVec 32 → sProp (MT nD τ sig Unit (Elt F) ℕ UU ℕ)}

/-- The table's word loaded. -/
theorem load_word (arg1 : Memref sig .tc .smem S16384 .i32) (fT : Buf (Elt F) (arg1.view.loc (c : Thread nD τ)))
    {off : Fin 1 → ℕ} {inb : ∀ a, off a + S1.size a ≤ S16384.size a} (n : ℕ) (hn : off = ![n]) {h1 hp} {q : PosShare TreeShare} :
    (arg1.view.loc (c : Thread nD τ) ↦{q} fT : sProp 𝕄)
      ⊢ iprop(((arg1.view.loc (c : Thread nD τ) ↦{q} fT) -∗ Q (word (arg1.view.read (Elt F) fT) n))
        -∗ wp frame (wpE (defs₀ (F := F)) Variants.none (c : Thread nD τ) none) Set.univ
          (smemLoad arg1 (Rect.unit (s := S16384) off S1.size inb) h1 hp : Prog (TpuEff nD τ sig (Elt F) Λ₀ .tc) (Elt F .i32)) Q) := by
  have hlt : n < 16384 := by
    have h0 : off 0 + 1 ≤ 16384 := inb 0
    rw [hn] at h0; simp only [Matrix.cons_val_zero] at h0; omega
  unfold smemLoad
  have hw : ∀ x, (arg1.access (Rect.unit (s := S16384) off S1.size inb)).read (Elt F) fT x = word (arg1.view.read (Elt F) fT) n := by
    intro x
    unfold word
    rw [dif_pos hlt]
    show arg1.view.read (Elt F) fT _ = _
    congr 1
    funext a
    obtain rfl : a = 0 := Subsingleton.elim _ _
    apply Fin.ext
    show off 0 + 1 * (x 0).val = n
    have hz1 : (x 0).val < 1 := (x 0).isLt
    have hn0 : off 0 = n := by rw [hn]; rfl
    omega
  iintro HT Hk
  iapply (wp_smemLoadElt (defs := defs₀ (F := F)) Variants.none (c : Thread nD τ) none Set.univ (m := arg1) (r := Rect.unit (s := S16384) off S1.size inb) (S := Finset.univ) (f := fT) (Finset.subset_univ _)) $$ HT
  iintro HT
  rw [hw, wp_ret]
  imodintro
  iapply Hk $$ HT

/-- A side condition that holds, passed. -/
theorem pass {P : Prop} {d : Decidable P} {Q : PLift P → sProp (MT nD τ sig Unit (Elt F) ℕ UU ℕ)} (h : P) :
    Q ⟨h⟩ ⊢ wp frame (wpE (defs₀ (F := F)) Variants.none (c : Thread nD τ) none) Set.univ (Prog.lift (.assume P d) : Prog (TpuEff nD τ sig (Elt F) Λ₀ .tc) (PLift P)) Q := by
  refine BIBase.Entails.trans ?_ (wp_assume Variants.none (c : Thread nD τ) none Set.univ h)
  rw [wp_ret]
  iintro H
  imodintro
  iexact H

/-- A value returned. -/
theorem give {α : Type} {Q : α → sProp (MT nD τ sig Unit (Elt F) ℕ UU ℕ)} (a : α) :
    Q a ⊢ wp frame (wpE (defs₀ (F := F)) Variants.none (c : Thread nD τ) none) Set.univ (Pure.pure a : Prog (TpuEff nD τ sig (Elt F) Λ₀ .tc) α) Q := by
  show Q a ⊢ wp frame (wpE (defs₀ (F := F)) Variants.none (c : Thread nD τ) none) Set.univ (.ret a) Q
  rw [wp_ret]
  iintro H
  imodintro
  iexact H

/-- The side condition of a word in range. -/
theorem chk_of_lt (v : BitVec 32) (h : v.toNat < 18432) : k0_chk1 v := by
  have h0 := word_hi v; have h1 := word_lo v
  intro a
  show (![(Scalar.shrui v 3#32).toNat, (Scalar.andi v 7#32).toNat, 0] : Fin 3 → ℕ) a + (![1, 1, 1152] : Fin 3 → ℕ) a ≤ (![2304, 8, 1152] : Fin 3 → ℕ) a
  fin_cases a <;> simp <;> omega

/-- A transfer's destination row, in closed form. -/
theorem off_word (v : BitVec 32) : 8 * (k0_off2 v) 0 + (k0_off2 v) 1 = v.toNat := by
  have h0 := word_hi v; have h1 := word_lo v
  show 8 * (Scalar.shrui v 3#32).toNat + (Scalar.andi v 7#32).toNat = v.toNat
  omega

section Body

variable (arg1 : Memref sig .tc .smem S16384 .i32) (harg1 : arg1.IsWhole) (arg2 : Memref sig .tc .vmem S256x8x1152 .f32) (harg2 : arg2.IsWhole)
  (arg3 : Memref sig .tc .hbm S2304x8x1152 .f32) (harg3 : arg3.IsWhole) (arg4 : Memref sig .tc .hbm S2304x8x1152 .f32) (harg4 : arg4.IsWhole) (arg5 : DmaSems sig S_)
variable (T : S16384.Idx → BitVec 32) (fT : Buf (Elt F) (arg1.view.loc (c : Thread nD τ))) (q : PosShare TreeShare)
  (fd G : Buf (Elt F) (arg4.view.loc (c : Thread nD τ))) (fs : Buf (Elt F) (arg2.view.loc (c : Thread nD τ))) (i : ℕ)

/-- The destination rows of the point's transfers. -/
abbrev dstRow (t : Fin 2048) : ℕ := place (arg1.view.read (Elt F) fT) (2048 * i + t.val)

/-- The units one row's transfer is counted by. -/
abbrev units : ℕ := (rowRef (A := 2304) (W := 1152) arg4 (fun _ => 0) (by intro a; fin_cases a <;> decide) squeezes_S1x1x1152_S1x1152).view.dmaCredit

/-- What transfer `t` takes. -/
abbrev takes (f : Buf (Elt F) (arg4.view.loc (c : Thread nD τ))) : Fin 2048 → sProp 𝕄 :=
  move (A := 2304) (As := 256) (W := 1152) (c : Thread nD τ) arg4 arg2 (dstRow c arg1 fT i) (fun t => t.val) f fs

/-- The batch of the point's transfers. -/
abbrev batch (j u : ℕ) : sProp 𝕄 :=
  Transfers.Batch (countersEmb (U := UU) : UEmb Counters (MT nD τ sig Unit (Elt F) ℕ UU ℕ)) (c : Thread nD τ) (.dma arg5.sem) () (units arg4) (takes c arg1 arg2 arg4 fT fs i G) j u

/-- Before trip `k` of the issue loop: the table, the transfers not yet made and the batch with `8k` made. -/
def issueAt (k : ℕ) (_ : Unit) : sProp 𝕄 :=
  iprop((arg1.view.loc (c : Thread nD τ) ↦{q} fT) ∗ bigSep (Transfers.pending (8 * k)) (takes c arg1 arg2 arg4 fT fs i fd)
    ∗ batch c arg1 arg2 arg4 arg5 fT G fs i (8 * k) 0)

/-- `G` holds at each destination row the row of the source. -/
def Placed : Prop := ∀ (t : Fin 2048) (y : (S3 2304 1152).Idx), rowOf y = dstRow c arg1 fT i t →
  arg4.view.read (Elt F) G y = arg2.view.read (Elt F) fs (at3 t.val t.isLt (laneOf y))

variable {Q' : PUnit → sProp (MT nD τ sig Unit (Elt F) ℕ UU ℕ)}

/-- One transfer of the point issued. -/
theorem issue (hG : Placed c arg1 arg2 arg4 fT G fs i) {offd offs : Fin 3 → ℕ}
    {inbd : ∀ a, offd a + S1x1x1152.size a ≤ S2304x8x1152.size a} {inbs : ∀ a, offs a + S1x1x1152.size a ≤ S256x8x1152.size a} (j : ℕ) (hj : j < 2048)
    (hd : 8 * offd 0 + offd 1 = place (arg1.view.read (Elt F) fT) (2048 * i + j)) (hs : 8 * offs 0 + offs 1 = j) {h1 h2 h3} :
    iprop(bigSep (Transfers.pending j) (takes c arg1 arg2 arg4 fT fs i fd) ∗ batch c arg1 arg2 arg4 arg5 fT G fs i j 0)
      ⊢ iprop((iprop(bigSep (Transfers.pending (j + 1)) (takes c arg1 arg2 arg4 fT fs i fd) ∗ batch c arg1 arg2 arg4 arg5 fT G fs i (j + 1) 0) -∗ Q' ⟨⟩)
        -∗ wp frame (wpE (defs₀ (F := F)) Variants.none (c : Thread nD τ) none) Set.univ
          (Prog.lift (.enqueueDma ((arg2.slice (Rect.unit (s := S256x8x1152) offs S1x1x1152.size inbs) (fun _ => rfl)).squeeze S1x1152 squeezes_S1x1x1152_S1x1152)
            (.here ((arg4.slice (Rect.unit (s := S2304x8x1152) offd S1x1x1152.size inbd) (fun _ => rfl)).squeeze S1x1152 squeezes_S1x1x1152_S1x1152))
            (.dma arg5.sem) h1 h2 h3) : Prog (TpuEff nD τ sig (Elt F) Λ₀ .tc) PUnit) Q') := by
  iintro H Hk
  iapply (issue_row (A := 2304) (As := 256) (W := 1152) (countersEmb (U := UU) : UEmb Counters (MT nD τ sig Unit (Elt F) ℕ UU ℕ)) Variants.none (defs := defs₀ (F := F)) (c : Thread nD τ) none arg4 arg2 (dstRow c arg1 fT i) (fun t => t.val) fd G fs
    (fun t => t.isLt) hG () (units arg4) (sem := arg5.sem) (offd := offd) (offs := offs) (inbd := inbd) (inbs := inbs) rfl hj (Nat.zero_le _) hd hs) $$ H
  iintro H
  rw [wp_ret]
  imodintro
  iapply Hk $$ H

/-- One trip of the issue loop at a symbolic trip: eight words read, eight rows sent. -/
theorem issue_step (p : grid0.Coords) (hT : Good (arg1.view.read (Elt F) fT)) (hG : Placed c arg1 arg2 arg4 fT G fs (p 0).val) (v1 : BitVec 32)
    (k : Fin k0_t1_loop.trips) (acc : Unit) :
    issueAt c arg1 arg2 arg4 arg5 fT q fd G fs (p 0).val k.val acc
      ⊢ wp frame (wpE (defs₀ (F := F)) Variants.none (c : Thread nD τ) none) Set.univ (k0_t1_body (F := F) p arg1 harg1 arg2 harg2 arg3 harg3 arg4 harg4 arg5 v1 k acc)
        (issueAt c arg1 arg2 arg4 arg5 fT q fd G fs (p 0).val (k.val + 1)) := by
  have hk : k.val < 256 := lt_of_lt_of_le k.isLt k0_t1_abs.2.1
  have hp : (p 0).val < 8 := (p 0).isLt
  have hchk : ∀ u, u < 8 → k0_chk1 (word (arg1.view.read (Elt F) fT) (2048 * (p 0).val + 8 * k.val + u)) := fun u hu =>
    chk_of_lt _ (hT.lt _ (by omega))
  have hdst : ∀ u, u < 8 → 8 * (k0_off2 (word (arg1.view.read (Elt F) fT) (2048 * (p 0).val + 8 * k.val + u))) 0
      + (k0_off2 (word (arg1.view.read (Elt F) fT) (2048 * (p 0).val + 8 * k.val + u))) 1
      = place (arg1.view.read (Elt F) fT) (2048 * (p 0).val + (8 * k.val + u)) := fun u hu => by
    rw [off_word, ← Nat.add_assoc]; rfl
  have hsrc : ∀ (o : Fin 3 → ℕ) (u : ℕ), o = ![k.val, u, 0] → 8 * o 0 + o 1 = 8 * k.val + u := by rintro o u rfl; rfl
  unfold issueAt k0_t1_body k0_part1 k0_part2
  rw [show 8 * (k.val + 1) = 8 * k.val + 7 + 1 by omega]
  simp only [wp_bind]
  iintro ⟨HT, HB⟩
  iapply (load_word c arg1 fT (2048 * (p 0).val + 8 * k.val + 0) (k0_off1_eq p k)) $$ HT
  iintro HT
  iapply (pass c (show k0_chk1 _ from hchk 0 (by omega)))
  iapply (issue c arg1 arg2 arg4 arg5 fT fd G fs (p 0).val hG (8 * k.val + 0) (by omega) (hdst 0 (by omega)) (hsrc (k0_off3 k) 0 (k0_off3_eq k))) $$ HB
  iintro HB
  iapply (load_word c arg1 fT (2048 * (p 0).val + 8 * k.val + 1) (k0_off4_eq p k)) $$ HT
  iintro HT
  iapply (pass c (show k0_chk2 _ from hchk 1 (by omega)))
  iapply (issue c arg1 arg2 arg4 arg5 fT fd G fs (p 0).val hG (8 * k.val + 1) (by omega) (hdst 1 (by omega)) (hsrc (k0_off6 k) 1 (k0_off6_eq k))) $$ HB
  iintro HB
  iapply (load_word c arg1 fT (2048 * (p 0).val + 8 * k.val + 2) (k0_off7_eq p k)) $$ HT
  iintro HT
  iapply (pass c (show k0_chk3 _ from hchk 2 (by omega)))
  iapply (give c _)
  iapply (issue c arg1 arg2 arg4 arg5 fT fd G fs (p 0).val hG (8 * k.val + 2) (by omega) (hdst 2 (by omega)) (hsrc (k0_off9 k) 2 (k0_off9_eq k))) $$ HB
  iintro HB
  iapply (load_word c arg1 fT (2048 * (p 0).val + 8 * k.val + 3) (k0_off10_eq p k)) $$ HT
  iintro HT
  iapply (pass c (show k0_chk4 _ from hchk 3 (by omega)))
  iapply (issue c arg1 arg2 arg4 arg5 fT fd G fs (p 0).val hG (8 * k.val + 3) (by omega) (hdst 3 (by omega)) (hsrc (k0_off12 k) 3 (k0_off12_eq k))) $$ HB
  iintro HB
  iapply (load_word c arg1 fT (2048 * (p 0).val + 8 * k.val + 4) (k0_off13_eq p k)) $$ HT
  iintro HT
  iapply (pass c (show k0_chk5 _ from hchk 4 (by omega)))
  iapply (issue c arg1 arg2 arg4 arg5 fT fd G fs (p 0).val hG (8 * k.val + 4) (by omega) (hdst 4 (by omega)) (hsrc (k0_off15 k) 4 (k0_off15_eq k))) $$ HB
  iintro HB
  iapply (load_word c arg1 fT (2048 * (p 0).val + 8 * k.val + 5) (k0_off16_eq p k)) $$ HT
  iintro HT
  iapply (pass c (show k0_chk6 _ from hchk 5 (by omega)))
  iapply (give c _)
  iapply (issue c arg1 arg2 arg4 arg5 fT fd G fs (p 0).val hG (8 * k.val + 5) (by omega) (hdst 5 (by omega)) (hsrc (k0_off18 k) 5 (k0_off18_eq k))) $$ HB
  iintro HB
  iapply (load_word c arg1 fT (2048 * (p 0).val + 8 * k.val + 6) (k0_off19_eq p k)) $$ HT
  iintro HT
  iapply (pass c (show k0_chk7 _ from hchk 6 (by omega)))
  iapply (issue c arg1 arg2 arg4 arg5 fT fd G fs (p 0).val hG (8 * k.val + 6) (by omega) (hdst 6 (by omega)) (hsrc (k0_off21 k) 6 (k0_off21_eq k))) $$ HB
  iintro HB
  iapply (load_word c arg1 fT (2048 * (p 0).val + 8 * k.val + 7) (k0_off22_eq p k)) $$ HT
  iintro HT
  iapply (pass c (show k0_chk8 _ from hchk 7 (by omega)))
  iapply (issue c arg1 arg2 arg4 arg5 fT fd G fs (p 0).val hG (8 * k.val + 7) (by omega) (hdst 7 (by omega)) (hsrc (k0_off24 k) 7 (k0_off24_eq k))) $$ HB
  iintro HB
  iapply (give c _)
  isplitl [HT]; · iexact HT
  iexact HB

/-- Before trip `k` of the drain loop: every transfer made, and `8k` rows' units taken. -/
def drainAt (k : ℕ) (_ : Unit) : sProp 𝕄 :=
  iprop(batch c arg1 arg2 arg4 arg5 fT G fs i 2048 (8 * k * units arg4) ∗ (∃ W, owes (c : Thread nD τ) 0 W))

/-- One row's units waited for. -/
theorem await (u : ℕ) (hu : u + units arg4 ≤ 2048 * units arg4) {srcw : Memref sig .tc .vmem S1x1152 .f32} {offd : Fin 3 → ℕ}
    {inbd : ∀ a, offd a + S1x1x1152.size a ≤ S2304x8x1152.size a} {h1 h2} :
    iprop(batch c arg1 arg2 arg4 arg5 fT G fs i 2048 u ∗ (∃ W, owes (c : Thread nD τ) 0 W))
      ⊢ iprop((iprop(batch c arg1 arg2 arg4 arg5 fT G fs i 2048 (u + units arg4) ∗ (∃ W, owes (c : Thread nD τ) 0 W)) -∗ Q' ⟨⟩)
        -∗ wp frame (wpE (defs₀ (F := F)) Variants.none (c : Thread nD τ) none) Set.univ
          (Prog.lift (.waitDma2 arg5.sem srcw ((arg4.slice (Rect.unit (s := S2304x8x1152) offd S1x1x1152.size inbd) (fun _ => rfl)).squeeze S1x1152 squeezes_S1x1x1152_S1x1152) h1 h2) : Prog (TpuEff nD τ sig (Elt F) Λ₀ .tc) PUnit) Q') := by
  iintro ⟨HB, ⟨%W, HO⟩⟩ Hk
  iapply (Transfers.wp_waitBatchMul (countersEmb (U := UU) : UEmb Counters (MT nD τ sig Unit (Elt F) ℕ UU ℕ)) Variants.none (defs := defs₀ (F := F)) (c : Thread nD τ) none (srcw := srcw) (dstw := rowRef (A := 2304) (W := 1152) arg4 offd inbd squeezes_S1x1x1152_S1x1152) (hsrc := h1) (hdst := h2) () (N := units arg4) 1
    (Nat.one_mul (units arg4)).symm (D := takes c arg1 arg2 arg4 fT fs i G) (j := 2048) (u := u) (by rw [Nat.one_mul, Nat.mul_comm (units arg4)]; exact hu)) $$ [HB HO]
  · isplitl [HB]; · iexact HB
    iexact HO
  rw [Nat.one_mul]
  iintro ⟨HB, HO⟩
  rw [wp_ret]
  imodintro
  iapply Hk
  isplitl [HB]; · iexact HB
  iexists _; iexact HO

/-- One trip of the drain loop: eight rows' units. -/
theorem drain_step (p : grid0.Coords) (k : Fin k0_t2_loop.trips) (acc : Unit) :
    drainAt c arg1 arg2 arg4 arg5 fT G fs i k.val acc
      ⊢ wp frame (wpE (defs₀ (F := F)) Variants.none (c : Thread nD τ) none) Set.univ (k0_t2_body (F := F) p arg1 harg1 arg2 harg2 arg3 harg3 arg4 harg4 arg5 k acc)
        (drainAt c arg1 arg2 arg4 arg5 fT G fs i (k.val + 1)) := by
  have hk : k.val < 256 := lt_of_lt_of_le k.isLt k0_t2_abs.2.1
  have le_units : ∀ u, u < 8 → (8 * k.val + u) * units arg4 + units arg4 ≤ 2048 * units arg4 := fun u hu => by
    rw [← Nat.succ_mul]; exact Nat.mul_le_mul_right _ (by omega)
  have hnext : ∀ u, (8 * k.val + u) * units arg4 + units arg4 = (8 * k.val + (u + 1)) * units arg4 := fun u => by
    rw [← Nat.succ_mul]; rfl
  unfold drainAt k0_t2_body k0_part3
  rw [show 8 * (k.val + 1) = 8 * k.val + 8 by omega, show 8 * k.val * units arg4 = (8 * k.val + 0) * units arg4 by rw [Nat.add_zero]]
  simp only [wp_bind]
  iintro HB
  iapply (await c arg1 arg2 arg4 arg5 fT G fs i ((8 * k.val + 0) * units arg4) (le_units 0 (by omega))) $$ HB
  iintro HB
  rw [hnext 0]
  iapply (await c arg1 arg2 arg4 arg5 fT G fs i ((8 * k.val + 1) * units arg4) (le_units 1 (by omega))) $$ HB
  iintro HB
  rw [hnext 1]
  iapply (await c arg1 arg2 arg4 arg5 fT G fs i ((8 * k.val + 2) * units arg4) (le_units 2 (by omega))) $$ HB
  iintro HB
  rw [hnext 2]
  iapply (await c arg1 arg2 arg4 arg5 fT G fs i ((8 * k.val + 3) * units arg4) (le_units 3 (by omega))) $$ HB
  iintro HB
  rw [hnext 3]
  iapply (await c arg1 arg2 arg4 arg5 fT G fs i ((8 * k.val + 4) * units arg4) (le_units 4 (by omega))) $$ HB
  iintro HB
  rw [hnext 4]
  iapply (await c arg1 arg2 arg4 arg5 fT G fs i ((8 * k.val + 5) * units arg4) (le_units 5 (by omega))) $$ HB
  iintro HB
  rw [hnext 5]
  iapply (give c _)
  iapply (await c arg1 arg2 arg4 arg5 fT G fs i ((8 * k.val + 6) * units arg4) (le_units 6 (by omega))) $$ HB
  iintro HB
  rw [hnext 6]
  iapply (await c arg1 arg2 arg4 arg5 fT G fs i ((8 * k.val + 7) * units arg4) (le_units 7 (by omega))) $$ HB
  iintro HB
  rw [hnext 7]
  iapply (give c _)
  iexact HB

theorem units_pos : 0 < units arg4 := View.dmaCredit_pos _ (by decide)

/-- One grid point: its rows of the source at the places the table names, the rest of the destination as it was. -/
theorem body (p : grid0.Coords) (hT : Good (arg1.view.read (Elt F) fT)) (hG : Placed c arg1 arg2 arg4 fT G fs (p 0).val)
    (hfar : ∀ y : (S3 2304 1152).Idx, (∀ t, rowOf y ≠ dstRow c arg1 fT (p 0).val t) → arg4.view.read (Elt F) fd y = arg4.view.read (Elt F) G y) :
    (iprop((arg1.view.loc (c : Thread nD τ) ↦{q} fT) ∗ (arg2.view.loc (c : Thread nD τ) ↦[arg2.view.set]{fullShare} fs)
        ∗ (arg4.view.loc (c : Thread nD τ) ↦[arg4.view.set]{fullShare} fd) ∗ semVal ((c : Thread nD τ), SemLoc.dma arg5.sem) 0
        ∗ (∃ W, owes (c : Thread nD τ) 0 W)) : sProp 𝕄)
      ⊢ wp frame (wpE (defs₀ (F := F)) Variants.none (c : Thread nD τ) none) Set.univ (cc0__scatter_rows_kernel (F := F) p arg1 harg1 arg2 harg2 arg3 harg3 arg4 harg4 arg5)
        (fun _ => iprop((arg1.view.loc (c : Thread nD τ) ↦{q} fT) ∗ (arg2.view.loc (c : Thread nD τ) ↦[arg2.view.set]{fullShare} fs)
          ∗ (arg4.view.loc (c : Thread nD τ) ↦[arg4.view.set]{fullShare} G) ∗ semVal ((c : Thread nD τ), SemLoc.dma arg5.sem) 0
          ∗ (∃ W, owes (c : Thread nD τ) 0 W))) := by
  have hp : (p 0).val < 8 := (p 0).isLt
  have hinj : Function.Injective (dstRow c arg1 fT (p 0).val) := fun t t' h => by
    have := hT.inj _ _ (by omega) (by omega) h
    exact Fin.ext (by omega)
  have hrest : (arg4.view.loc (c : Thread nD τ) ↦[arg4.view.set \ Finset.univ.biUnion fun t => vrow (A := 2304) (W := 1152) arg4.view (dstRow c arg1 fT (p 0).val t)]{fullShare} fd : sProp 𝕄)
      = (arg4.view.loc (c : Thread nD τ) ↦[arg4.view.set \ Finset.univ.biUnion fun t => vrow (A := 2304) (W := 1152) arg4.view (dstRow c arg1 fT (p 0).val t)]{fullShare} G) := rest_congr (A := 2304) (W := 1152) (c : Thread nD τ) arg4.view _ fullShare fd G hfar
  have hjoin : ∀ f, (bigSep Finset.univ (takes c arg1 arg2 arg4 fT fs (p 0).val f) : sProp 𝕄)
      = iprop(bigSep Finset.univ (fun t => arg4.view.loc (c : Thread nD τ) ↦[vrow (A := 2304) (W := 1152) arg4.view (dstRow c arg1 fT (p 0).val t)]{fullShare} f)
        ∗ (arg2.view.loc (c : Thread nD τ) ↦[arg2.view.set]{fullShare} fs)) := fun f => by
    rw [rows_all (A := 256) (W := 1152) (n := 2048) (Ix := Unit) (Name := ℕ) (U := UU) (Lvl := ℕ) (c : Thread nD τ) arg2.view fullShare fs rfl]
    exact BI.bigSep_sep _ _ _
  rw [cc0__scatter_rows_kernel_eq_skeleton]
  unfold cc0__scatter_rows_kernel_skel
  simp only [wp_bind]
  iintro ⟨HT, H2, H4, Hs, HO⟩
  ihave H4 := (rows_split (A := 2304) (W := 1152) (c : Thread nD τ) arg4.view _ hinj fullShare fd).1 $$ H4
  icases H4 with ⟨H4, Hr⟩
  ihave HR := (Entails.of_eq (hjoin fd).symm) $$ [H4 H2]
  · isplitl [H4]; · iexact H4
    iexact H2
  imod (Transfers.batch_alloc' (countersEmb (U := UU) : UEmb Counters (MT nD τ sig Unit (Elt F) ℕ UU ℕ)) (c := (c : Thread nD τ)) (sm := .dma arg5.sem) () (units arg4) (takes c arg1 arg2 arg4 fT fs (p 0).val G)) $$ Hs with HB
  iapply (Scf.wp_for _ _ _ _ _ _ k0_t1_ok () _ (issueAt c arg1 arg2 arg4 arg5 fT q fd G fs (p 0).val)
    (issue_step c arg1 harg1 arg2 harg2 arg3 harg3 arg4 harg4 arg5 fT q fd G fs p hT hG _))
  isplitl [HT HR HB]
  · unfold issueAt
    isplitl [HT]; · iexact HT
    isplitl [HR]; · rw [Nat.mul_zero, Transfers.pending_zero]; iexact HR
    iexact HB
  iintro %acc HI
  rw [show Scf.trips k0_t1_loop.lb k0_t1_loop.ub k0_t1_loop.st = 256 by decide +kernel]
  unfold issueAt
  icases HI with ⟨HT, -, HB⟩
  iapply (Scf.wp_for _ _ _ _ _ _ k0_t2_ok () _ (drainAt c arg1 arg2 arg4 arg5 fT G fs (p 0).val)
    (drain_step c arg1 harg1 arg2 harg2 arg3 harg3 arg4 harg4 arg5 fT G fs (p 0).val p))
  isplitl [HB HO]
  · unfold drainAt
    rw [Nat.mul_zero, Nat.zero_mul]
    isplitl [HB]; · iexact HB
    iexact HO
  iintro %acc HI
  rw [show Scf.trips k0_t2_loop.lb k0_t2_loop.ub k0_t2_loop.st = 256 by decide +kernel]
  unfold drainAt
  rw [show 8 * 256 * units arg4 = units arg4 * 2048 from Nat.mul_comm _ _]
  icases HI with ⟨HB, HO⟩
  imod (Transfers.batch_collect' (countersEmb (U := UU) : UEmb Counters (MT nD τ sig Unit (Elt F) ℕ UU ℕ)) (c : Thread nD τ) (units_pos arg4)) $$ HB with ⟨HR, Hs⟩
  iapply (give c _)
  ihave HR := (Entails.of_eq (hjoin G)) $$ HR
  icases HR with ⟨H4, H2⟩
  ihave Hr := (Entails.of_eq hrest) $$ Hr
  isplitl [HT]; · iexact HT
  isplitl [H2]; · iexact H2
  isplitl [H4 Hr]
  · iapply (rows_split (A := 2304) (W := 1152) (c : Thread nD τ) arg4.view _ hinj fullShare G).2
    isplitl [H4]; · iexact H4
    iexact Hr
  isplitl [Hs]; · iexact Hs
  iexact HO

end Body

end Cert.Scatter

end
-- ==== Proof.Gather.lean ====
/- The row gather: one grid point fetches its 2048 rows from the places the table `pos` names. -/
module

public import proofs.«01_k».proof.Proof.Scatter

@[expose] public section

set_option maxRecDepth 16384

noncomputable section

namespace Cert.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows
open Cert.Scatter (UU word place Good load_word pass give chk_of_lt off_word)

variable {F : FTy → Type} [FloatOps F]

local notation "𝕄" => MT nD τ sig Unit (Elt F) ℕ UU ℕ

variable (c : Dev nD)
variable (arg1 : Memref sig .tc .smem S16384 .i32) (harg1 : arg1.IsWhole) (arg2 : Memref sig .tc .hbm S2304x8x1024 .f32) (harg2 : arg2.IsWhole)
  (arg3 : Memref sig .tc .vmem S256x8x1024 .f32) (harg3 : arg3.IsWhole) (arg4 : DmaSems sig S_)
variable (fT : Buf (Elt F) (arg1.view.loc (c : Thread nD τ))) (q : PosShare TreeShare)
  (fd G : Buf (Elt F) (arg3.view.loc (c : Thread nD τ))) (fs : Buf (Elt F) (arg2.view.loc (c : Thread nD τ))) (i : ℕ)

/-- The source rows of the point's transfers. -/
abbrev srcRow (t : Fin 2048) : ℕ := place (arg1.view.read (Elt F) fT) (2048 * i + t.val)

/-- The units one row's transfer is counted by. -/
abbrev units : ℕ := (rowRef (A := 256) (W := 1024) arg3 (fun _ => 0) (by intro a; fin_cases a <;> decide) squeezes_S1x1x1024_S1x1024).view.dmaCredit

/-- What transfer `t` takes. -/
abbrev takes (f : Buf (Elt F) (arg3.view.loc (c : Thread nD τ))) : Fin 2048 → sProp 𝕄 :=
  move (A := 256) (As := 2304) (W := 1024) (c : Thread nD τ) arg3 arg2 (fun t => t.val) (srcRow c arg1 fT i) f fs

/-- The batch of the point's transfers. -/
abbrev batch (j u : ℕ) : sProp 𝕄 :=
  Transfers.Batch (countersEmb (U := UU)) (c : Thread nD τ) (.dma arg4.sem) () (units arg3) (takes c arg1 arg2 arg3 fT fs i G) j u

/-- Before trip `k` of the issue loop: the table, the transfers not yet made and the batch with `8k` made. -/
def issueAt (k : ℕ) (_ : Unit) : sProp 𝕄 :=
  iprop((arg1.view.loc (c : Thread nD τ) ↦{q} fT) ∗ bigSep (Transfers.pending (8 * k)) (takes c arg1 arg2 arg3 fT fs i fd)
    ∗ batch c arg1 arg2 arg3 arg4 fT G fs i (8 * k) 0)

/-- The place a good table names for a row of point `i`. -/
theorem src_lt (hT : Good (arg1.view.read (Elt F) fT)) (hi : i < 8) (t : Fin 2048) : srcRow c arg1 fT i t < 8 * 2304 :=
  hT.lt _ (by omega)

/-- `G` holds at each of its rows the row of the source the table names. -/
def Fetched (hT : Good (arg1.view.read (Elt F) fT)) (hi : i < 8) : Prop := ∀ (t : Fin 2048) (y : (S3 256 1024).Idx), rowOf y = t.val →
  arg3.view.read (Elt F) G y = arg2.view.read (Elt F) fs (at3 (srcRow c arg1 fT i t) (src_lt c arg1 fT i hT hi t) (laneOf y))

variable {Q' : PUnit → sProp (MT nD τ sig Unit (Elt F) ℕ UU ℕ)}

/-- One transfer of the point issued. -/
theorem issue (hT : Good (arg1.view.read (Elt F) fT)) (hi : i < 8) (hG : Fetched c arg1 arg2 arg3 fT G fs i hT hi) {offd offs : Fin 3 → ℕ}
    {inbd : ∀ a, offd a + S1x1x1024.size a ≤ S256x8x1024.size a} {inbs : ∀ a, offs a + S1x1x1024.size a ≤ S2304x8x1024.size a} (j : ℕ) (hj : j < 2048)
    (hd : 8 * offd 0 + offd 1 = j) (hs : 8 * offs 0 + offs 1 = place (arg1.view.read (Elt F) fT) (2048 * i + j)) {h1 h2 h3} :
    iprop(bigSep (Transfers.pending j) (takes c arg1 arg2 arg3 fT fs i fd) ∗ batch c arg1 arg2 arg3 arg4 fT G fs i j 0)
      ⊢ iprop((iprop(bigSep (Transfers.pending (j + 1)) (takes c arg1 arg2 arg3 fT fs i fd) ∗ batch c arg1 arg2 arg3 arg4 fT G fs i (j + 1) 0) -∗ Q' ⟨⟩)
        -∗ wp frame (wpE (defs₀ (F := F)) Variants.none (c : Thread nD τ) none) Set.univ
          (Prog.lift (.enqueueDma ((arg2.slice (Rect.unit (s := S2304x8x1024) offs S1x1x1024.size inbs) (fun _ => rfl)).squeeze S1x1024 squeezes_S1x1x1024_S1x1024)
            (.here ((arg3.slice (Rect.unit (s := S256x8x1024) offd S1x1x1024.size inbd) (fun _ => rfl)).squeeze S1x1024 squeezes_S1x1x1024_S1x1024))
            (.dma arg4.sem) h1 h2 h3) : Prog (TpuEff nD τ sig (Elt F) Λ₀ .tc) PUnit) Q') := by
  iintro H Hk
  iapply (issue_row (A := 256) (As := 2304) (W := 1024) (countersEmb (U := UU)) Variants.none (defs := defs₀ (F := F)) (c : Thread nD τ) none arg3 arg2 (fun t => t.val) (srcRow c arg1 fT i) fd G fs
    (src_lt c arg1 fT i hT hi) hG () (units arg3) (sem := arg4.sem) (offd := offd) (offs := offs) (inbd := inbd) (inbs := inbs) rfl hj (Nat.zero_le _) hd hs) $$ H
  iintro H
  rw [wp_ret]
  imodintro
  iapply Hk $$ H

/-- One trip of the issue loop at a symbolic trip: eight words read, eight rows fetched. -/
theorem issue_step (p : grid2.Coords) (hT : Good (arg1.view.read (Elt F) fT)) (hp : (p 0).val < 8) (hG : Fetched c arg1 arg2 arg3 fT G fs (p 0).val hT hp)
    (v1 : BitVec 32) (k : Fin k2_t1_loop.trips) (acc : Unit) :
    issueAt c arg1 arg2 arg3 arg4 fT q fd G fs (p 0).val k.val acc
      ⊢ wp frame (wpE (defs₀ (F := F)) Variants.none (c : Thread nD τ) none) Set.univ (k2_t1_body (F := F) p arg1 harg1 arg2 harg2 arg3 harg3 arg4 v1 k acc)
        (issueAt c arg1 arg2 arg3 arg4 fT q fd G fs (p 0).val (k.val + 1)) := by
  have hk : k.val < 256 := lt_of_lt_of_le k.isLt k2_t1_abs.2.1
  have hchk : ∀ u, u < 8 → k0_chk1 (word (arg1.view.read (Elt F) fT) (2048 * (p 0).val + 8 * k.val + u)) := fun u hu =>
    chk_of_lt _ (hT.lt _ (by omega))
  have hsrc : ∀ u, u < 8 → 8 * (k0_off2 (word (arg1.view.read (Elt F) fT) (2048 * (p 0).val + 8 * k.val + u))) 0
      + (k0_off2 (word (arg1.view.read (Elt F) fT) (2048 * (p 0).val + 8 * k.val + u))) 1
      = place (arg1.view.read (Elt F) fT) (2048 * (p 0).val + (8 * k.val + u)) := fun u hu => by
    rw [off_word, ← Nat.add_assoc]; rfl
  have hchk' : ∀ v, k0_chk1 v → k2_chk1 v := fun v h a => by
    have h0 := h 0; have h1 := h 1
    fin_cases a
    · exact h0
    · exact h1
    · exact (by decide : (0 + 1024 : ℕ) ≤ 1024)
  replace hchk : ∀ u, u < 8 → k2_chk1 (word (arg1.view.read (Elt F) fT) (2048 * (p 0).val + 8 * k.val + u)) := fun u hu => hchk' _ (hchk u hu)
  have hdst : ∀ (o : Fin 3 → ℕ) (u : ℕ), o = ![k.val, u, 0] → 8 * o 0 + o 1 = 8 * k.val + u := by rintro o u rfl; rfl
  unfold issueAt k2_t1_body k2_part1 k2_part2
  rw [show 8 * (k.val + 1) = 8 * k.val + 7 + 1 by omega]
  simp only [wp_bind]
  iintro ⟨HT, HB⟩
  iapply (load_word c arg1 fT (2048 * (p 0).val + 8 * k.val + 0) (k2_off1_eq p k)) $$ HT
  iintro HT
  iapply (pass c (show k2_chk1 _ from hchk 0 (by omega)))
  iapply (issue c arg1 arg2 arg3 arg4 fT fd G fs (p 0).val hT hp hG (8 * k.val + 0) (by omega) (hdst (k2_off2 k) 0 (k2_off2_eq k)) (hsrc 0 (by omega))) $$ HB
  iintro HB
  iapply (load_word c arg1 fT (2048 * (p 0).val + 8 * k.val + 1) (k2_off4_eq p k)) $$ HT
  iintro HT
  iapply (pass c (show k2_chk2 _ from hchk 1 (by omega)))
  iapply (issue c arg1 arg2 arg3 arg4 fT fd G fs (p 0).val hT hp hG (8 * k.val + 1) (by omega) (hdst (k2_off5 k) 1 (k2_off5_eq k)) (hsrc 1 (by omega))) $$ HB
  iintro HB
  iapply (load_word c arg1 fT (2048 * (p 0).val + 8 * k.val + 2) (k2_off7_eq p k)) $$ HT
  iintro HT
  iapply (pass c (show k2_chk3 _ from hchk 2 (by omega)))
  iapply (give c _)
  iapply (issue c arg1 arg2 arg3 arg4 fT fd G fs (p 0).val hT hp hG (8 * k.val + 2) (by omega) (hdst (k2_off8 k) 2 (k2_off8_eq k)) (hsrc 2 (by omega))) $$ HB
  iintro HB
  iapply (load_word c arg1 fT (2048 * (p 0).val + 8 * k.val + 3) (k2_off10_eq p k)) $$ HT
  iintro HT
  iapply (pass c (show k2_chk4 _ from hchk 3 (by omega)))
  iapply (issue c arg1 arg2 arg3 arg4 fT fd G fs (p 0).val hT hp hG (8 * k.val + 3) (by omega) (hdst (k2_off11 k) 3 (k2_off11_eq k)) (hsrc 3 (by omega))) $$ HB
  iintro HB
  iapply (load_word c arg1 fT (2048 * (p 0).val + 8 * k.val + 4) (k2_off13_eq p k)) $$ HT
  iintro HT
  iapply (pass c (show k2_chk5 _ from hchk 4 (by omega)))
  iapply (issue c arg1 arg2 arg3 arg4 fT fd G fs (p 0).val hT hp hG (8 * k.val + 4) (by omega) (hdst (k2_off14 k) 4 (k2_off14_eq k)) (hsrc 4 (by omega))) $$ HB
  iintro HB
  iapply (load_word c arg1 fT (2048 * (p 0).val + 8 * k.val + 5) (k2_off16_eq p k)) $$ HT
  iintro HT
  iapply (pass c (show k2_chk6 _ from hchk 5 (by omega)))
  iapply (give c _)
  iapply (issue c arg1 arg2 arg3 arg4 fT fd G fs (p 0).val hT hp hG (8 * k.val + 5) (by omega) (hdst (k2_off17 k) 5 (k2_off17_eq k)) (hsrc 5 (by omega))) $$ HB
  iintro HB
  iapply (load_word c arg1 fT (2048 * (p 0).val + 8 * k.val + 6) (k2_off19_eq p k)) $$ HT
  iintro HT
  iapply (pass c (show k2_chk7 _ from hchk 6 (by omega)))
  iapply (issue c arg1 arg2 arg3 arg4 fT fd G fs (p 0).val hT hp hG (8 * k.val + 6) (by omega) (hdst (k2_off20 k) 6 (k2_off20_eq k)) (hsrc 6 (by omega))) $$ HB
  iintro HB
  iapply (load_word c arg1 fT (2048 * (p 0).val + 8 * k.val + 7) (k2_off22_eq p k)) $$ HT
  iintro HT
  iapply (pass c (show k2_chk8 _ from hchk 7 (by omega)))
  iapply (issue c arg1 arg2 arg3 arg4 fT fd G fs (p 0).val hT hp hG (8 * k.val + 7) (by omega) (hdst (k2_off23 k) 7 (k2_off23_eq k)) (hsrc 7 (by omega))) $$ HB
  iintro HB
  iapply (give c _)
  isplitl [HT]; · iexact HT
  iexact HB

/-- Before trip `k` of the drain loop: every transfer made, and `8k` rows' units taken. -/
def drainAt (k : ℕ) (_ : Unit) : sProp 𝕄 :=
  iprop(batch c arg1 arg2 arg3 arg4 fT G fs i 2048 (8 * k * units arg3) ∗ (∃ W, owes (c : Thread nD τ) 0 W))

/-- One row's units waited for. -/
theorem await (u : ℕ) (hu : u + units arg3 ≤ 2048 * units arg3) {srcw : Memref sig .tc .hbm S1x1024 .f32} {offd : Fin 3 → ℕ}
    {inbd : ∀ a, offd a + S1x1x1024.size a ≤ S256x8x1024.size a} {h1 h2} :
    iprop(batch c arg1 arg2 arg3 arg4 fT G fs i 2048 u ∗ (∃ W, owes (c : Thread nD τ) 0 W))
      ⊢ iprop((iprop(batch c arg1 arg2 arg3 arg4 fT G fs i 2048 (u + units arg3) ∗ (∃ W, owes (c : Thread nD τ) 0 W)) -∗ Q' ⟨⟩)
        -∗ wp frame (wpE (defs₀ (F := F)) Variants.none (c : Thread nD τ) none) Set.univ
          (Prog.lift (.waitDma2 arg4.sem srcw ((arg3.slice (Rect.unit (s := S256x8x1024) offd S1x1x1024.size inbd) (fun _ => rfl)).squeeze S1x1024 squeezes_S1x1x1024_S1x1024) h1 h2) : Prog (TpuEff nD τ sig (Elt F) Λ₀ .tc) PUnit) Q') := by
  iintro ⟨HB, ⟨%W, HO⟩⟩ Hk
  iapply (Transfers.wp_waitBatchMul (countersEmb (U := UU)) Variants.none (defs := defs₀ (F := F)) (c : Thread nD τ) none (srcw := srcw)
    (dstw := rowRef (A := 256) (W := 1024) arg3 offd inbd squeezes_S1x1x1024_S1x1024) (hsrc := h1) (hdst := h2) () (N := units arg3) 1
    (Nat.one_mul (units arg3)).symm (D := takes c arg1 arg2 arg3 fT fs i G) (j := 2048) (u := u) (by rw [Nat.one_mul, Nat.mul_comm (units arg3)]; exact hu)) $$ [HB HO]
  · isplitl [HB]; · iexact HB
    iexact HO
  rw [Nat.one_mul]
  iintro ⟨HB, HO⟩
  rw [wp_ret]
  imodintro
  iapply Hk
  isplitl [HB]; · iexact HB
  iexists _; iexact HO

/-- One trip of the drain loop: eight rows' units. -/
theorem drain_step (p : grid2.Coords) (k : Fin k2_t2_loop.trips) (acc : Unit) :
    drainAt c arg1 arg2 arg3 arg4 fT G fs i k.val acc
      ⊢ wp frame (wpE (defs₀ (F := F)) Variants.none (c : Thread nD τ) none) Set.univ (k2_t2_body (F := F) p arg1 harg1 arg2 harg2 arg3 harg3 arg4 k acc)
        (drainAt c arg1 arg2 arg3 arg4 fT G fs i (k.val + 1)) := by
  have hk : k.val < 256 := lt_of_lt_of_le k.isLt k2_t2_abs.2.1
  have le_units : ∀ u, u < 8 → (8 * k.val + u) * units arg3 + units arg3 ≤ 2048 * units arg3 := fun u hu => by
    rw [← Nat.succ_mul]; exact Nat.mul_le_mul_right _ (by omega)
  have hnext : ∀ u, (8 * k.val + u) * units arg3 + units arg3 = (8 * k.val + (u + 1)) * units arg3 := fun u => by
    rw [← Nat.succ_mul]; rfl
  unfold drainAt k2_t2_body k2_part3
  rw [show 8 * (k.val + 1) = 8 * k.val + 8 by omega, show 8 * k.val * units arg3 = (8 * k.val + 0) * units arg3 by rw [Nat.add_zero]]
  simp only [wp_bind]
  iintro HB
  iapply (await c arg1 arg2 arg3 arg4 fT G fs i ((8 * k.val + 0) * units arg3) (le_units 0 (by omega))) $$ HB
  iintro HB
  rw [hnext 0]
  iapply (await c arg1 arg2 arg3 arg4 fT G fs i ((8 * k.val + 1) * units arg3) (le_units 1 (by omega))) $$ HB
  iintro HB
  rw [hnext 1]
  iapply (await c arg1 arg2 arg3 arg4 fT G fs i ((8 * k.val + 2) * units arg3) (le_units 2 (by omega))) $$ HB
  iintro HB
  rw [hnext 2]
  iapply (await c arg1 arg2 arg3 arg4 fT G fs i ((8 * k.val + 3) * units arg3) (le_units 3 (by omega))) $$ HB
  iintro HB
  rw [hnext 3]
  iapply (await c arg1 arg2 arg3 arg4 fT G fs i ((8 * k.val + 4) * units arg3) (le_units 4 (by omega))) $$ HB
  iintro HB
  rw [hnext 4]
  iapply (await c arg1 arg2 arg3 arg4 fT G fs i ((8 * k.val + 5) * units arg3) (le_units 5 (by omega))) $$ HB
  iintro HB
  rw [hnext 5]
  iapply (give c _)
  iapply (await c arg1 arg2 arg3 arg4 fT G fs i ((8 * k.val + 6) * units arg3) (le_units 6 (by omega))) $$ HB
  iintro HB
  rw [hnext 6]
  iapply (await c arg1 arg2 arg3 arg4 fT G fs i ((8 * k.val + 7) * units arg3) (le_units 7 (by omega))) $$ HB
  iintro HB
  rw [hnext 7]
  iapply (give c _)
  iexact HB

theorem units_pos : 0 < units arg3 := View.dmaCredit_pos _ (by decide)

/-- One grid point: the block's rows those of the source at the places the table names, the source as it was. -/
theorem body (p : grid2.Coords) (hT : Good (arg1.view.read (Elt F) fT)) (hp : (p 0).val < 8) (hG : Fetched c arg1 arg2 arg3 fT G fs (p 0).val hT hp) :
    (iprop((arg1.view.loc (c : Thread nD τ) ↦{q} fT) ∗ (arg2.view.loc (c : Thread nD τ) ↦[arg2.view.set]{fullShare} fs)
        ∗ (arg3.view.loc (c : Thread nD τ) ↦[arg3.view.set]{fullShare} fd) ∗ semVal ((c : Thread nD τ), SemLoc.dma arg4.sem) 0
        ∗ (∃ W, owes (c : Thread nD τ) 0 W)) : sProp 𝕄)
      ⊢ wp frame (wpE (defs₀ (F := F)) Variants.none (c : Thread nD τ) none) Set.univ (cc2__gather_rows_kernel (F := F) p arg1 harg1 arg2 harg2 arg3 harg3 arg4)
        (fun _ => iprop((arg1.view.loc (c : Thread nD τ) ↦{q} fT) ∗ (arg2.view.loc (c : Thread nD τ) ↦[arg2.view.set]{fullShare} fs)
          ∗ (arg3.view.loc (c : Thread nD τ) ↦[arg3.view.set]{fullShare} G) ∗ semVal ((c : Thread nD τ), SemLoc.dma arg4.sem) 0
          ∗ (∃ W, owes (c : Thread nD τ) 0 W))) := by
  have hinj : Function.Injective (srcRow c arg1 fT (p 0).val) := fun t t' h => by
    have := hT.inj _ _ (by omega) (by omega) h
    exact Fin.ext (by omega)
  have hjoin : ∀ f, (bigSep Finset.univ (takes c arg1 arg2 arg3 fT fs (p 0).val f) : sProp 𝕄)
      = iprop((arg3.view.loc (c : Thread nD τ) ↦[arg3.view.set]{fullShare} f)
        ∗ bigSep Finset.univ (fun t => arg2.view.loc (c : Thread nD τ) ↦[vrow (A := 2304) (W := 1024) arg2.view (srcRow c arg1 fT (p 0).val t)]{fullShare} fs)) := fun f => by
    rw [rows_all (A := 256) (W := 1024) (n := 2048) (Ix := Unit) (Name := ℕ) (U := UU) (Lvl := ℕ) (c : Thread nD τ) arg3.view fullShare f rfl]
    exact BI.bigSep_sep _ _ _
  rw [cc2__gather_rows_kernel_eq_skeleton]
  unfold cc2__gather_rows_kernel_skel
  simp only [wp_bind]
  iintro ⟨HT, H2, H3, Hs, HO⟩
  ihave H2 := (rows_split (A := 2304) (W := 1024) (c : Thread nD τ) arg2.view _ hinj fullShare fs).1 $$ H2
  icases H2 with ⟨H2, Hr⟩
  ihave HR := (Entails.of_eq (hjoin fd).symm) $$ [H2 H3]
  · isplitl [H3]; · iexact H3
    iexact H2
  imod (Transfers.batch_alloc' (countersEmb (U := UU)) (c := (c : Thread nD τ)) (sm := .dma arg4.sem) () (units arg3) (takes c arg1 arg2 arg3 fT fs (p 0).val G)) $$ Hs with HB
  iapply (Scf.wp_for _ _ _ _ _ _ k2_t1_ok () _ (issueAt c arg1 arg2 arg3 arg4 fT q fd G fs (p 0).val)
    (issue_step c arg1 harg1 arg2 harg2 arg3 harg3 arg4 fT q fd G fs p hT hp hG _))
  isplitl [HT HR HB]
  · unfold issueAt
    isplitl [HT]; · iexact HT
    isplitl [HR]; · rw [Nat.mul_zero, Transfers.pending_zero]; iexact HR
    iexact HB
  iintro %acc HI
  rw [show Scf.trips k2_t1_loop.lb k2_t1_loop.ub k2_t1_loop.st = 256 by decide +kernel]
  unfold issueAt
  icases HI with ⟨HT, -, HB⟩
  iapply (Scf.wp_for _ _ _ _ _ _ k2_t2_ok () _ (drainAt c arg1 arg2 arg3 arg4 fT G fs (p 0).val)
    (drain_step c arg1 harg1 arg2 harg2 arg3 harg3 arg4 fT G fs (p 0).val p))
  isplitl [HB HO]
  · unfold drainAt
    rw [Nat.mul_zero, Nat.zero_mul]
    isplitl [HB]; · iexact HB
    iexact HO
  iintro %acc HI
  rw [show Scf.trips k2_t2_loop.lb k2_t2_loop.ub k2_t2_loop.st = 256 by decide +kernel]
  unfold drainAt
  rw [show 8 * 256 * units arg3 = units arg3 * 2048 from Nat.mul_comm _ _]
  icases HI with ⟨HB, HO⟩
  imod (Transfers.batch_collect' (countersEmb (U := UU)) (c : Thread nD τ) (units_pos arg3)) $$ HB with ⟨HR, Hs⟩
  iapply (give c _)
  ihave HR := (Entails.of_eq (hjoin G)) $$ HR
  icases HR with ⟨H3, H2⟩
  isplitl [HT]; · iexact HT
  isplitl [H2 Hr]
  · iapply (rows_split (A := 2304) (W := 1024) (c : Thread nD τ) arg2.view _ hinj fullShare fs).2
    isplitl [H2]; · iexact H2
    iexact Hr
  isplitl [H3]; · iexact H3
  isplitl [Hs]; · iexact Hs
  iexact HO

end Cert.Gather

end
-- ==== Proof.Points.lean ====
/- The two row movers at one grid point, told by what their operands hold. -/
module

public import proofs.«01_k».proof.Proof.Gather

@[expose] public section

set_option maxRecDepth 16384

noncomputable section

namespace Cert.Points

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows
open Cert.Scatter (UU word place Good)

variable {F : FTy → Type} [FloatOps F]

local notation "𝕄" => MT nD τ sig Unit (Elt F) ℕ UU ℕ

section Contents

variable (T : S16384.Idx → BitVec 32) (X : (S3 2048 1152).Idx → Elt F .f32) (Z : (S3 2304 1152).Idx → Elt F .f32) (Y : (S3 2304 1024).Idx → Elt F .f32)

open Classical in
/-- `Z` with the first `j` rows of `X` at the places the table names. -/
def placed (j : ℕ) : (S3 2304 1152).Idx → Elt F .f32 := fun y =>
  if h : ∃ n, n < j ∧ n < 16384 ∧ place T n = rowOf y then X (at3 h.choose (by have := h.choose_spec.2.1; omega) (laneOf y)) else Z y

variable {T}

theorem placed_at (hT : Good T) {j n : ℕ} (hn : n < j) (hn' : n < 16384) (y : (S3 2304 1152).Idx) (hy : place T n = rowOf y) :
    placed T X Z j y = X (at3 n (by omega) (laneOf y)) := by
  have h : ∃ n, n < j ∧ n < 16384 ∧ place T n = rowOf y := ⟨n, hn, hn', hy⟩
  have e : h.choose = n := hT.inj _ _ h.choose_spec.2.1 hn' (h.choose_spec.2.2.trans hy.symm)
  unfold placed
  rw [dif_pos h]
  congr 1
  have : ∀ p (hp : p < 8 * 2048), p = n → at3 (A := 2048) p hp (laneOf y) = at3 n (by omega) (laneOf y) := by rintro p hp rfl; rfl
  exact this _ _ e

theorem placed_far {j : ℕ} (y : (S3 2304 1152).Idx) (hy : ∀ n, n < j → n < 16384 → place T n ≠ rowOf y) : placed T X Z j y = Z y := by
  unfold placed
  rw [dif_neg]
  rintro ⟨n, h1, h2, h3⟩
  exact hy n h1 h2 h3

theorem placed_zero : placed T X Z 0 = Z := funext fun y => placed_far X Z y fun n h => absurd h (Nat.not_lt_zero n)

theorem placed_step (hT : Good T) (i : ℕ) (y : (S3 2304 1152).Idx) (hy : ∀ t : Fin 2048, rowOf y ≠ place T (2048 * i + t.val)) :
    placed T X Z (2048 * i) y = placed T X Z (2048 * (i + 1)) y := by
  by_cases h : ∃ n, n < 2048 * i ∧ n < 16384 ∧ place T n = rowOf y
  · obtain ⟨n, h1, h2, h3⟩ := h
    rw [placed_at X Z hT h1 h2 y h3, placed_at X Z hT (by omega) h2 y h3]
  · rw [placed_far X Z y fun n h1 h2 h3 => h ⟨n, h1, h2, h3⟩, placed_far X Z y]
    intro n h1 h2 h3
    by_cases h4 : n < 2048 * i
    · exact h ⟨n, h4, h2, h3⟩
    · have := hy ⟨n - 2048 * i, by omega⟩
      rw [show 2048 * i + (⟨n - 2048 * i, by omega⟩ : Fin 2048).val = n from by show 2048 * i + (n - 2048 * i) = n; omega] at this
      exact this h3.symm

variable (T)

/-- The block of rows point `i` of the gather fetches from `Y` (row zero's where the table names none). -/
def fetched (i : ℕ) : (S3 256 1024).Idx → Elt F .f32 := fun y =>
  if h : place T (2048 * i + rowOf y) < 8 * 2304 then Y (at3 (place T (2048 * i + rowOf y)) h (laneOf y)) else Y (at3 0 (by omega) (laneOf y))

theorem fetched_at (i : ℕ) (y : (S3 256 1024).Idx) (h : place T (2048 * i + rowOf y) < 8 * 2304) :
    fetched T Y i y = Y (at3 (place T (2048 * i + rowOf y)) h (laneOf y)) := dif_pos h

end Contents

variable (c : Dev nD)

/-- One point of the scatter. -/
theorem scatter_point (arg1 : Memref sig .tc .smem S16384 .i32) (harg1 : arg1.IsWhole) (arg2 : Memref sig .tc .vmem S256x8x1152 .f32) (harg2 : arg2.IsWhole)
    (arg3 : Memref sig .tc .hbm S2304x8x1152 .f32) (harg3 : arg3.IsWhole) (arg4 : Memref sig .tc .hbm S2304x8x1152 .f32) (harg4 : arg4.IsWhole) (arg5 : DmaSems sig S_)
    (fT : Buf (Elt F) (arg1.view.loc (c : Thread nD τ))) (q : PosShare TreeShare)
    (X : (S3 2048 1152).Idx → Elt F .f32) (Z : (S3 2304 1152).Idx → Elt F .f32) (B : (S3 256 1152).Idx → Elt F .f32) (p : grid0.Coords)
    (hT : Good (arg1.view.read (Elt F) fT)) (hB : ∀ (t : Fin 2048) (h : 2048 * (p 0).val + t.val < 8 * 2048) (l : Fin 1152), B (at3 t.val t.isLt l) = X (at3 (2048 * (p 0).val + t.val) h l)) :
    (iprop((arg1.view.loc (c : Thread nD τ) ↦{q} fT) ∗ owns (c : Thread nD τ) arg2 fullShare B
        ∗ owns (c : Thread nD τ) arg4 fullShare (placed (arg1.view.read (Elt F) fT) X Z (2048 * (p 0).val))
        ∗ semVal ((c : Thread nD τ), SemLoc.dma arg5.sem) 0 ∗ (∃ W, owes (c : Thread nD τ) 0 W)) : sProp 𝕄)
      ⊢ wp frame (wpE (defs₀ (F := F)) Variants.none (c : Thread nD τ) none) Set.univ (cc0__scatter_rows_kernel (F := F) p arg1 harg1 arg2 harg2 arg3 harg3 arg4 harg4 arg5)
        (fun _ => iprop((arg1.view.loc (c : Thread nD τ) ↦{q} fT) ∗ owns (c : Thread nD τ) arg2 fullShare B
        ∗ owns (c : Thread nD τ) arg4 fullShare (placed (arg1.view.read (Elt F) fT) X Z (2048 * ((p 0).val + 1)))
        ∗ semVal ((c : Thread nD τ), SemLoc.dma arg5.sem) 0 ∗ (∃ W, owes (c : Thread nD τ) 0 W))) := by
  have hp : (p 0).val < 8 := (p 0).isLt
  unfold owns
  iintro ⟨HT, ⟨%fs, %hfs, H2⟩, ⟨%fd, %hfd, H4⟩, Hs, HO⟩
  have hread : arg4.view.read (Elt F) (arg4.view.write (Elt F) fd (placed (arg1.view.read (Elt F) fT) X Z (2048 * ((p 0).val + 1))) Finset.univ)
      = placed (arg1.view.read (Elt F) fT) X Z (2048 * ((p 0).val + 1)) := View.read_write_univ _ _
  iapply wp_wand $$ [HT H2 H4 Hs HO]
  · iapply (Cert.Scatter.body c arg1 harg1 arg2 harg2 arg3 harg3 arg4 harg4 arg5 fT q fd
      (arg4.view.write (Elt F) fd (placed (arg1.view.read (Elt F) fT) X Z (2048 * ((p 0).val + 1))) Finset.univ) fs p hT
      (fun t y hy => by
        rw [hread, hfs, placed_at X Z hT (n := 2048 * (p 0).val + t.val) (by omega) (by omega) y hy.symm]
        exact (hB t (by omega) (laneOf y)).symm)
      (fun y hy => by rw [hread, hfd]; exact placed_step X Z hT _ y hy))
    isplitl [HT]; · iexact HT
    isplitl [H2]; · iexact H2
    isplitl [H4]; · iexact H4
    isplitl [Hs]; · iexact Hs
    iexact HO
  iintro %u ⟨HT, H2, H4, Hs, HO⟩
  isplitl [HT]; · iexact HT
  isplitl [H2]
  · iexists fs; isplitr; · ipureintro; exact hfs
    iexact H2
  isplitl [H4]
  · iexists _; isplitr; · ipureintro; exact hread
    iexact H4
  isplitl [Hs]; · iexact Hs
  iexact HO

/-- One point of the gather. -/
theorem gather_point (arg1 : Memref sig .tc .smem S16384 .i32) (harg1 : arg1.IsWhole) (arg2 : Memref sig .tc .hbm S2304x8x1024 .f32) (harg2 : arg2.IsWhole)
    (arg3 : Memref sig .tc .vmem S256x8x1024 .f32) (harg3 : arg3.IsWhole) (arg4 : DmaSems sig S_)
    (fT : Buf (Elt F) (arg1.view.loc (c : Thread nD τ))) (q : PosShare TreeShare)
    (Y : (S3 2304 1024).Idx → Elt F .f32) (D : (S3 256 1024).Idx → Elt F .f32) (p : grid2.Coords)
    (hT : Good (arg1.view.read (Elt F) fT)) :
    (iprop((arg1.view.loc (c : Thread nD τ) ↦{q} fT) ∗ owns (c : Thread nD τ) arg2 fullShare Y
        ∗ owns (c : Thread nD τ) arg3 fullShare D
        ∗ semVal ((c : Thread nD τ), SemLoc.dma arg4.sem) 0 ∗ (∃ W, owes (c : Thread nD τ) 0 W)) : sProp 𝕄)
      ⊢ wp frame (wpE (defs₀ (F := F)) Variants.none (c : Thread nD τ) none) Set.univ (cc2__gather_rows_kernel (F := F) p arg1 harg1 arg2 harg2 arg3 harg3 arg4)
        (fun _ => iprop((arg1.view.loc (c : Thread nD τ) ↦{q} fT) ∗ owns (c : Thread nD τ) arg2 fullShare Y
        ∗ owns (c : Thread nD τ) arg3 fullShare (fetched (arg1.view.read (Elt F) fT) Y (p 0).val)
        ∗ semVal ((c : Thread nD τ), SemLoc.dma arg4.sem) 0 ∗ (∃ W, owes (c : Thread nD τ) 0 W))) := by
  have hp : (p 0).val < 8 := (p 0).isLt
  unfold owns
  iintro ⟨HT, ⟨%fs, %hfs, H2⟩, ⟨%fd, %hfd, H3⟩, Hs, HO⟩
  have hread : arg3.view.read (Elt F) (arg3.view.write (Elt F) fd (fetched (arg1.view.read (Elt F) fT) Y (p 0).val) Finset.univ)
      = fetched (arg1.view.read (Elt F) fT) Y (p 0).val := View.read_write_univ _ _
  iapply wp_wand $$ [HT H2 H3 Hs HO]
  · iapply (Cert.Gather.body c arg1 harg1 arg2 harg2 arg3 harg3 arg4 fT q fd
      (arg3.view.write (Elt F) fd (fetched (arg1.view.read (Elt F) fT) Y (p 0).val) Finset.univ) fs p hT hp
      (fun t y hy => by
        have hl : place (arg1.view.read (Elt F) fT) (2048 * (p 0).val + rowOf y) < 8 * 2304 := hT.lt _ (by rw [hy]; omega)
        rw [hread, hfs, fetched_at _ Y _ y hl]
        have : ∀ r (h : r < 8 * 2304), r = place (arg1.view.read (Elt F) fT) (2048 * (p 0).val + t.val) →
            at3 (A := 2304) r h (laneOf y) = at3 (place (arg1.view.read (Elt F) fT) (2048 * (p 0).val + t.val)) (hT.lt _ (by omega)) (laneOf y) := by rintro r h rfl; rfl
        exact congrArg Y (this _ _ (by rw [hy]))))
    isplitl [HT]; · iexact HT
    isplitl [H2]; · iexact H2
    isplitl [H3]; · iexact H3
    isplitl [Hs]; · iexact Hs
    iexact HO
  iintro %u ⟨HT, H2, H3, Hs, HO⟩
  isplitl [HT]; · iexact HT
  isplitl [H2]
  · iexists fs; isplitr; · ipureintro; exact hfs
    iexact H2
  isplitl [H3]
  · iexists _; isplitr; · ipureintro; exact hread
    iexact H3
  isplitl [Hs]; · iexact Hs
  iexact HO

end Cert.Points

end
-- ==== Proof.Expert.lean ====
/- The experts: one grid point takes 512 rows through the eight experts of the group its table entry names. -/
module

public import proofs.«01_k».proof.Proof.Points
public import Idealize.ShloMosaic.Lib.VecWindow

@[expose] public section

set_option maxRecDepth 16384

noncomputable section

namespace Cert.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows Cert.Scatter

variable {F : FTy → Type} [FloatOps F]

local notation "𝕄" => MT nD τ sig Unit (Elt F) ℕ UU ℕ

/-! ## What one point computes -/

/-- Contents at a rectangle's indices. -/
def cut {sh : Shape} {e : EltTy} (X : sh.Idx → Elt F e) (r : Rect sh) : r.shape.Idx → Elt F e := fun x => X (r.idx x)

/-- The index of entry `n` of the table of groups. -/
def mat (n : ℕ) (h : n < 128) : S128.Idx := fun a => ⟨n, by rw [Subsingleton.elim a 0]; exact h⟩

/-- Entry `n` of the table of groups. -/
def mword (M : S128.Idx → BitVec 32) (n : ℕ) : BitVec 32 := if h : n < 128 then M (mat n h) else 0

/-- Expert `e`'s weights fit in the group's. -/
theorem slab_inb (e : Fin 8) : ∀ a, (![0, e.val, 0, 0] : Fin 4 → ℕ) a + S1x1x1024x256.size a ≤ S1x8x1024x256.size a := by
  intro a
  have := e.isLt
  fin_cases a
  · show 0 + 1 ≤ 1; omega
  · show e.val + 1 ≤ 8; omega
  · show 0 + 1024 ≤ 1024; omega
  · show 0 + 256 ≤ 256; omega

/-- Expert `e`'s weights of a group's. -/
def slab (A : S1x8x1024x256.Idx → Elt F .f32) (e : Fin 8) : Vec F S1x1x1024x256 .f32 :=
  cut A (Rect.unit (s := S1x8x1024x256) ![0, e.val, 0, 0] S1x1x1024x256.size (slab_inb e))

/-- The rows without their gates. -/
def body (X : S512x1152.Idx → Elt F .f32) : Vec F S512x1024 .f32 :=
  cut X (Rect.unit (s := S512x1152) ![0, 0] S512x1024.size inb_S512x1152_S512x1024_0_0)

/-- The rows' gates. -/
def gates (X : S512x1152.Idx → Elt F .f32) : Vec F S512x128 .f32 :=
  cut X (Rect.unit (s := S512x1152) ![0, 1024] S512x128.size inb_S512x1152_S512x128_0_1024)

/-- The product with one expert's weights. -/
def proj (nx : FVec F S512x1024 .bf16) (w : Vec F S1x1x1024x256 .f32) : FVec F S512x256 .f32 :=
  matmul dot_S512x1024_S1024x256_S512x256_1_0_0_1_n_n none nx
    (truncf .bf16 (shapeCast S1024x256 w shapeCasts_S1x1x1024x256_S1024x256) bitsLt_bf16_f32) (constant S512x256 .f32 0x00000000#32)

/-- The gates of expert `s`, as a column. -/
def gateCol (gt : FVec F S512x128 .f32) (s : BitVec 32) : FVec F S512x1 .f32 :=
  shapeCast S512x1 (multiReduction .add [1] S512
    (select (cmpi .eq (iota .tc S512x128 32 [1] iota_S512x128_d1_w32) (broadcast S512x128 s)) gt
      (broadcast S512x128 (Scalar.ofBits .f32 0x00000000#32 : F .f32))) 0x00000000#32 reduces_S512x128_S512 (.inl rfl) rfl) shapeCasts_S512_S512x1

/-- One expert's hidden row, gated. -/
def hid (nx : FVec F S512x1024 .bf16) (gt : FVec F S512x128 .f32) (s : BitVec 32) (wg wu : Vec F S1x1x1024x256 .f32) : FVec F S512x256 .bf16 :=
  truncf .bf16 (mulf (mulf (mulf (proj nx wg) (logistic (proj nx wg))) (proj nx wu)) (broadcastTo S512x256 (gateCol gt s) broadcasts_S512x1_S512x256)) bitsLt_bf16_f32

/-- The hidden rows through the last product, added to the rows. -/
def close (x : FVec F S512x1024 .f32) (h : Fin 8 → FVec F S512x256 .bf16) (C : Vec F S1x8x256x1024 .f32) : FVec F S512x1024 .f32 :=
  addf x (matmul dot_S512x2048_S2048x1024_S512x1024_1_0_0_1_n_n none
    (concatenate S512x2048 1 [⟨S512x256, h 0⟩, ⟨S512x256, h 1⟩, ⟨S512x256, h 2⟩, ⟨S512x256, h 3⟩, ⟨S512x256, h 4⟩, ⟨S512x256, h 5⟩, ⟨S512x256, h 6⟩, ⟨S512x256, h 7⟩] concatenates_S512x256_S512x256_S512x256_S512x256_S512x256_S512x256_S512x256_S512x256_S512x2048_d1)
    (truncf .bf16 (shapeCast S2048x1024 (shapeCast S8x256x1024 C shapeCasts_S1x8x256x1024_S8x256x1024) shapeCasts_S8x256x1024_S2048x1024) bitsLt_bf16_f32)
    (constant S512x1024 .f32 0x00000000#32))

/-- A point's rows through the experts of group `g`. -/
def through (g : BitVec 32) (X : S512x1152.Idx → Elt F .f32) (gf : Vec F S1x1024 .f32) (A B : S1x8x1024x256.Idx → Elt F .f32)
    (C : Vec F S1x8x256x1024 .f32) : FVec F S512x1024 .f32 :=
  close (k1_pay3 (body X))
    (fun e => hid (k1_pay5 (body X) gf) (k1_pay4 (gates X)) (Scalar.addi (Scalar.muli g 8#32) (BitVec.ofNat 32 e.val)) (slab A e) (slab B e)) C

/-- What point `p` leaves in its block: the rows through their group's experts, or zeros past the blocks in use. -/
def block (M : S128.Idx → BitVec 32) (p : grid1.Coords) (X : S512x1152.Idx → Elt F .f32) (gf : Vec F S1x1024 .f32)
    (A B : S1x8x1024x256.Idx → Elt F .f32) (C : Vec F S1x8x256x1024 .f32) : FVec F S512x1024 .f32 :=
  if k1_cond1 p (mword M 64) = 1#1 then through (mword M (p 0).val) X gf A B C else k1_pay2

/-- The printed composition is the eight experts'. -/
theorem closes (x : Vec F S512x1024 .f32) (gr : Vec F S512x128 .f32) (gf : Vec F S1x1024 .f32) (w : BitVec 32) (a b : Fin 8 → Vec F S1x1x1024x256 .f32)
    (C : Vec F S1x8x256x1024 .f32) :
    k1_pay1 (k1_pay3 x) (k1_pay9 (k1_pay6 x gf (a 0)) (k1_pay7 x gf (b 0)) (k1_pay8 gr w))
      (k1_pay10 (k1_pay4 gr) (k1_pay5 x gf) (iota Kind.tc S512x128 32 [1] iota_S512x128_d1_w32) (Scalar.muli w 8#32) (a 1) (b 1))
      (k1_pay13 (k1_pay4 gr) (iota Kind.tc S512x128 32 [1] iota_S512x128_d1_w32) (k1_pay11 (k1_pay5 x gf) (a 2)) (k1_pay12 (k1_pay5 x gf) (b 2))
        (Scalar.addi (Scalar.muli w 8#32) 2#32))
      (k1_pay14 (k1_pay4 gr) (k1_pay5 x gf) (iota Kind.tc S512x128 32 [1] iota_S512x128_d1_w32) (Scalar.muli w 8#32) (a 3) (b 3))
      (k1_pay16 (k1_pay4 gr) (k1_pay5 x gf) (iota Kind.tc S512x128 32 [1] iota_S512x128_d1_w32) (Scalar.muli w 8#32) (k1_pay15 (k1_pay5 x gf) (a 4)) (b 4))
      (k1_pay17 (k1_pay4 gr) (k1_pay5 x gf) (iota Kind.tc S512x128 32 [1] iota_S512x128_d1_w32) (Scalar.muli w 8#32) (a 5) (b 5))
      (k1_pay18 (k1_pay4 gr) (k1_pay5 x gf) (iota Kind.tc S512x128 32 [1] iota_S512x128_d1_w32) (Scalar.muli w 8#32) (a 6) (b 6))
      (k1_pay19 (k1_pay5 x gf) (b 7)) (k1_pay20 (k1_pay4 gr) (iota Kind.tc S512x128 32 [1] iota_S512x128_d1_w32) (Scalar.muli w 8#32))
      (k1_pay21 (k1_pay5 x gf) (a 7)) C
    = close (k1_pay3 x) (fun e => hid (k1_pay5 x gf) (k1_pay4 gr) (Scalar.addi (Scalar.muli w 8#32) (BitVec.ofNat 32 e.val)) (a e) (b e)) C := rfl

/-! ## The memory operations -/

variable (c : Dev nD)

/-- The table's word loaded. -/
theorem load_meta {Q : BitVec 32 → sProp (MT nD τ sig Unit (Elt F) ℕ UU ℕ)} (arg1 : Memref sig .tc .smem S128 .i32)
    (fT : Buf (Elt F) (arg1.view.loc (c : Thread nD τ)))
    {off : Fin 1 → ℕ} {inb : ∀ a, off a + S1.size a ≤ S128.size a} (n : ℕ) (hn : off = ![n]) {h1 hp} {q : PosShare TreeShare} :
    (arg1.view.loc (c : Thread nD τ) ↦{q} fT : sProp 𝕄)
      ⊢ iprop(((arg1.view.loc (c : Thread nD τ) ↦{q} fT) -∗ Q (mword (arg1.view.read (Elt F) fT) n))
        -∗ wp frame (wpE (defs₀ (F := F)) Variants.none (c : Thread nD τ) none) Set.univ
          (smemLoad arg1 (Rect.unit (s := S128) off S1.size inb) h1 hp : Prog (TpuEff nD τ sig (Elt F) Λ₀ .tc) (Elt F .i32)) Q) := by
  have hlt : n < 128 := by
    have h0 : off 0 + 1 ≤ 128 := inb 0
    rw [hn] at h0; simp only [Matrix.cons_val_zero] at h0; omega
  unfold smemLoad
  have hw : ∀ x, (arg1.access (Rect.unit (s := S128) off S1.size inb)).read (Elt F) fT x = mword (arg1.view.read (Elt F) fT) n := by
    intro x
    unfold mword
    rw [dif_pos hlt]
    show arg1.view.read (Elt F) fT _ = _
    congr 1
    funext a
    obtain rfl : a = 0 := Subsingleton.elim _ _
    apply Fin.ext
    show off 0 + 1 * (x 0).val = n
    have hz1 : (x 0).val < 1 := (x 0).isLt
    have hn0 : off 0 = n := by rw [hn]; rfl
    omega
  iintro HT Hk
  iapply (wp_smemLoadElt (defs := defs₀ (F := F)) Variants.none (c : Thread nD τ) none Set.univ (m := arg1) (r := Rect.unit (s := S128) off S1.size inb) (S := Finset.univ) (f := fT) (Finset.subset_univ _)) $$ HT
  iintro HT
  rw [hw, wp_ret]
  imodintro
  iapply Hk $$ HT

/-- A rectangle of a held buffer loaded. -/
theorem load_part {cs : CoreSpace} {sh : Shape} {e : EltTy} (m : Memref sig .tc cs sh e) (r : Rect sh) {hl} (X : sh.Idx → Elt F e)
    {Q : (r.shape.Idx → Elt F e) → sProp (MT nD τ sig Unit (Elt F) ℕ UU ℕ)} :
    (owns (c : Thread nD τ) m fullShare X : sProp 𝕄)
      ⊢ iprop((owns (c : Thread nD τ) m fullShare X -∗ Q (cut X r))
        -∗ wp frame (wpE (defs₀ (F := F)) Variants.none (c : Thread nD τ) none) Set.univ
          (Prog.lift (.load m r.toLoadRect hl) : Prog (TpuEff nD τ sig (Elt F) Λ₀ .tc) (r.shape.Idx → Elt F e)) Q) := by
  iintro H Hk
  unfold owns
  icases H with ⟨%f, %hf, H⟩
  subst hf
  have hk : cut (m.view.read (Elt F) f) r = m.view.readAt (Elt F) r.toLoadRect f := rfl
  rw [hk]
  iapply (wp_load (defs := defs₀ (F := F)) Variants.none (c : Thread nD τ) none Set.univ (m := m) (r := r.toLoadRect) (S := m.view.set) (f := f) (View.setOn_subset_set _ _)) $$ H
  iintro H
  rw [wp_ret]
  imodintro
  iapply Hk
  iexists f
  isplitr
  · ipureintro; rfl
  iexact H

/-- A held buffer loaded whole. -/
theorem load_all {cs : CoreSpace} {sh : Shape} {e : EltTy} (m : Memref sig .tc cs sh e) {off : Fin sh.rank → ℕ} (inb : ∀ a, off a + sh.size a ≤ sh.size a) {hl}
    (X : sh.Idx → Elt F e) {Q : (sh.Idx → Elt F e) → sProp (MT nD τ sig Unit (Elt F) ℕ UU ℕ)} :
    (owns (c : Thread nD τ) m fullShare X : sProp 𝕄)
      ⊢ iprop((owns (c : Thread nD τ) m fullShare X -∗ Q X)
        -∗ wp frame (wpE (defs₀ (F := F)) Variants.none (c : Thread nD τ) none) Set.univ
          (Prog.lift (.load m (Rect.unit off sh.size inb).toLoadRect hl) : Prog (TpuEff nD τ sig (Elt F) Λ₀ .tc) (sh.Idx → Elt F e)) Q) := by
  have hk : cut (F := F) X (Rect.unit off sh.size inb) = X := by
    funext y
    exact congrArg X (funext fun a => Fin.ext (by
      show off a + 1 * (y a).val = (y a).val
      have := inb a; omega))
  have h := load_part (F := F) c m (Rect.unit off sh.size inb) (hl := hl) X (Q := Q)
  rw [hk] at h
  exact h

/-- A held buffer stored whole. -/
theorem store_all {cs : CoreSpace} {sh : Shape} {e : EltTy} (m : Memref sig .tc cs sh e) {off : Fin sh.rank → ℕ} (inb : ∀ a, off a + sh.size a ≤ sh.size a)
    (X w : sh.Idx → Elt F e) {hx hm} {Q : PUnit → sProp (MT nD τ sig Unit (Elt F) ℕ UU ℕ)} :
    (owns (c : Thread nD τ) m fullShare X : sProp 𝕄)
      ⊢ iprop((owns (c : Thread nD τ) m fullShare w -∗ Q ⟨⟩)
        -∗ wp frame (wpE (defs₀ (F := F)) Variants.none (c : Thread nD τ) none) Set.univ
          (Prog.lift (.store m (Rect.unit off sh.size inb) w Finset.univ hx hm) : Prog (TpuEff nD τ sig (Elt F) Λ₀ .tc) PUnit) Q) := by
  iintro H Hk
  unfold owns
  icases H with ⟨%f, %hf, H⟩
  iapply (wp_store_writes₀ (defs := defs₀ (F := F)) Variants.none (c : Thread nD τ) none Set.univ (m := m) (r := Rect.unit off sh.size inb) (w := w) (S := m.view.set) (f := f) (View.set_slice_subset _ _)) $$ H
  iintro H
  rw [wp_ret]
  imodintro
  iapply Hk
  iexists (m.view.writes (Elt F) f [⟨Rect.unit off sh.size inb, w⟩])
  isplitr
  · ipureintro; exact View.read_writes_full m.view f inb w []
  iexact H

/-- A value returned. -/
theorem give_eq {α : Type} {Q : α → sProp (MT nD τ sig Unit (Elt F) ℕ UU ℕ)} (a : α) :
    wp frame (wpE (defs₀ (F := F)) Variants.none (c : Thread nD τ) none) Set.univ (Pure.pure a : Prog (TpuEff nD τ sig (Elt F) Λ₀ .tc) α) Q = iprop(|={Set.univ}=> Q a) := by
  show wp frame (wpE (defs₀ (F := F)) Variants.none (c : Thread nD τ) none) Set.univ (.ret a) Q = _
  rw [wp_ret]

/-! ## The conditions -/

/-- The point's own entry of the table. -/
theorem off_own (p : grid1.Coords) : k1_off2 p = ![(p 0).val] := by
  have h : (p 0).val < 36 := (p 0).isLt
  show (![(BitVec.ofNat 32 (p 0).val).toNat] : Fin 1 → ℕ) = _
  rw [BitVec.toNat_ofNat, Nat.mod_eq_of_lt (by omega)]

/-- The two conditions exclude one another, and one of them holds. -/
theorem cond_iff (p : grid1.Coords) (v : BitVec 32) : k1_cond2 p v = 1#1 ↔ ¬ k1_cond1 p v = 1#1 := by
  unfold k1_cond1 k1_cond2
  generalize BitVec.ofNat 32 (p 0).val = a
  have h : a.slt v = !(v.sle a) := by
    rw [Bool.eq_iff_iff, BitVec.slt_iff_toInt_lt, Bool.not_eq_true', ← Bool.not_eq_true, BitVec.sle_iff_toInt_le]; omega
  simp only [Scalar.cmpi, Scalar.extui, IntOp.cmpi, h]
  generalize v.sle a = b
  revert b; decide

section Point

variable (arg1 : Memref sig .tc .smem S128 .i32) (harg1 : arg1.IsWhole) (arg2 : Memref sig .tc .vmem S512x1152 .f32) (harg2 : arg2.IsWhole)
  (arg3 : Memref sig .tc .vmem S1x1024 .f32) (harg3 : arg3.IsWhole) (arg4 : Memref sig .tc .vmem S1x8x1024x256 .f32) (harg4 : arg4.IsWhole)
  (arg5 : Memref sig .tc .vmem S1x8x1024x256 .f32) (harg5 : arg5.IsWhole) (arg6 : Memref sig .tc .vmem S1x8x256x1024 .f32) (harg6 : arg6.IsWhole)
  (arg7 : Memref sig .tc .vmem S512x1024 .f32) (harg7 : arg7.IsWhole)
variable (fM : Buf (Elt F) (arg1.view.loc (c : Thread nD τ))) (q : PosShare TreeShare) (p : grid1.Coords)
  (X : S512x1152.Idx → Elt F .f32) (gf : S1x1024.Idx → Elt F .f32) (A B : S1x8x1024x256.Idx → Elt F .f32) (C : S1x8x256x1024.Idx → Elt F .f32) (D : S512x1024.Idx → Elt F .f32)

/-- One point of the experts' grid. -/
theorem expert_point :
    iprop((arg1.view.loc (c : Thread nD τ) ↦{q} fM) ∗ owns (c : Thread nD τ) arg2 fullShare X ∗ owns (c : Thread nD τ) arg3 fullShare gf
      ∗ owns (c : Thread nD τ) arg4 fullShare A ∗ owns (c : Thread nD τ) arg5 fullShare B ∗ owns (c : Thread nD τ) arg6 fullShare C
      ∗ owns (c : Thread nD τ) arg7 fullShare D)
      ⊢ wp frame (wpE (defs₀ (F := F)) Variants.none (c : Thread nD τ) none) Set.univ
          (cc1__expert_kernel p arg1 harg1 arg2 harg2 arg3 harg3 arg4 harg4 arg5 harg5 arg6 harg6 arg7 harg7 : Prog (TpuEff nD τ sig (Elt F) Λ₀ .tc) PUnit)
          fun _ => iprop((arg1.view.loc (c : Thread nD τ) ↦{q} fM) ∗ owns (c : Thread nD τ) arg2 fullShare X ∗ owns (c : Thread nD τ) arg3 fullShare gf
            ∗ owns (c : Thread nD τ) arg4 fullShare A ∗ owns (c : Thread nD τ) arg5 fullShare B ∗ owns (c : Thread nD τ) arg6 fullShare C
            ∗ (owns (c : Thread nD τ) arg7 fullShare (block (arg1.view.read (Elt F) fM) p X gf A B C) : sProp 𝕄)) := by
  rw [cc1__expert_kernel_eq_skeleton]
  unfold cc1__expert_kernel_skel
  simp only [wp_bind]
  iintro ⟨HM, H2, H3, H4, H5, H6, H7⟩
  iapply (load_meta c arg1 fM 64 rfl) $$ HM
  iintro HM
  by_cases hc : k1_cond1 p (mword (arg1.view.read (Elt F) fM) 64) = 1#1
  · have hc2 : ¬ k1_cond2 p (mword (arg1.view.read (Elt F) fM) 64) = 1#1 := fun h => (cond_iff p _).mp h hc
    simp only [dif_pos hc, k1_part1_eq_skeleton, k1_part2_eq_skeleton, k1_part3_eq_skeleton, k1_part4_eq_skeleton, k1_part5_eq_skeleton]
    unfold k1_part1_skel k1_part2_skel k1_part3_skel k1_part4_skel k1_part5_skel
    simp only [wp_bind]
    iapply (load_part c arg2 _ X) $$ H2
    iintro H2
    iapply (load_part c arg2 _ X) $$ H2
    iintro H2
    iapply (load_all c arg3 _ gf) $$ H3
    iintro H3
    iapply (load_meta c arg1 fM (p 0).val (off_own p)) $$ HM
    iintro HM
    iapply (load_part c arg4 _ A) $$ H4
    iintro H4
    iapply (load_part c arg5 _ B) $$ H5
    iintro H5
    iapply (give c _)
    iapply (load_part c arg4 _ A) $$ H4
    iintro H4
    iapply (load_part c arg5 _ B) $$ H5
    iintro H5
    iapply (load_part c arg4 _ A) $$ H4
    iintro H4
    iapply (load_part c arg5 _ B) $$ H5
    iintro H5
    iapply (give c _)
    iapply (load_part c arg4 _ A) $$ H4
    iintro H4
    iapply (load_part c arg5 _ B) $$ H5
    iintro H5
    iapply (load_part c arg4 _ A) $$ H4
    iintro H4
    iapply (give c _)
    iapply (load_part c arg5 _ B) $$ H5
    iintro H5
    iapply (load_part c arg4 _ A) $$ H4
    iintro H4
    iapply (load_part c arg5 _ B) $$ H5
    iintro H5
    iapply (give c _)
    iapply (load_part c arg4 _ A) $$ H4
    iintro H4
    iapply (load_part c arg5 _ B) $$ H5
    iintro H5
    iapply (load_part c arg4 _ A) $$ H4
    iintro H4
    iapply (load_part c arg5 _ B) $$ H5
    iintro H5
    iapply (give c _)
    iapply (load_all c arg6 _ C) $$ H6
    iintro H6
    iapply (load_part c arg7 _ D) $$ H7
    iintro H7
    iapply (store_all c arg7 _ D _) $$ H7
    iintro H7
    iapply (load_meta c arg1 fM 64 rfl) $$ HM
    iintro HM
    simp only [dif_neg hc2]
    iapply (give c _)
    have hb : block (arg1.view.read (Elt F) fM) p X gf A B C = through (mword (arg1.view.read (Elt F) fM) (p 0).val) X gf A B C := if_pos hc
    have hcl := closes (body X) (gates X) gf (mword (arg1.view.read (Elt F) fM) (p 0).val) (slab A) (slab B) C
    rw [hb]
    unfold through
    rw [← hcl]
    isplitl [HM]; iexact HM
    isplitl [H2]; iexact H2
    isplitl [H3]; iexact H3
    isplitl [H4]; iexact H4
    isplitl [H5]; iexact H5
    isplitl [H6]; iexact H6
    iexact H7
  · have hc2 : k1_cond2 p (mword (arg1.view.read (Elt F) fM) 64) = 1#1 := (cond_iff p _).mpr hc
    simp only [dif_neg hc, wp_bind]
    iapply (load_meta c arg1 fM 64 rfl) $$ HM
    iintro HM
    simp only [dif_pos hc2, wp_bind]
    iapply (load_part c arg7 _ D) $$ H7
    iintro H7
    iapply (store_all c arg7 _ D (k1_pay2 (F := F))) $$ H7
    iintro H7
    iapply (give c _)
    have hb : block (arg1.view.read (Elt F) fM) p X gf A B C = k1_pay2 := if_neg hc
    rw [hb]
    isplitl [HM]; iexact HM
    isplitl [H2]; iexact H2
    isplitl [H3]; iexact H3
    isplitl [H4]; iexact H4
    isplitl [H5]; iexact H5
    isplitl [H6]; iexact H6
    iexact H7

end Point

end Cert.Expert
-- ==== Proof.Seg.lean ====
/- One call of the kernel as a segment of the program: everything the core holds, before and after. -/
module

public import proofs.«01_k».proof.Proof.Expert
public import proofs.«01_k».proof.Proof.Gen.KernelIdeal.Regions
public import Idealize.ShloMosaic.Lib.Pipeline.RegionArraysDT

@[expose] public section

set_option maxRecDepth 16384
set_option backward.isDefEq.respectTransparency.types false

noncomputable section

namespace Cert.Seg

open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows Cert.Scatter

variable {F : FTy → Type} [FloatOps F]

local notation "𝕄" => MT nD τ sig Unit (Elt F) ℕ UU ℕ

/-- No level is named: no core waits on another. -/
abbrev LL : GSem nD τ sig → Finset Unit := fun _ => ∅
/-- No level is named. -/
abbrev lvl : GSem nD τ sig → Unit → ℕ := fun _ _ => 0

variable (a : (p : Fin 3) → (pcfgs (F := F) p).Adm)
  (pdats : (p : Fin 3) → (c : Dev nD) → Dat τ (Elt F) Unit ℕ UU ℕ (pin (pcfgs (F := F)) a p) c)

/-- What a core holds beside its buffers. -/
def beside (c : Dev nD) : sProp 𝕄 := iprop((∃ r, prngReg c r) ∗ ∃ Wd, owes (c : Thread nD τ) (0 : CellTallies nD τ sig Unit) Wd)

/-- The buffers a call holds in its invariant, at contents `W`. -/
abbrev heldAt (H : Finset (Ref sig .tc)) (W : Valuation τ sig (Elt F)) (c : Dev nD) : sProp 𝕄 :=
  bigSep H fun b => ((c.tc : Thread nD τ).loc b) ↦{fullShare} W (Proc.devRef .tc b)

/-- A call from all the core's buffers at `W` to all of them at `W'`. -/
def segOf (p : Fin 3) {K : Type} [Fintype K] (osem : K → SemLoc sig) (ho : OwnSemFacts (pcfgs (F := F) p).spec osem)
    (H : Finset (Ref sig .tc)) (kit : PLaunchFacts (nD := nD) (τ := τ) (pcfgs (F := F)) p)
    (hbody : ∀ c, BodyObligationLoose (pdats p c) defs₀ Variants.none () Set.univ)
    (howed : ∀ c t, (pdats p c).owed t = 0) (hrec : ∀ c, (pdats p c).recorded 0 = Set.univ)
    (hshare : ∀ c w, (pdats p c).share w = fullShare)
    (W W' : Dev nD → Valuation τ sig (Elt F))
    (hin : ∀ c : Dev nD, iprop(scopedRest (pin (pcfgs (F := F)) a p).spec c ∗ (∃ r, prngReg c r) ∗ ownSems0 osem c ∗ heldAt H (W c) c
        ∗ tablesAt (pcfgs (F := F)) a p c) ⊢ ((pdats p c).Φ 0 : sProp 𝕄))
    (hout : ∀ c : Dev nD, ((pdats p c).Φ (Fin.last (pin (pcfgs (F := F)) a p).N) : sProp 𝕄)
        ⊢ iprop(scopedRest (pin (pcfgs (F := F)) a p).spec c ∗ (∃ r, prngReg c r) ∗ ownSems0 osem c ∗ heldAt H (W' c) c ∗ tablesAt (pcfgs (F := F)) a p c))
    (hA : arrRefs (τ := τ) (pcfgs (F := F) p).spec ⊆ ucRefs τ sig)
    (hTb : tblRefs (τ := τ) (pcfgs (F := F) p).pre ⊆ ucRefs τ sig \ arrRefs (τ := τ) (pcfgs (F := F) p).spec)
    (hH : hbmRefs (τ := τ) H ⊆ (ucRefs τ sig \ arrRefs (τ := τ) (pcfgs (F := F) p).spec) \ tblRefs (τ := τ) (pcfgs (F := F) p).pre)
    (hrest : ∀ c, ∀ b ∈ ((ucRefs τ sig \ arrRefs (τ := τ) (pcfgs (F := F) p).spec) \ tblRefs (τ := τ) (pcfgs (F := F) p).pre) \ hbmRefs (τ := τ) H, W' c b = W c b)
    (hW : ∀ c w, (pdats p c).arrAt w 0 = W c (Proc.devRef .tc (arrRef (pin (pcfgs (F := F)) a p).spec w)))
    (hT : ∀ c k, (a p).1 k = W c (Proc.devRef .tc ((pcfgs (F := F) p).pre.ref k)))
    (hW' : ∀ c w, (pdats p c).arrAt w (pin (pcfgs (F := F)) a p).N = W' c (Proc.devRef .tc (arrRef (pin (pcfgs (F := F)) a p).spec w)))
    (hT' : ∀ c k, (a p).1 k = W' c (Proc.devRef .tc ((pcfgs (F := F) p).pre.ref k))) :
    RegionSeg (pcfgs (F := F)) a pdats () defs₀ Variants.none LL lvl p where
  win := kit.to₀.win
  block_pos := kit.to₀.block_pos
  stage_whole := kit.to₀.stage_whole
  K := K
  osem := osem
  ho := ho
  hbody := hbody
  hwaits := hwaits_of_owed_zero (pcfgs (F := F)) a pdats () LL lvl p howed
  pre c := iprop(StableHlo.held (c.tc : Thread nD τ) (ucRefs τ sig) (W c) ∗ beside c)
  post c := iprop(StableHlo.held (c.tc : Thread nD τ) (ucRefs τ sig) (W' c) ∗ beside c)
  X c := iprop((∃ r, prngReg c r) ∗ ownSems0 osem c ∗ heldAt H (W c) c)
  Y c := iprop((∃ r, prngReg c r) ∗ heldAt H (W' c) c ∗ tablesAt (pcfgs (F := F)) a p c)
  Z c := StableHlo.held (c.tc : Thread nD τ) (((ucRefs τ sig \ arrRefs (τ := τ) (pcfgs (F := F) p).spec) \ tblRefs (τ := τ) (pcfgs (F := F) p).pre) \ hbmRefs (τ := τ) H) (W c)
  hentry c := by
    rw [StableHlo.held_sub_split (c.tc : Thread nD τ) hA (W c),
      StableHlo.held_sub_split (c.tc : Thread nD τ) hTb (W c), StableHlo.held_sub_split (c.tc : Thread nD τ) hH (W c), held_hbm,
      ← arrays_held (pcfgs (F := F)) a pdats p kit c (hshare c) ((pdats p c).arrAt · 0) (W c) (hW c),
      ← prefHeld_held (pcfgs (F := F) p).pre kit.pre.inj c (a p).1 (W c) (hT c)]
    unfold beside
    iintro ⟨⟨⟨Ha, Hpf, HH, Hr⟩, Hp, HO⟩, Hos, HL⟩
    imodintro
    isplitl [Ha]; · iexact Ha
    isplitl [Hpf]; · iexact Hpf
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp Hos HH]
    · isplitl [Hp]; · iexact Hp
      isplitl [Hos]; · iexact Hos
      iexact HH
    iexact Hr
  hin c := (show _ ⊢ iprop(scopedRest (pin (pcfgs (F := F)) a p).spec c ∗ (∃ r, prngReg c r) ∗ ownSems0 osem c ∗ heldAt H (W c) c
        ∗ tablesAt (pcfgs (F := F)) a p c) from by
    iintro ⟨⟨Hp, Hos, HH⟩, Hpf, Hr⟩
    isplitl [Hr]; · iexact Hr
    isplitl [Hp]; · iexact Hp
    isplitl [Hos]; · iexact Hos
    isplitl [HH]; · iexact HH
    iexact Hpf).trans (hin c)
  hout c := (hout c).trans (by
    iintro ⟨Hr, Hp, Hos, HH, Hpf⟩
    isplitl [Hp HH Hpf]
    · isplitl [Hp]; · iexact Hp
      isplitl [HH]; · iexact HH
      iexact Hpf
    isplitl [Hos]; · iexact Hos
    iexact Hr)
  hexit c := by
    have hZ : (StableHlo.held (c.tc : Thread nD τ) (((ucRefs τ sig \ arrRefs (τ := τ) (pcfgs (F := F) p).spec) \ tblRefs (τ := τ) (pcfgs (F := F) p).pre) \ hbmRefs (τ := τ) H) (W c) : sProp 𝕄)
        = StableHlo.held (c.tc : Thread nD τ) (((ucRefs τ sig \ arrRefs (τ := τ) (pcfgs (F := F) p).spec) \ tblRefs (τ := τ) (pcfgs (F := F) p).pre) \ hbmRefs (τ := τ) H) (W' c) := by
      unfold StableHlo.held
      exact bigSep_congr fun b hb => by rw [hrest c b hb]
    rw [hZ, StableHlo.held_sub_split (c.tc : Thread nD τ) hA (W' c),
      StableHlo.held_sub_split (c.tc : Thread nD τ) hTb (W' c), StableHlo.held_sub_split (c.tc : Thread nD τ) hH (W' c), held_hbm,
      ← arrays_held (pcfgs (F := F)) a pdats p kit c (hshare c) ((pdats p c).arrAt · (pin (pcfgs (F := F)) a p).N) (W' c) (hW' c),
      ← prefHeld_held (pcfgs (F := F) p).pre kit.pre.inj c (a p).1 (W' c) (hT' c)]
    unfold beside
    iintro ⟨Ha, HO, ⟨Hp, HH, Hpf⟩, Hr⟩
    imodintro
    isplitl [Ha Hpf HH Hr]
    · isplitl [Ha]; · iexact Ha
      isplitl [Hpf]; · iexact Hpf
      isplitl [HH]; · iexact HH
      iexact Hr
    isplitl [Hp]; · iexact Hp
    unfold Dat.owesAt owesWithin
    rw [howed c (Fin.last _)]
    icases HO with ⟨%Wd, -, HO⟩; iexists Wd; iexact HO

/-- A body run with `R` held aside. -/
theorem aside {c : Dev nD} {α : Type} {p : Prog (TpuEff nD τ sig (Elt F) Λ₀ .tc) α} {P R Pre : sProp 𝕄} {Q Q' : α → sProp 𝕄}
    (h : P ⊢ wp frame (wpE (defs₀ (F := F)) Variants.none (c : Thread nD τ) none) Set.univ p Q)
    (h1 : Pre ⊢ iprop(R ∗ P)) (h2 : ∀ u, iprop(R ∗ Q u) ⊢ Q' u) :
    Pre ⊢ wp frame (wpE (defs₀ (F := F)) Variants.none (c : Thread nD τ) none) Set.univ p Q' :=
  h1.trans ((sep_mono .rfl h).trans ((wp_frame_l _ _ _).trans (wp_mono _ _ _ h2)))

end Cert.Seg
-- ==== Proof.DatsScatter.lean ====
/- The scatter's call: its block contents from point to point, and that the body keeps to them. -/
module

public import proofs.«01_k».proof.Proof.Seg
public import Idealize.ShloMosaic.Lib.Pipeline.Value

@[expose] public section

set_option maxRecDepth 16384
set_option backward.isDefEq.respectTransparency.types false

noncomputable section

namespace Cert.Dats

open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows Cert.Scatter Cert.Points Cert.Seg

variable {F : FTy → Type} [FloatOps F]

local notation "𝕄" => MT nD τ sig Unit (Elt F) ℕ UU ℕ

/-- The scatter call's own semaphore. -/
def osem0 : Unit → SemLoc sig := fun _ => SemLoc.dma (cc0_scratch0).sem

/-- The table of the scatter, as its body reads it. -/
abbrev tab0 (a : (pcfg0 (F := F)).Adm) : S16384.Idx → Elt F .i32 := a.1 0

/-- What the scatter leaves of its destination after the points below `n`. -/
abbrev dest0 (a : (pcfg0 (F := F)).Adm) (W : Dev nD → Valuation τ sig (Elt F)) (c : Dev nD) (n : ℕ) : S2304x8x1152.Idx → Elt F .f32 :=
  placed (tab0 a) (W c (Proc.devRef .tc main_v0)) (W c (Proc.devRef .tc main_v1)) (2048 * n)

/-- The scatter's block contents and invariant. -/
def dat0 (a : (pcfg0 (F := F)).Adm) (W : Dev nD → Valuation τ sig (Elt F)) (c : Dev nD) : Dat τ (Elt F) Unit ℕ UU ℕ (cfg0 a) c where
  A w := W c (Proc.devRef .tc (arrRef spec0 w))
  after w t := match w with
    | ⟨0, _⟩ => (((cfg0 a).win 0).blk t).view.read (Elt F) (W c (Proc.devRef .tc main_v0))
  Φ n := iprop(scopedRest (cfg0 a).spec c ∗ (∃ r, prngReg c r) ∗ ownSems0 osem0 c
    ∗ ((((c.tc : Thread nD τ).loc main_v1) ↦{fullShare} dest0 a W c n.val))
    ∗ prefHeld (pcfg0 (F := F)).pre c (fun _ => fullShare) a.1)
  q _ := fullShare
  owed _ := 0

variable (a : (pcfg0 (F := F)).Adm) (W : Dev nD → Valuation τ sig (Elt F)) (c : Dev nD)

theorem before0 (t : Fin (cfg0 a).N) (d) : (dat0 a W c).before 0 t d = (((cfg0 a).win 0).blk t).view.read (Elt F) (W c (Proc.devRef .tc main_v0)) :=
  ((dat0 a W c).before_in_eq_fetched 0 rfl (fun _ => rfl) (fun _ _ _ => rfl) (fun _ => rfl) t d).trans rfl

/-- Row `8 i + j` of the block at point `t` is row `2048 t + …` of the array. -/
theorem block0_at (t : Fin (cfg0 a).N) (X : (S3 2048 1152).Idx → Elt F .f32) (r : ℕ) (hr : r < 8 * 256) (h : 2048 * ((cfg0 a).grid.coords t 0).val + r < 8 * 2048) (l : Fin 1152) :
    ((((cfg0 a).win 0).blk t).view.read (Elt F) (X : S2048x8x1152.Idx → Elt F .f32) : S256x8x1152.Idx → Elt F .f32) (at3 r hr l) = X (at3 (2048 * ((cfg0 a).grid.coords t 0).val + r) h l) := by
  refine congrArg X (funext fun x => Fin.ext ?_)
  have hb : ((cfg0 a).grid.coords t 0).val < 8 := ((cfg0 a).grid.coords t 0).isLt
  have e : ∀ x, (((((cfg0 a).win 0).rect t).emb (at3 r hr l : S256x8x1152.Idx)) x : ℕ) = _ := fun x => ((cfg0 a).win 0).rect_emb_val t (at3 r hr l : S256x8x1152.Idx) x
  refine (e x).trans ?_
  have hi : ∀ x, ((cfg0 a).win 0).index t x = cc0_transform_0 ((cfg0 a).grid.coords t) x := fun _ => rfl
  rw [hi]
  match x with
  | ⟨0, _⟩ =>
    show (BitVec.ofNat 32 ((cfg0 a).grid.coords t 0).val).toNat * 256 + r / 8 = (2048 * ((cfg0 a).grid.coords t 0).val + r) / 8
    rw [BitVec.toNat_ofNat, Nat.mod_eq_of_lt (by omega)]; omega
  | ⟨1, _⟩ =>
    show 0 * 8 + r % 8 = (2048 * ((cfg0 a).grid.coords t 0).val + r) % 8
    omega
  | ⟨2, _⟩ => show 0 * 1152 + l.val = l.val; omega

theorem owesAt0_in (t) : iprop(∃ Wd, owes (c : Thread nD τ) (0 : CellTallies nD τ sig Unit) Wd) ⊢ ((dat0 a W c).owesAt () t : sProp 𝕄) := by
  unfold Dat.owesAt owesWithin Dat.bound
  iintro ⟨%Wd, HO⟩
  iexists Wd; isplitr; · ipureintro; exact fun _ _ => Or.inl trivial
  iexact HO

theorem owesAt0_out (t) : ((dat0 a W c).owesAt () t : sProp 𝕄) ⊢ iprop(∃ Wd, owes (c : Thread nD τ) (0 : CellTallies nD τ sig Unit) Wd) := by
  unfold Dat.owesAt owesWithin Dat.bound
  iintro ⟨%Wd, -, HO⟩
  iexists Wd; iexact HO

theorem coords0 : ∀ t : Fin grid0.N, (grid0.coords t 0).val = t.val := by decide +kernel

theorem body0 (hT : Good (tab0 a)) : BodyObligation (dat0 a W c) defs₀ Variants.none () Set.univ := by
  intro t
  rw [bigSep_W0, bigSep_W0]
  show iprop((dat0 a W c).Φ t.castSucc ∗ (dat0 a W c).owesAt () t.castSucc ∗ ∃ d, owns (c.tc : Thread nD τ) (((cfg0 a).win 0).stage ((cfg0 a).slots t 0)) fullShare ((dat0 a W c).before 0 t d))
    ⊢ wp frame (wpE (defs₀ (F := F)) Variants.none (c : Thread nD τ) none) Set.univ
      (cc0__scatter_rows_kernel (F := F) (grid0.coords t) (Memref.whole main_arg0) (Memref.isWhole_whole _) (spec0_0.stage ((cfg0 a).slots t 0)) (hstage0_0 (((cfg0 a).slots t 0).cast nbuf0_0))
        (Memref.whole main_v1) (Memref.isWhole_whole _) (Memref.whole main_v1) (Memref.isWhole_whole _) cc0_scratch0)
      (fun _ => iprop((dat0 a W c).Φ t.succ ∗ (dat0 a W c).owesAt () t.succ ∗ owns (c.tc : Thread nD τ) (((cfg0 a).win 0).stage ((cfg0 a).slots t 0)) fullShare ((dat0 a W c).after 0 t)))
  have hΦ : ∀ n, (dat0 a W c).Φ n = iprop(scopedRest (cfg0 a).spec c ∗ (∃ r, prngReg c r) ∗ semVal ((c : Thread nD τ), SemLoc.dma (cc0_scratch0).sem) 0
      ∗ owns (c : Thread nD τ) (Memref.whole main_v1) fullShare (dest0 a W c n.val) ∗ ((Memref.whole main_arg0).view.loc (c : Thread nD τ) ↦{fullShare} a.1 0)) := by
    intro n
    rw [owns_whole]
    have h1 : (ownSems0 osem0 c : sProp 𝕄) = semVal ((c : Thread nD τ), SemLoc.dma (cc0_scratch0).sem) 0 := by
      unfold ownSems0; exact bigSep_univ_of_subsingleton ()
    have h2 : (prefHeld (pcfg0 (F := F)).pre c (fun _ => fullShare) a.1 : sProp 𝕄) = ((Memref.whole main_arg0).view.loc (c : Thread nD τ) ↦{fullShare} a.1 0) := by
      unfold prefHeld; exact bigSep_univ_of_subsingleton (I := Fin 1) 0
    rw [← h1, ← h2]
    rfl
  have hk : ((grid0.coords t) 0).val = t.val := coords0 t
  rw [hΦ, hΦ]
  have hd : ∀ n, n = t.castSucc → dest0 a W c n.val = placed (tab0 a) (W c (Proc.devRef .tc main_v0)) (W c (Proc.devRef .tc main_v1)) (2048 * ((grid0.coords t) 0).val) := by
    rintro n rfl; rw [hk]; rfl
  have hd' : ∀ n, n = t.succ → dest0 a W c n.val = placed (tab0 a) (W c (Proc.devRef .tc main_v0)) (W c (Proc.devRef .tc main_v1)) (2048 * (((grid0.coords t) 0).val + 1)) := by
    rintro n rfl; rw [hk]; rfl
  rw [hd _ rfl, hd' _ rfl]
  have key := scatter_point c (Memref.whole main_arg0) (Memref.isWhole_whole _) (spec0_0.stage ((cfg0 a).slots t 0)) (hstage0_0 (((cfg0 a).slots t 0).cast nbuf0_0))
    (Memref.whole main_v1) (Memref.isWhole_whole _) (Memref.whole main_v1) (Memref.isWhole_whole _) cc0_scratch0 (a.1 0) fullShare
    (W c (Proc.devRef .tc main_v0)) (W c (Proc.devRef .tc main_v1)) _ (grid0.coords t) hT (fun r h l => block0_at a t _ r.val r.isLt h l)
  refine aside (R := iprop(scopedRest (cfg0 a).spec c ∗ (∃ r, prngReg c r))) key ?_ fun _ => ?_
  · iintro ⟨⟨Hr, Hp, Hs, Hd, Ht⟩, HO, %d, HB⟩
    rw [before0]
    ihave HO := (owesAt0_out a W c _) $$ HO
    isplitl [Hr Hp]
    · isplitl [Hr]; · iexact Hr
      iexact Hp
    isplitl [Ht]; · iexact Ht
    isplitl [HB]; · iexact HB
    isplitl [Hd]; · iexact Hd
    isplitl [Hs]; · iexact Hs
    iexact HO
  · iintro ⟨⟨Hr, Hp⟩, Ht, HB, Hd, Hs, HO⟩
    ihave HO := (owesAt0_in a W c t.succ) $$ HO
    isplitl [Hr Hp Hs Hd Ht]
    · isplitl [Hr]; · iexact Hr
      isplitl [Hp]; · iexact Hp
      isplitl [Hs]; · iexact Hs
      isplitl [Hd]; · iexact Hd
      iexact Ht
    isplitl [HO]; · iexact HO
    iexact HB

end Cert.Dats
-- ==== Proof.DatsExpert.lean ====
/- The experts' call: its block contents from point to point, and that the body keeps to them. -/
module

public import proofs.«01_k».proof.Proof.Seg
public import Idealize.ShloMosaic.Lib.Pipeline.Value

@[expose] public section

set_option maxRecDepth 16384
set_option backward.isDefEq.respectTransparency.types false

noncomputable section

namespace Cert.Dats

open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows Cert.Scatter Cert.Points Cert.Seg Cert.Expert

variable {F : FTy → Type} [FloatOps F]

local notation "𝕄" => MT nD τ sig Unit (Elt F) ℕ UU ℕ

/-- The table of groups, as the experts' body reads it. -/
abbrev tab1 (a : (pcfg1 (F := F)).Adm) : S128.Idx → Elt F .i32 := a.1 0

variable (a : (pcfg1 (F := F)).Adm) (W : Dev nD → Valuation τ sig (Elt F)) (c : Dev nD)

/-- The rows of point `t`, -/
abbrev rows1 (t : Fin (cfg1 a).N) : S512x1152.Idx → Elt F .f32 := (((cfg1 a).win 0).blk t).view.read (Elt F) (W c (Proc.devRef .tc main_v3))
/-- the scale, -/
abbrev scale1 (t : Fin (cfg1 a).N) : S1x1024.Idx → Elt F .f32 := (((cfg1 a).win 1).blk t).view.read (Elt F) (W c (Proc.devRef .tc main_arg3))
/-- and the weights of its group: the gate's, -/
abbrev wg1 (t : Fin (cfg1 a).N) : S1x8x1024x256.Idx → Elt F .f32 := (((cfg1 a).win 2).blk t).view.read (Elt F) (W c (Proc.devRef .tc main_arg4))
/-- the other factor's -/
abbrev wu1 (t : Fin (cfg1 a).N) : S1x8x1024x256.Idx → Elt F .f32 := (((cfg1 a).win 3).blk t).view.read (Elt F) (W c (Proc.devRef .tc main_arg5))
/-- and the last's. -/
abbrev wd1 (t : Fin (cfg1 a).N) : S1x8x256x1024.Idx → Elt F .f32 := (((cfg1 a).win 4).blk t).view.read (Elt F) (W c (Proc.devRef .tc main_arg6))

/-- What point `t` leaves in its block. -/
abbrev out1 (t : Fin (cfg1 a).N) : S512x1024.Idx → Elt F .f32 :=
  block (tab1 a) (grid1.coords t) (rows1 a W c t) (scale1 a W c t) (wg1 a W c t) (wu1 a W c t) (wd1 a W c t)

/-- The experts' block contents and invariant. -/
def dat1 : Dat τ (Elt F) Unit ℕ UU ℕ (cfg1 a) c where
  A w := W c (Proc.devRef .tc (arrRef spec1 w))
  after w t := match w with
    | ⟨0, _⟩ => rows1 a W c t
    | ⟨1, _⟩ => scale1 a W c t
    | ⟨2, _⟩ => wg1 a W c t
    | ⟨3, _⟩ => wu1 a W c t
    | ⟨4, _⟩ => wd1 a W c t
    | ⟨5, _⟩ => out1 a W c t
    | ⟨_ + 6, h⟩ => absurd h (Nat.not_lt.2 (Nat.le_add_left _ _))
  Φ n := iprop(scopedRest (cfg1 a).spec c ∗ (∃ r, prngReg c r) ∗ prefHeld (pcfg1 (F := F)).pre c (fun _ => fullShare) a.1)
  q _ := fullShare
  owed _ := 0

theorem owesAt1_in (t) : iprop(∃ Wd, owes (c : Thread nD τ) (0 : CellTallies nD τ sig Unit) Wd) ⊢ ((dat1 a W c).owesAt () t : sProp 𝕄) := by
  unfold Dat.owesAt owesWithin Dat.bound
  iintro ⟨%Wd, HO⟩
  iexists Wd; isplitr; · ipureintro; exact fun _ _ => Or.inl trivial
  iexact HO

theorem owesAt1_out (t) : ((dat1 a W c).owesAt () t : sProp 𝕄) ⊢ iprop(∃ Wd, owes (c : Thread nD τ) (0 : CellTallies nD τ sig Unit) Wd) := by
  unfold Dat.owesAt owesWithin Dat.bound
  iintro ⟨%Wd, -, HO⟩
  iexists Wd; iexact HO

theorem before1_0 (t : Fin (cfg1 a).N) (d) : (dat1 a W c).before 0 t d = rows1 a W c t :=
  ((dat1 a W c).before_in_eq_fetched 0 rfl (fun _ => rfl) (fun _ _ _ => rfl) (fun _ => rfl) t d).trans rfl

theorem before1_1 (t : Fin (cfg1 a).N) (d) : (dat1 a W c).before 1 t d = scale1 a W c t :=
  ((dat1 a W c).before_in_eq_fetched 1 rfl (fun _ => rfl) (fun _ _ _ => rfl) (fun _ => rfl) t d).trans rfl

theorem before1_2 (t : Fin (cfg1 a).N) (d) : (dat1 a W c).before 2 t d = wg1 a W c t :=
  ((dat1 a W c).before_in_eq_fetched 2 rfl (fun _ => rfl) (fun _ _ _ => rfl) (fun _ => rfl) t d).trans rfl

theorem before1_3 (t : Fin (cfg1 a).N) (d) : (dat1 a W c).before 3 t d = wu1 a W c t :=
  ((dat1 a W c).before_in_eq_fetched 3 rfl (fun _ => rfl) (fun _ _ _ => rfl) (fun _ => rfl) t d).trans rfl

theorem before1_4 (t : Fin (cfg1 a).N) (d) : (dat1 a W c).before 4 t d = wd1 a W c t :=
  ((dat1 a W c).before_in_eq_fetched 4 rfl (fun _ => rfl) (fun _ _ _ => rfl) (fun _ => rfl) t d).trans rfl

/-- The experts' block is never left as it was. -/
theorem idle1_5 (i : grid1.Coords) : (cfg1 a).idle 5 i = false := by
  show (!(k1_cond1 i (a.1.atD 0 ![64]) == 1#1) && !(k1_cond2 i (a.1.atD 0 ![64]) == 1#1)) = false
  have h := cond_iff i (a.1.atD 0 ![64])
  by_cases h1 : k1_cond1 i (a.1.atD 0 ![64]) = 1#1
  · rw [h1]; rfl
  · rw [h.mpr h1]; simp

theorem body1 : BodyObligation (dat1 a W c) defs₀ Variants.none () Set.univ := by
  intro t
  rw [bigSep_W1, bigSep_W1]
  simp only []
  rw [show idle1 a.1 5 ((pcfg1.gridAt a.1).coords t) = false from idle1_5 a _]
  show _ ⊢ wp frame (wpE (defs₀ (F := F)) Variants.none (c : Thread nD τ) none) Set.univ
      (cc1__expert_kernel (F := F) (grid1.coords t) (Memref.whole main_arg1) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5))) _
  have hΦ : ∀ n, (dat1 a W c).Φ n = iprop(scopedRest (cfg1 a).spec c ∗ (∃ r, prngReg c r) ∗ ((Memref.whole main_arg1).view.loc (c : Thread nD τ) ↦{fullShare} a.1 0)) := by
    intro n
    have h2 : (prefHeld (pcfg1 (F := F)).pre c (fun _ => fullShare) a.1 : sProp 𝕄) = ((Memref.whole main_arg1).view.loc (c : Thread nD τ) ↦{fullShare} a.1 0) := by
      unfold prefHeld; exact bigSep_univ_of_subsingleton (I := Fin 1) 0
    rw [← h2]
    rfl
  rw [hΦ, hΦ]
  have key := fun D => expert_point c (Memref.whole main_arg1) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5))
    (a.1 0) fullShare (grid1.coords t) (rows1 a W c t) (scale1 a W c t) (wg1 a W c t) (wu1 a W c t) (wd1 a W c t) D
  simp only [before1_0, before1_1, before1_2, before1_3, before1_4]
  iintro ⟨HΦ, HO, ⟨%d0, H0⟩, ⟨%d1, H1⟩, ⟨%d2, H2⟩, ⟨%d3, H3⟩, ⟨%d4, H4⟩, %d5, H5⟩
  iapply (aside (R := iprop(scopedRest (cfg1 a).spec c ∗ (∃ r, prngReg c r) ∗ (dat1 a W c).owesAt () t.castSucc)) (key ((dat1 a W c).before 5 t d5)) .rfl fun _ => ?_)
  rotate_left
  · icases HΦ with ⟨Hr, Hp, Ht⟩
    isplitl [Hr Hp HO]
    · isplitl [Hr]; · iexact Hr
      isplitl [Hp]; · iexact Hp
      iexact HO
    isplitl [Ht]; · iexact Ht
    isplitl [H0]; · iexact H0
    isplitl [H1]; · iexact H1
    isplitl [H2]; · iexact H2
    isplitl [H3]; · iexact H3
    isplitl [H4]; · iexact H4
    iexact H5
  · iintro ⟨⟨Hr, Hp, HO⟩, Ht, H0, H1, H2, H3, H4, H5⟩
    isplitl [Hr Hp Ht]
    · isplitl [Hr]; · iexact Hr
      isplitl [Hp]; · iexact Hp
      iexact Ht
    isplitl [HO]
    · ihave HO := (owesAt1_out a W c _) $$ HO
      iapply (owesAt1_in a W c t.succ) $$ HO
    isplitl [H0]; · iexact H0
    isplitl [H1]; · iexact H1
    isplitl [H2]; · iexact H2
    isplitl [H3]; · iexact H3
    isplitl [H4]; · iexact H4
    iexact H5

end Cert.Dats
-- ==== Proof.DatsGather.lean ====
/- The gather's call: its block contents from point to point, and that the body keeps to them. -/
module

public import proofs.«01_k».proof.Proof.Seg
public import Idealize.ShloMosaic.Lib.Pipeline.Value

@[expose] public section

set_option maxRecDepth 16384
set_option backward.isDefEq.respectTransparency.types false

noncomputable section

namespace Cert.Dats

open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows Cert.Scatter Cert.Points Cert.Seg

variable {F : FTy → Type} [FloatOps F]

local notation "𝕄" => MT nD τ sig Unit (Elt F) ℕ UU ℕ

/-- The gather call's own semaphore. -/
def osem2 : Unit → SemLoc sig := fun _ => SemLoc.dma (cc2_scratch0).sem

/-- The table of the gather, as its body reads it. -/
abbrev tab2 (a : (pcfg2 (F := F)).Adm) : S16384.Idx → Elt F .i32 := a.1 0

/-- The gather's block contents and invariant. -/
def dat2 (a : (pcfg2 (F := F)).Adm) (W : Dev nD → Valuation τ sig (Elt F)) (c : Dev nD) : Dat τ (Elt F) Unit ℕ UU ℕ (cfg2 a) c where
  A w := W c (Proc.devRef .tc (arrRef spec2 w))
  after w t := match w with
    | ⟨0, _⟩ => (fetched (tab2 a) (W c (Proc.devRef .tc main_v5)) (grid2.coords t 0).val : S256x8x1024.Idx → Elt F .f32)
  Φ n := iprop(scopedRest (cfg2 a).spec c ∗ (∃ r, prngReg c r) ∗ ownSems0 osem2 c
    ∗ ((((c.tc : Thread nD τ).loc main_v5) ↦{fullShare} W c (Proc.devRef .tc main_v5)))
    ∗ prefHeld (pcfg2 (F := F)).pre c (fun _ => fullShare) a.1)
  q _ := fullShare
  owed _ := 0

variable (a : (pcfg2 (F := F)).Adm) (W : Dev nD → Valuation τ sig (Elt F)) (c : Dev nD)

theorem owesAt2_in (t) : iprop(∃ Wd, owes (c : Thread nD τ) (0 : CellTallies nD τ sig Unit) Wd) ⊢ ((dat2 a W c).owesAt () t : sProp 𝕄) := by
  unfold Dat.owesAt owesWithin Dat.bound
  iintro ⟨%Wd, HO⟩
  iexists Wd; isplitr; · ipureintro; exact fun _ _ => Or.inl trivial
  iexact HO

theorem owesAt2_out (t) : ((dat2 a W c).owesAt () t : sProp 𝕄) ⊢ iprop(∃ Wd, owes (c : Thread nD τ) (0 : CellTallies nD τ sig Unit) Wd) := by
  unfold Dat.owesAt owesWithin Dat.bound
  iintro ⟨%Wd, -, HO⟩
  iexists Wd; iexact HO

theorem body2 (hT : Good (tab2 a)) : BodyObligation (dat2 a W c) defs₀ Variants.none () Set.univ := by
  intro t
  rw [bigSep_W2, bigSep_W2]
  show iprop((dat2 a W c).Φ t.castSucc ∗ (dat2 a W c).owesAt () t.castSucc ∗ ∃ d, owns (c.tc : Thread nD τ) (((cfg2 a).win 0).stage ((cfg2 a).slots t 0)) fullShare ((dat2 a W c).before 0 t d))
    ⊢ wp frame (wpE (defs₀ (F := F)) Variants.none (c : Thread nD τ) none) Set.univ
      (cc2__gather_rows_kernel (F := F) (grid2.coords t) (Memref.whole main_arg0) (Memref.isWhole_whole _) (Memref.whole main_v5) (Memref.isWhole_whole _)
        (spec2_0.stage ((cfg2 a).slots t 0)) (hstage2_0 (((cfg2 a).slots t 0).cast nbuf2_0)) cc2_scratch0)
      (fun _ => iprop((dat2 a W c).Φ t.succ ∗ (dat2 a W c).owesAt () t.succ ∗ owns (c.tc : Thread nD τ) (((cfg2 a).win 0).stage ((cfg2 a).slots t 0)) fullShare ((dat2 a W c).after 0 t)))
  have hΦ : ∀ n, (dat2 a W c).Φ n = iprop(scopedRest (cfg2 a).spec c ∗ (∃ r, prngReg c r) ∗ semVal ((c : Thread nD τ), SemLoc.dma (cc2_scratch0).sem) 0
      ∗ owns (c : Thread nD τ) (Memref.whole main_v5) fullShare (W c (Proc.devRef .tc main_v5)) ∗ ((Memref.whole main_arg0).view.loc (c : Thread nD τ) ↦{fullShare} a.1 0)) := by
    intro n
    rw [owns_whole]
    have h1 : (ownSems0 osem2 c : sProp 𝕄) = semVal ((c : Thread nD τ), SemLoc.dma (cc2_scratch0).sem) 0 := by
      unfold ownSems0; exact bigSep_univ_of_subsingleton ()
    have h2 : (prefHeld (pcfg2 (F := F)).pre c (fun _ => fullShare) a.1 : sProp 𝕄) = ((Memref.whole main_arg0).view.loc (c : Thread nD τ) ↦{fullShare} a.1 0) := by
      unfold prefHeld; exact bigSep_univ_of_subsingleton (I := Fin 1) 0
    rw [← h1, ← h2]
    rfl
  rw [hΦ, hΦ]
  have key := fun D => gather_point c (Memref.whole main_arg0) (Memref.isWhole_whole _) (Memref.whole main_v5) (Memref.isWhole_whole _)
    (spec2_0.stage ((cfg2 a).slots t 0)) (hstage2_0 (((cfg2 a).slots t 0).cast nbuf2_0)) cc2_scratch0 (a.1 0) fullShare
    (W c (Proc.devRef .tc main_v5)) D (grid2.coords t) hT
  iintro ⟨HΦ, HO, %d, HB⟩
  iapply (aside (R := iprop(scopedRest (cfg2 a).spec c ∗ (∃ r, prngReg c r))) (key ((dat2 a W c).before 0 t d)) .rfl fun _ => ?_)
  rotate_left
  · icases HΦ with ⟨Hr, Hp, Hs, Hd, Ht⟩
    ihave HO := (owesAt2_out a W c _) $$ HO
    isplitl [Hr Hp]
    · isplitl [Hr]; · iexact Hr
      iexact Hp
    isplitl [Ht]; · iexact Ht
    isplitl [Hd]; · iexact Hd
    isplitl [HB]; · iexact HB
    isplitl [Hs]; · iexact Hs
    iexact HO
  · iintro ⟨⟨Hr, Hp⟩, Ht, Hd, HB, Hs, HO⟩
    ihave HO := (owesAt2_in a W c t.succ) $$ HO
    isplitl [Hr Hp Hs Hd Ht]
    · isplitl [Hr]; · iexact Hr
      isplitl [Hp]; · iexact Hp
      isplitl [Hs]; · iexact Hs
      isplitl [Hd]; · iexact Hd
      iexact Ht
    isplitl [HO]; · iexact HO
    iexact HB

end Cert.Dats
-- ==== Proof.Run.lean ====
/- The three calls one after another: the whole run, its result named. -/
module

public import proofs.«01_k».proof.Proof.DatsScatter
public import proofs.«01_k».proof.Proof.DatsExpert
public import proofs.«01_k».proof.Proof.DatsGather
public import Idealize.ShloMosaic.Lib.Pipeline.Value

@[expose] public section

set_option maxRecDepth 16384
set_option backward.isDefEq.respectTransparency.types false

noncomputable section

namespace Cert.Run

open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows Cert.Scatter Cert.Points Cert.Seg Cert.Dats

variable {F : FTy → Type} [FloatOps F]

local notation "𝕄" => MT nD τ sig Unit (Elt F) ℕ UU ℕ

variable (m : (ℓ : Loc nD τ sig) → Buf (Elt F) ℓ)

/-- The table of places, -/
abbrev tabT : S16384.Idx → BitVec 32 := m ((0 : Dev nD), Proc.devRef .tc main_arg0)
/-- and the experts' table as the second call's windows read it. -/
abbrev tabM : (pcfg1 (F := F)).pre.Contents (Elt F) := fun k => m ((0 : Dev nD), Proc.devRef .tc ((pcfg1 (F := F)).pre.ref k))

/-- The tables of the three calls, each admissible. -/
def adm (hM : ok1 (F := F) (tabM m)) : (p : Fin 3) → (pcfgs (F := F) p).Adm
  | ⟨0, _⟩ => ⟨fun k => m ((0 : Dev nD), Proc.devRef .tc ((pcfg0 (F := F)).pre.ref k)), trivial⟩
  | ⟨1, _⟩ => ⟨tabM m, hM⟩
  | ⟨2, _⟩ => ⟨fun k => m ((0 : Dev nD), Proc.devRef .tc ((pcfg2 (F := F)).pre.ref k)), trivial⟩
  | ⟨_ + 3, h⟩ => absurd h (Nat.not_lt.2 (Nat.le_add_left _ _))

variable (hM : ok1 (F := F) (tabM m))

/-- The buffers after the scatter, -/
def W2 (c : Dev nD) : Valuation τ sig (Elt F) := Function.update (V1 m c) (Proc.devRef .tc main_v1) (dest0 (adm m hM 0) (V1 m) c 8)
/-- at the experts' call, -/
def W3 (c : Dev nD) : Valuation τ sig (Elt F) := StableHlo.after hostOps1 (W2 m hM c)
/-- after it, -/
def W4 (c : Dev nD) : Valuation τ sig (Elt F) := Function.update (W3 m hM c) (Proc.devRef .tc main_v4) ((dat1 (adm m hM 1) (W3 m hM) c).arrAt 5 (cfg1 (adm m hM 1)).N)
/-- at the gather -/
def W5 (c : Dev nD) : Valuation τ sig (Elt F) := StableHlo.after hostOps2 (W4 m hM c)
/-- and after it. -/
def W6 (c : Dev nD) : Valuation τ sig (Elt F) := Function.update (W5 m hM c) (Proc.devRef .tc main_v6) ((dat2 (adm m hM 2) (W5 m hM) c).arrAt 0 (cfg2 (adm m hM 2)).N)

/-- What the calls leave. -/
def outs : Outs (F := F) := fun J r c => match J with
  | 2 => W2 m hM c (Proc.devRef .tc r)
  | 4 => W4 m hM c (Proc.devRef .tc r)
  | _ => W6 m hM c (Proc.devRef .tc r)

theorem V2_eq (c : Dev nD) : V2 m (outs m hM) c = W2 m hM c := by
  show Function.update (V1 m c) (Proc.devRef .tc main_v1) (W2 m hM c (Proc.devRef .tc main_v1)) = _
  unfold W2; rw [Function.update_self]

theorem V3_eq (c : Dev nD) : V3 m (outs m hM) c = W3 m hM c := by
  show StableHlo.after hostOps1 (V2 m (outs m hM) c) = _
  rw [V2_eq]; rfl

theorem V4_eq (c : Dev nD) : V4 m (outs m hM) c = W4 m hM c := by
  show Function.update (V3 m (outs m hM) c) (Proc.devRef .tc main_v4) (W4 m hM c (Proc.devRef .tc main_v4)) = _
  rw [V3_eq]; unfold W4; rw [Function.update_self]

theorem V5_eq (c : Dev nD) : V5 m (outs m hM) c = W5 m hM c := by
  show StableHlo.after hostOps2 (V4 m (outs m hM) c) = _
  rw [V4_eq]; rfl

theorem V6_eq (c : Dev nD) : V6 m (outs m hM) c = W6 m hM c := by
  show Function.update (Function.update (V5 m (outs m hM) c) (Proc.devRef .tc main_v6) (W6 m hM c (Proc.devRef .tc main_v6))) (Proc.devRef .tc main_v5) (W6 m hM c (Proc.devRef .tc main_v5)) = _
  have h : Function.update (V5 m (outs m hM) c) (Proc.devRef .tc main_v6) (W6 m hM c (Proc.devRef .tc main_v6)) = W6 m hM c := by
    rw [V5_eq]; unfold W6; rw [Function.update_self]
  rw [h, Function.update_eq_self]

/-- The contents of the three calls. -/
def pdats : (p : Fin 3) → (c : Dev nD) → Dat τ (Elt F) Unit ℕ UU ℕ (pin (pcfgs (F := F)) (adm m hM) p) c
  | ⟨0, _⟩ => dat0 (adm m hM 0) (V1 m)
  | ⟨1, _⟩ => dat1 (adm m hM 1) (W3 m hM)
  | ⟨2, _⟩ => dat2 (adm m hM 2) (W5 m hM)
  | ⟨_ + 3, h⟩ => absurd h (Nat.not_lt.2 (Nat.le_add_left _ _))

theorem not_hbm {r : Ref sig .tc} {b : DevRef τ sig} (h : b ∉ hbmRefs (τ := τ) {r}) : b ≠ Proc.devRef .tc r := by
  rintro rfl; exact h (Finset.mem_map.mpr ⟨r, Finset.mem_singleton_self _, rfl⟩)

theorem not_arr {gr K : ℕ} {win : Fin K → WinSpec sig gr} {b : DevRef τ sig} (h : b ∉ arrRefs (τ := τ) win) (w : Fin K) : b ≠ Proc.devRef .tc (arrRef win w) := by
  rintro rfl; exact h (Finset.mem_map.mpr ⟨_, Finset.mem_image_of_mem _ (Finset.mem_univ w), rfl⟩)

theorem fin1 (w : Fin 1) : w = 0 := Subsingleton.elim _ _

theorem only (c : Dev nD) : c = 0 := Subsingleton.elim _ _

/-- An update elsewhere is not seen. -/
theorem upd {V : Valuation τ sig (Elt F)} {r s : Ref sig .tc} (v) (h : s ≠ r) : Function.update V (Proc.devRef .tc r) v (Proc.devRef .tc s) = V (Proc.devRef .tc s) :=
  Function.update_of_ne (StableHlo.devRef_ne_of_ne h) _ _

theorem V1_arg0 (c : Dev nD) : V1 m c (Proc.devRef .tc main_arg0) = m ((0 : Dev nD), Proc.devRef .tc main_arg0) := by
  rw [only c]; exact V1_of m 0 main_arg0 (by decide)

theorem W2_of (c : Dev nD) (r : Ref sig .tc) (h : r ≠ main_v1) : W2 m hM c (Proc.devRef .tc r) = V1 m c (Proc.devRef .tc r) := by
  unfold W2; exact upd _ h
theorem W3_of (c : Dev nD) (r : Ref sig .tc) (h : r ∉ hostOps1_W) : W3 m hM c (Proc.devRef .tc r) = W2 m hM c (Proc.devRef .tc r) :=
  StableHlo.after_of_writes_sub hostOps1 _ hostOps1_writes h
theorem W4_of (c : Dev nD) (r : Ref sig .tc) (h : r ≠ main_v4) : W4 m hM c (Proc.devRef .tc r) = W3 m hM c (Proc.devRef .tc r) := by
  unfold W4; exact upd _ h
theorem W5_of (c : Dev nD) (r : Ref sig .tc) (h : r ∉ hostOps2_W) : W5 m hM c (Proc.devRef .tc r) = W4 m hM c (Proc.devRef .tc r) :=
  StableHlo.after_of_writes_sub hostOps2 _ hostOps2_writes h
theorem W6_of (c : Dev nD) (r : Ref sig .tc) (h : r ≠ main_v6) : W6 m hM c (Proc.devRef .tc r) = W5 m hM c (Proc.devRef .tc r) := by
  unfold W6; exact upd _ h

/-- An argument at the experts' call. -/
theorem W3_arg (c : Dev nD) (r : Ref sig .tc) (h0 : r ∉ hostOps0_W) (h1 : r ≠ main_v1) (h2 : r ∉ hostOps1_W) : W3 m hM c (Proc.devRef .tc r) = m (c, Proc.devRef .tc r) :=
  (W3_of m hM c r h2).trans ((W2_of m hM c r h1).trans (V1_of m c r h0))

/-- An argument at the gather. -/
theorem W5_arg (c : Dev nD) (r : Ref sig .tc) (h0 : r ∉ hostOps0_W) (h1 : r ≠ main_v1) (h2 : r ∉ hostOps1_W) (h3 : r ≠ main_v4) (h4 : r ∉ hostOps2_W) :
    W5 m hM c (Proc.devRef .tc r) = m (c, Proc.devRef .tc r) :=
  (W5_of m hM c r h4).trans ((W4_of m hM c r h3).trans (W3_arg m hM c r h0 h1 h2))

theorem sems0 : OwnSemFacts spec0 osem0 := by decide
theorem sems2 : OwnSemFacts spec2 osem2 := by decide

theorem sub0 : arrRefs (τ := τ) spec0 ⊆ ucRefs τ sig := arrRefs_sub_ucRefs _ (by decide)
theorem sub1 : arrRefs (τ := τ) spec1 ⊆ ucRefs τ sig := arrRefs_sub_ucRefs _ (by decide)
theorem sub2 : arrRefs (τ := τ) spec2 ⊆ ucRefs τ sig := arrRefs_sub_ucRefs _ (by decide)
theorem tsub0 : tblRefs (τ := τ) pre0 ⊆ ucRefs τ sig \ arrRefs (τ := τ) spec0 := tblRefs_sub_ucRefs_sdiff _ _ (by decide) (by decide)
theorem tsub1 : tblRefs (τ := τ) pre1 ⊆ ucRefs τ sig \ arrRefs (τ := τ) spec1 := tblRefs_sub_ucRefs_sdiff _ _ (by decide) (by decide)
theorem tsub2 : tblRefs (τ := τ) pre2 ⊆ ucRefs τ sig \ arrRefs (τ := τ) spec2 := tblRefs_sub_ucRefs_sdiff _ _ (by decide) (by decide)

theorem hsub {gr K : ℕ} {win : Fin K → WinSpec sig gr} {pre : Prefetch sig} {r : Ref sig .tc} (hs : r.isScoped = false) (h1 : ∀ w, r ≠ arrRef win w) (h2 : ∀ k, r ≠ pre.ref k) :
    hbmRefs (τ := τ) {r} ⊆ (ucRefs τ sig \ arrRefs (τ := τ) win) \ tblRefs (τ := τ) pre := by
  intro b hb
  obtain ⟨r', hr', rfl⟩ := Finset.mem_map.mp hb
  obtain rfl := Finset.mem_singleton.mp hr'
  refine Finset.mem_sdiff.mpr ⟨Finset.mem_sdiff.mpr ⟨Finset.mem_filter.mpr ⟨StableHlo.devRef_mem_tcRefs _, fun h' => Bool.false_ne_true (hs.symm.trans h')⟩, fun h => ?_⟩, fun h => ?_⟩
  · obtain ⟨r'', hr, e⟩ := Finset.mem_map.mp h
    obtain ⟨w, -, rfl⟩ := Finset.mem_image.mp hr
    exact h1 w (Proc.devRef_injective _ e).symm
  · obtain ⟨r'', hr, e⟩ := Finset.mem_map.mp h
    obtain ⟨w, -, rfl⟩ := Finset.mem_image.mp hr
    exact h2 w (Proc.devRef_injective _ e).symm

theorem hsub0 : hbmRefs (τ := τ) {main_v1} ⊆ (ucRefs τ sig \ arrRefs (τ := τ) spec0) \ tblRefs (τ := τ) pre0 := hsub (by decide) (by decide) (by decide)
theorem hsub2 : hbmRefs (τ := τ) {main_v5} ⊆ (ucRefs τ sig \ arrRefs (τ := τ) spec2) \ tblRefs (τ := τ) pre2 := hsub (by decide) (by decide) (by decide)

theorem W4_v4 (c : Dev nD) : W4 m hM c (Proc.devRef .tc main_v4) = (dat1 (adm m hM 1) (W3 m hM) c).arrAt 5 (cfg1 (adm m hM 1)).N := by
  unfold W4; exact Function.update_self _ _ _

theorem W6_v6 (c : Dev nD) : W6 m hM c (Proc.devRef .tc main_v6) = (dat2 (adm m hM 2) (W5 m hM) c).arrAt 0 (cfg2 (adm m hM 2)).N := by
  unfold W6; exact Function.update_self _ _ _

theorem end0 (c : Dev nD) (n : ℕ) : (dat0 (adm m hM 0) (V1 m) c).arrAt 0 n = W2 m hM c (Proc.devRef .tc main_v0) :=
  ((dat0 (adm m hM 0) (V1 m) c).arrAt_in 0 rfl n).trans (W2_of m hM c main_v0 (by decide)).symm

theorem in0 (a : (pcfg0 (F := F)).Adm) (W) (c : Dev nD) (n : ℕ) : (dat0 a W c).arrAt 0 n = W c (Proc.devRef .tc main_v0) := (dat0 a W c).arrAt_in 0 rfl n
theorem in1_0 (a : (pcfg1 (F := F)).Adm) (W) (c : Dev nD) (n : ℕ) : (dat1 a W c).arrAt 0 n = W c (Proc.devRef .tc main_v3) := (dat1 a W c).arrAt_in 0 rfl n
theorem in1_1 (a : (pcfg1 (F := F)).Adm) (W) (c : Dev nD) (n : ℕ) : (dat1 a W c).arrAt 1 n = W c (Proc.devRef .tc main_arg3) := (dat1 a W c).arrAt_in 1 rfl n
theorem in1_2 (a : (pcfg1 (F := F)).Adm) (W) (c : Dev nD) (n : ℕ) : (dat1 a W c).arrAt 2 n = W c (Proc.devRef .tc main_arg4) := (dat1 a W c).arrAt_in 2 rfl n
theorem in1_3 (a : (pcfg1 (F := F)).Adm) (W) (c : Dev nD) (n : ℕ) : (dat1 a W c).arrAt 3 n = W c (Proc.devRef .tc main_arg5) := (dat1 a W c).arrAt_in 3 rfl n
theorem in1_4 (a : (pcfg1 (F := F)).Adm) (W) (c : Dev nD) (n : ℕ) : (dat1 a W c).arrAt 4 n = W c (Proc.devRef .tc main_arg6) := (dat1 a W c).arrAt_in 4 rfl n

theorem end1_0 (c : Dev nD) (n : ℕ) : (dat1 (adm m hM 1) (W3 m hM) c).arrAt 0 n = W4 m hM c (Proc.devRef .tc main_v3) :=
  (in1_0 _ _ c n).trans (W4_of m hM c main_v3 (by decide)).symm

theorem end1_1 (c : Dev nD) (n : ℕ) : (dat1 (adm m hM 1) (W3 m hM) c).arrAt 1 n = W4 m hM c (Proc.devRef .tc main_arg3) :=
  (in1_1 _ _ c n).trans (W4_of m hM c main_arg3 (by decide)).symm

theorem end1_2 (c : Dev nD) (n : ℕ) : (dat1 (adm m hM 1) (W3 m hM) c).arrAt 2 n = W4 m hM c (Proc.devRef .tc main_arg4) :=
  (in1_2 _ _ c n).trans (W4_of m hM c main_arg4 (by decide)).symm

theorem end1_3 (c : Dev nD) (n : ℕ) : (dat1 (adm m hM 1) (W3 m hM) c).arrAt 3 n = W4 m hM c (Proc.devRef .tc main_arg5) :=
  (in1_3 _ _ c n).trans (W4_of m hM c main_arg5 (by decide)).symm

theorem end1_4 (c : Dev nD) (n : ℕ) : (dat1 (adm m hM 1) (W3 m hM) c).arrAt 4 n = W4 m hM c (Proc.devRef .tc main_arg6) :=
  (in1_4 _ _ c n).trans (W4_of m hM c main_arg6 (by decide)).symm

theorem tT0 (c : Dev nD) : m ((0 : Dev nD), Proc.devRef .tc main_arg0) = W2 m hM c (Proc.devRef .tc main_arg0) := ((W2_of m hM c main_arg0 (by decide)).trans (V1_arg0 m c)).symm
theorem tT1 (c : Dev nD) : m ((0 : Dev nD), Proc.devRef .tc main_arg1) = W3 m hM c (Proc.devRef .tc main_arg1) := by
  rw [only c]; exact (W3_arg m hM 0 main_arg1 (by decide) (by decide) (by decide)).symm
theorem tT1' (c : Dev nD) : m ((0 : Dev nD), Proc.devRef .tc main_arg1) = W4 m hM c (Proc.devRef .tc main_arg1) := (tT1 m hM c).trans (W4_of m hM c main_arg1 (by decide)).symm
theorem tT2 (c : Dev nD) : m ((0 : Dev nD), Proc.devRef .tc main_arg0) = W5 m hM c (Proc.devRef .tc main_arg0) := by
  rw [only c]; exact (W5_arg m hM 0 main_arg0 (by decide) (by decide) (by decide) (by decide) (by decide)).symm
theorem tT2' (c : Dev nD) : m ((0 : Dev nD), Proc.devRef .tc main_arg0) = W6 m hM c (Proc.devRef .tc main_arg0) := (tT2 m hM c).trans (W6_of m hM c main_arg0 (by decide)).symm

/-- The scatter's call. -/
def R0 (hT : Good (tabT m)) : RegionSeg (pcfgs (F := F)) (adm m hM) (pdats m hM) () defs₀ Variants.none LL lvl 0 :=
  segOf (adm m hM) (pdats m hM) 0 osem0 sems0 {main_v1} launch0 (fun c => (body0 _ _ c hT).loose) (fun _ _ => rfl) (fun _ => rfl)
    (fun _ w => by unfold Dat.share; split <;> rfl)
    (V1 m) (W2 m hM)
    (fun c => by
      show _ ⊢ (iprop(scopedRest (cfg0 (adm m hM 0)).spec c ∗ (∃ r, prngReg c r) ∗ ownSems0 osem0 c
        ∗ ((((c.tc : Thread nD τ).loc main_v1) ↦{fullShare} dest0 (adm m hM 0) (V1 m) c 0))
        ∗ prefHeld (pcfg0 (F := F)).pre c (fun _ => fullShare) (adm m hM 0).1) : sProp 𝕄)
      unfold heldAt
      rw [bigSep_singleton, show dest0 (adm m hM 0) (V1 m) c 0 = V1 m c (Proc.devRef .tc main_v1) from placed_zero _ _]
      exact .rfl)
    (fun c => by
      show (iprop(scopedRest (cfg0 (adm m hM 0)).spec c ∗ (∃ r, prngReg c r) ∗ ownSems0 osem0 c
        ∗ ((((c.tc : Thread nD τ).loc main_v1) ↦{fullShare} dest0 (adm m hM 0) (V1 m) c 8))
        ∗ prefHeld (pcfg0 (F := F)).pre c (fun _ => fullShare) (adm m hM 0).1) : sProp 𝕄) ⊢ _
      unfold heldAt
      rw [bigSep_singleton, show W2 m hM c (Proc.devRef .tc main_v1) = dest0 (adm m hM 0) (V1 m) c 8 from by unfold W2; exact Function.update_self _ _ _]
      exact .rfl)
    sub0 tsub0 hsub0
    (fun c b hb => by unfold W2; exact Function.update_of_ne (not_hbm (Finset.mem_sdiff.mp hb).2) _ _)
    (fun c w => rfl)
    (fun c k => by obtain rfl := fin1 k; exact (V1_arg0 m c).symm)
    (fun c w => by obtain rfl := fin1 w; exact end0 m hM c _)
    (fun c k => by obtain rfl := fin1 k; exact tT0 m hM c)

/-- The experts' call. -/
def R1 : RegionSeg (pcfgs (F := F)) (adm m hM) (pdats m hM) () defs₀ Variants.none LL lvl 1 :=
  segOf (adm m hM) (pdats m hM) 1 (fun k : PEmpty => k.elim) (OwnSemFacts.none _) ∅ launch1 (fun c => (body1 _ _ c).loose) (fun _ _ => rfl) (fun _ => rfl)
    (fun _ w => by unfold Dat.share; split <;> rfl)
    (W3 m hM) (W4 m hM)
    (fun c => by
      show _ ⊢ (iprop(scopedRest (cfg1 (adm m hM 1)).spec c ∗ (∃ r, prngReg c r) ∗ prefHeld (pcfg1 (F := F)).pre c (fun _ => fullShare) (adm m hM 1).1) : sProp 𝕄)
      iintro ⟨H1, H2, -, -, H3⟩
      isplitl [H1]; · iexact H1
      isplitl [H2]; · iexact H2
      iexact H3)
    (fun c => by
      show (iprop(scopedRest (cfg1 (adm m hM 1)).spec c ∗ (∃ r, prngReg c r) ∗ prefHeld (pcfg1 (F := F)).pre c (fun _ => fullShare) (adm m hM 1).1) : sProp 𝕄) ⊢ _
      have e1 : (ownSems0 (fun k : PEmpty => k.elim) c : sProp 𝕄) = iprop(emp) := by unfold ownSems0; exact bigSep_empty
      have e2 : (heldAt ∅ (W4 m hM c) c : sProp 𝕄) = iprop(emp) := bigSep_empty
      rw [e1, e2]
      show _ ⊢ BI.sep _ (BI.sep _ (BI.sep BI.emp (BI.sep BI.emp _)))
      rw [equiv_iff.mp (emp_sep (P := BI.sep BI.emp _)), equiv_iff.mp emp_sep]
      exact .rfl)
    sub1 tsub1 (fun b hb => absurd hb (by simp [hbmRefs]))
    (fun c b hb => by
      unfold W4; exact Function.update_of_ne (not_arr (win := spec1) (Finset.mem_sdiff.mp (Finset.mem_sdiff.mp (Finset.mem_sdiff.mp hb).1).1).2 5) _ _)
    (fun c w => rfl)
    (fun c k => by obtain rfl := fin1 k; exact tT1 m hM c)
    (fun c => (show ∀ w : Fin 6, (dat1 (adm m hM 1) (W3 m hM) c).arrAt w (cfg1 (adm m hM 1)).N = W4 m hM c (Proc.devRef .tc (arrRef spec1 w)) from fun
      | 0 => end1_0 m hM c _ | 1 => end1_1 m hM c _ | 2 => end1_2 m hM c _ | 3 => end1_3 m hM c _ | 4 => end1_4 m hM c _ | 5 => (W4_v4 m hM c).symm
      | ⟨_ + 6, h⟩ => absurd h (Nat.not_lt.2 (Nat.le_add_left _ _))))
    (fun c k => by obtain rfl := fin1 k; exact tT1' m hM c)

/-- The gather's call. -/
def R2 (hT : Good (tabT m)) : RegionSeg (pcfgs (F := F)) (adm m hM) (pdats m hM) () defs₀ Variants.none LL lvl 2 :=
  segOf (adm m hM) (pdats m hM) 2 osem2 sems2 {main_v5} launch2 (fun c => (body2 _ _ c hT).loose) (fun _ _ => rfl) (fun _ => rfl)
    (fun _ w => by unfold Dat.share; split <;> rfl)
    (W5 m hM) (W6 m hM)
    (fun c => by
      show _ ⊢ (iprop(scopedRest (cfg2 (adm m hM 2)).spec c ∗ (∃ r, prngReg c r) ∗ ownSems0 osem2 c
        ∗ ((((c.tc : Thread nD τ).loc main_v5) ↦{fullShare} W5 m hM c (Proc.devRef .tc main_v5)))
        ∗ prefHeld (pcfg2 (F := F)).pre c (fun _ => fullShare) (adm m hM 2).1) : sProp 𝕄)
      unfold heldAt
      rw [bigSep_singleton]
      exact .rfl)
    (fun c => by
      show (iprop(scopedRest (cfg2 (adm m hM 2)).spec c ∗ (∃ r, prngReg c r) ∗ ownSems0 osem2 c
        ∗ ((((c.tc : Thread nD τ).loc main_v5) ↦{fullShare} W5 m hM c (Proc.devRef .tc main_v5)))
        ∗ prefHeld (pcfg2 (F := F)).pre c (fun _ => fullShare) (adm m hM 2).1) : sProp 𝕄) ⊢ _
      unfold heldAt
      rw [bigSep_singleton, W6_of m hM c main_v5 (by decide)]
      exact .rfl)
    sub2 tsub2 hsub2
    (fun c b hb => by
      unfold W6; exact Function.update_of_ne (not_arr (win := spec2) (Finset.mem_sdiff.mp (Finset.mem_sdiff.mp (Finset.mem_sdiff.mp hb).1).1).2 0) _ _)
    (fun c w => rfl)
    (fun c k => by obtain rfl := fin1 k; exact tT2 m hM c)
    (fun c w => by obtain rfl := fin1 w; exact (W6_v6 m hM c).symm)
    (fun c k => by obtain rfl := fin1 k; exact tT2' m hM c)

end Cert.Run
-- ==== Proof.RunMain.lean ====
/- The whole program's run: it ends, its arguments as they were, its result the named one. -/
module

public import proofs.«01_k».proof.Proof.Run
public import Idealize.ShloMosaic.Lib.Pipeline.Value

@[expose] public section

set_option maxRecDepth 16384
set_option backward.isDefEq.respectTransparency.types false

noncomputable section

namespace Cert.Run

open Idealize.ShloMosaic Idealize.ShloMosaic.TcCoe Idealize.ShloMosaic.Tactic
open Idealize.ShloMosaic.Pipeline Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Rows Cert.Scatter Cert.Points Cert.Seg Cert.Dats

variable {F : FTy → Type} [FloatOps F]

local notation "𝕄" => MT nD τ sig Unit (Elt F) ℕ UU ℕ

variable (m : (ℓ : Loc nD τ sig) → Buf (Elt F) ℓ) (hM : ok1 (F := F) (tabM m))

/-- The tokens of the launch. -/
def u₀ : UU := (initOf (cells (pin (pcfgs (F := F)) (adm m hM)) (cellOf_inj (adm m hM))) (launchToks (pin (pcfgs (F := F)) (adm m hM)) (cellOf_inj (adm m hM))), 1)

theorem hu₀ : (ownU (u₀ m hM) : sProp 𝕄) ⊢ |={Set.univ}=> iprop(BI.own (embL (initOf (cells (pin (pcfgs (F := F)) (adm m hM)) (cellOf_inj (adm m hM)))
    (launchToks (pin (pcfgs (F := F)) (adm m hM)) (cellOf_inj (adm m hM))))) ∗ bigSep Finset.univ (fun _ : Dev nD => (iprop(emp) : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from (by rw [bigSep_emp_const]))
  iempintro

theorem hE3 (c : Dev nD) : (beside c : sProp 𝕄) ⊢ iprop(∃ W, owes (c : Thread nD τ) (0 : CellTallies nD τ sig Unit) W) := by
  unfold beside
  iintro ⟨-, H⟩
  iexact H

/-- Beside the buffers the calls pass on the same. -/
abbrev rest : Fin 4 → Dev nD → sProp 𝕄 := fun _ c => beside c

theorem hE0 (ρ : Dev nD → PrngReg) : iprop((bigSep Finset.univ fun c : Dev nD => iprop(unscopedSems0 c ∗ owes (c : Thread nD τ) (0 : CellTallies nD τ sig Unit) ∅
      ∗ launchCred (fun _ => (0 : CellTallies nD τ sig Unit)) c ∗ prngReg c (ρ c) ∗ emp)) ∗ levAts LL lvl)
    ⊢ (|={Set.univ}=> bigSep Finset.univ beside : sProp 𝕄) := by
  have hm : (bigSep Finset.univ fun c : Dev nD => iprop(unscopedSems0 c ∗ owes (c : Thread nD τ) (0 : CellTallies nD τ sig Unit) ∅
      ∗ launchCred (fun _ => (0 : CellTallies nD τ sig Unit)) c ∗ prngReg c (ρ c) ∗ emp)) ⊢ (bigSep Finset.univ beside : sProp 𝕄) :=
    bigSep_mono fun c _ => by
      show iprop(unscopedSems0 c ∗ owes (c : Thread nD τ) (0 : CellTallies nD τ sig Unit) ∅
        ∗ launchCred (fun _ => (0 : CellTallies nD τ sig Unit)) c ∗ prngReg c (ρ c) ∗ emp) ⊢ (iprop((∃ r, prngReg c r) ∗ ∃ Wd, owes (c : Thread nD τ) (0 : CellTallies nD τ sig Unit) Wd) : sProp 𝕄)
      iintro ⟨-, HO, -, Hp, -⟩
      isplitl [Hp]; · iexists (ρ c); iexact Hp
      iexists ∅; iexact HO
  iintro ⟨H, -⟩
  imodintro
  iapply hm $$ H

theorem hpost0 (c : Dev nD) : (iprop(StableHlo.held (c : Thread nD τ) (ucRefs τ sig) (W2 m hM c) ∗ beside c) : sProp 𝕄)
    ⊢ iprop(StableHlo.held (c : Thread nD τ) (ucRefs τ sig) (V2 m (outs m hM) c) ∗ beside c) := by
  rw [V2_eq]

theorem hpre1 (c : Dev nD) : (iprop(StableHlo.held (c : Thread nD τ) (ucRefs τ sig) (V3 m (outs m hM) c) ∗ beside c) : sProp 𝕄)
    ⊢ iprop(StableHlo.held (c : Thread nD τ) (ucRefs τ sig) (W3 m hM c) ∗ beside c) := by
  rw [V3_eq]

theorem hpost1 (c : Dev nD) : (iprop(StableHlo.held (c : Thread nD τ) (ucRefs τ sig) (W4 m hM c) ∗ beside c) : sProp 𝕄)
    ⊢ iprop(StableHlo.held (c : Thread nD τ) (ucRefs τ sig) (V4 m (outs m hM) c) ∗ beside c) := by
  rw [V4_eq]

theorem hpre2 (c : Dev nD) : (iprop(StableHlo.held (c : Thread nD τ) (ucRefs τ sig) (V5 m (outs m hM) c) ∗ beside c) : sProp 𝕄)
    ⊢ iprop(StableHlo.held (c : Thread nD τ) (ucRefs τ sig) (W5 m hM c) ∗ beside c) := by
  rw [V5_eq]

theorem hpost2 (c : Dev nD) : (iprop(StableHlo.held (c : Thread nD τ) (ucRefs τ sig) (W6 m hM c) ∗ beside c) : sProp 𝕄)
    ⊢ iprop(StableHlo.held (c : Thread nD τ) (ucRefs τ sig) (V6 m (outs m hM) c) ∗ beside c) := by
  rw [V6_eq]

/-- Every run ends, the result named, the arguments as they were and the semaphores at rest. -/
theorem run_main (hT : Good (tabT m)) (ρ : Dev nD → PrngReg) :
    θ_run defs (onTc (τ := τ) (main (F := F))) ⟨m, fun _ => 0, ρ⟩ (fun r => (∀ c : Dev nD,
      r.2.mem ((c.tc : Thread nD τ).loc main_v7) = StableHlo.after hostOps3 (W6 m hM c) (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) (adm m hM) (pdats m hM) () (cellOf_inj (adm m hM)) embL defs₀ Variants.none LL lvl m ρ main
    (segs m (outs m hM) Variants.none LL lvl rest () (adm m hM) (pdats m hM) (R0 m hM hT) (R1 m hM) (R2 m hM hT))
    (fun c Q => by
      rewrite [main_chain c, Seg.run_eq_chain,
        show (segs m (outs m hM) Variants.none LL lvl rest () (adm m hM) (pdats m hM) (R0 m hM hT) (R1 m hM) (R2 m hM hT) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0) (fun _ _ => rfl) (fun _ => iprop(emp)) (u₀ m hM) (hu₀ m hM)
    (T₀ := fun c => iprop(StableHlo.held (c : Thread nD τ) (Pipeline.ucRefs τ sig) (V0 m c) ∗ rest 0 c))
    (Tₙ := fun c => StableHlo.held (c : Thread nD τ) (Pipeline.ucRefs τ sig) (V7 m (outs m hM) c))
    (hch := fun c => ⟨.rfl, .rfl, hpost0 m hM c, hpre1 m hM c, hpost1 m hM c, hpre2 m hM c, hpost2 m hM c, sep_mono .rfl (hE3 c)⟩)
    (hinit := ?_) (QY := fun c s => s.mem ((c.tc : Thread nD τ).loc main_v7) = StableHlo.after hostOps3 (W6 m hM c) (Proc.devRef .tc main_v7) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · -- the launch: the unscoped buffers are `held` at `V0`; the rest makes `beside` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp))
            : sProp (MT nD τ sig Unit (Elt F) ℕ UU ℕ)) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod hE0 ρ $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m (outs m hM) c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans (by rw [← V6_eq]),
        (h (Proc.devRef .tc main_arg0) (Finset.mem_filter.mpr ⟨StableHlo.devRef_mem_tcRefs main_arg0, by decide⟩)).trans (V7_main_arg0 m (outs m hM) c),
        (h (Proc.devRef .tc main_arg1) (Finset.mem_filter.mpr ⟨StableHlo.devRef_mem_tcRefs main_arg1, by decide⟩)).trans (V7_main_arg1 m (outs m hM) c),
        (h (Proc.devRef .tc main_arg2) (Finset.mem_filter.mpr ⟨StableHlo.devRef_mem_tcRefs main_arg2, by decide⟩)).trans (V7_main_arg2 m (outs m hM) c),
        (h (Proc.devRef .tc main_arg3) (Finset.mem_filter.mpr ⟨StableHlo.devRef_mem_tcRefs main_arg3, by decide⟩)).trans (V7_main_arg3 m (outs m hM) c),
        (h (Proc.devRef .tc main_arg4) (Finset.mem_filter.mpr ⟨StableHlo.devRef_mem_tcRefs main_arg4, by decide⟩)).trans (V7_main_arg4 m (outs m hM) c),
        (h (Proc.devRef .tc main_arg5) (Finset.mem_filter.mpr ⟨StableHlo.devRef_mem_tcRefs main_arg5, by decide⟩)).trans (V7_main_arg5 m (outs m hM) c),
        (h (Proc.devRef .tc main_arg6) (Finset.mem_filter.mpr ⟨StableHlo.devRef_mem_tcRefs main_arg6, by decide⟩)).trans (V7_main_arg6 m (outs m hM) c)⟩
    · iexact HSI

end Cert.Run
-- ==== Proof.Pre.lean ====
/- What the preconditions say of the tables, entry by entry. -/
module

public import proofs.«01_k».proof.Proof.RunMain
public import proofs.«01_k».proof.Pre_table_admissible
public import proofs.«01_k».proof.Pre_routed
public import Idealize.ShloMosaic.Lib.Affine

@[expose] public section

set_option maxRecDepth 16384

noncomputable section

namespace Cert.Pre

open Idealize.ShloMosaic
open Cert.Scatter Cert.Expert
open Cert.KernelIdeal (S16384 S128)

instance tableFacts : Cert.Pre_table_admissible.Facts where
  bcast_S16384_S16384x1_0 := by decide
  bcast_S16384_S1x16384_1 := by decide
  bcast_S16384x1_S16384x16384_0_1 := by decide
  bcast_S1x16384_S16384x16384_0_1 := by decide
  bcast_S_S16384 := by decide
  slices_S128_S36_0 := by decide
  bcast_S_S36 := by decide

instance routedFacts : Cert.Pre_routed.Facts where
  bcast_S16384_S16384x1_0 := by decide
  bcast_S16384_S1x16384_1 := by decide
  bcast_S16384x1_S16384x16384_0_1 := by decide
  bcast_S1x16384_S16384x16384_0_1 := by decide
  bcast_S_S16384 := by decide
  slices_S128_S36_0 := by decide
  bcast_S_S36 := by decide
  slices_S16384x1152_S16384x32_0_1024 := by decide
  bcast_S36_S1x36x1_1 := by decide
  bcast_S_S1x36x1 := by decide
  bcast_S1x36x1_S16384x36x32_0_1_2 := by decide
  slices_S128_S1_64 := by decide
  shapeCasts_S1_S_ := by decide
  bcast_S16384_S16384x1x1_0 := by decide
  bcast_S16384x1x1_S16384x36x32_0_1_2 := by decide
  bcast_S16384x32_S16384x1x32_0_2 := by decide
  bcast_S_S16384x1x32 := by decide
  bcast_S16384x1x32_S16384x36x32_0_1_2 := by decide

/-! ## Reading the layout operations -/

section Layout
variable {α : Type}

theorem idx1 {n : ℕ} (x y : (⟨1, ![n]⟩ : Shape).Idx) (h : (x 0).val = (y 0).val) : x = y := by
  funext a; obtain rfl : a = 0 := Subsingleton.elim _ _; exact Fin.ext h

/-- An index of two coordinates, of three. -/
def ix2 {m n : ℕ} (p : Fin m) (q : Fin n) : (⟨2, ![m, n]⟩ : Shape).Idx := fun a => match a with | 0 => p | 1 => q
def ix3 {l m n : ℕ} (o : Fin l) (p : Fin m) (q : Fin n) : (⟨3, ![l, m, n]⟩ : Shape).Idx := fun a => match a with | 0 => o | 1 => p | 2 => q

theorem col_at {n : ℕ} (hn : n ≠ 1) (h1 : (⟨1, ![n]⟩ : Shape).BroadcastsInDim ⟨2, ![n, 1]⟩ ![0]) (h2 : (⟨2, ![n, 1]⟩ : Shape).BroadcastsInDim ⟨2, ![n, n]⟩ ![0, 1])
    (T : (⟨1, ![n]⟩ : Shape).Idx → α) (j : (⟨2, ![n, n]⟩ : Shape).Idx) (k : (⟨1, ![n]⟩ : Shape).Idx) (hk : (k 0).val = (j 0).val) :
    broadcastInDim ⟨2, ![n, n]⟩ ![0, 1] h2 (broadcastInDim ⟨2, ![n, 1]⟩ ![0] h1 T) j = T k := by
  refine (broadcastInDim_apply _ h2 _ j (ix2 (j 0) (0 : Fin 1)) ?_).trans (broadcastInDim_apply _ h1 T _ k ?_)
  · intro a
    match a with
    | 0 => exact (if_neg hn).symm
    | 1 => exact (if_pos rfl).symm
  · intro a; obtain rfl : a = 0 := Subsingleton.elim _ _
    exact hk.trans (if_neg hn).symm

theorem row_at {n : ℕ} (hn : n ≠ 1) (h1 : (⟨1, ![n]⟩ : Shape).BroadcastsInDim ⟨2, ![1, n]⟩ ![1]) (h2 : (⟨2, ![1, n]⟩ : Shape).BroadcastsInDim ⟨2, ![n, n]⟩ ![0, 1])
    (T : (⟨1, ![n]⟩ : Shape).Idx → α) (j : (⟨2, ![n, n]⟩ : Shape).Idx) (k : (⟨1, ![n]⟩ : Shape).Idx) (hk : (k 0).val = (j 1).val) :
    broadcastInDim ⟨2, ![n, n]⟩ ![0, 1] h2 (broadcastInDim ⟨2, ![1, n]⟩ ![1] h1 T) j = T k := by
  refine (broadcastInDim_apply _ h2 _ j (ix2 (0 : Fin 1) (j 1)) ?_).trans (broadcastInDim_apply _ h1 T _ k ?_)
  · intro a
    match a with
    | 0 => exact (if_pos rfl).symm
    | 1 => exact (if_neg hn).symm
  · intro a; obtain rfl : a = 0 := Subsingleton.elim _ _
    exact hk.trans (if_neg hn).symm

end Layout

/-! ## The tables -/

variable {F : FTy → Type} [FloatOps F]

theorem ofNat_inj {p q : ℕ} (hp : p < 16384) (hq : q < 16384) (h : BitVec.ofNat 32 p = BitVec.ofNat 32 q) : p = q := by
  have := congrArg BitVec.toNat h
  simp only [BitVec.toNat_ofNat] at this
  omega

theorem nat_of_int {v : BitVec 32} {n : ℕ} (hn : n < 2147483648) (h0 : (0#32).toInt ≤ v.toInt) (h1 : v.toInt < (BitVec.ofNat 32 n).toInt) : v.toNat < n := by
  have e : (BitVec.ofNat 32 n).toInt = n := by
    rw [BitVec.toInt_eq_toNat_cond, BitVec.toNat_ofNat, Nat.mod_eq_of_lt (by omega), if_pos (by omega)]
  rw [e, BitVec.toInt_eq_toNat_cond] at h1
  have e0 : (0#32).toInt = 0 := by decide
  rw [e0, BitVec.toInt_eq_toNat_cond] at h0
  split at h1 <;> omega

/-- What the two tables must be. -/
structure Tables (T : S16384.Idx → BitVec 32) (M : S128.Idx → BitVec 32) : Prop where
  good : Good T
  group : ∀ n, n < 36 → (mword M n).toNat < 4

theorem tables_of (T : S16384.Idx → BitVec 32) (M : S128.Idx → BitVec 32)
    (h1 : ∀ p q (hp : p < 16384) (hq : q < 16384), IntOp.ori (IntOp.cmpi .ne (T (at1 p hp)) (T (at1 q hq))) (IntOp.cmpi .eq (BitVec.ofNat 32 p) (BitVec.ofNat 32 q)) = 1#1)
    (h2 : ∀ p (hp : p < 16384), IntOp.andi (IntOp.cmpi .sge (T (at1 p hp)) 0#32) (IntOp.cmpi .slt (T (at1 p hp)) 18432#32) = 1#1)
    (h3 : ∀ n (hn : n < 36), IntOp.andi (IntOp.cmpi .sge (M (mat n (by omega))) 0#32) (IntOp.cmpi .slt (M (mat n (by omega))) 4#32) = 1#1) : Tables T M := by
  refine ⟨⟨?_, ?_⟩, ?_⟩
  · intro n hn
    have := IntOp.andi_eq_one.mp (h2 n hn)
    unfold place word; rw [dif_pos hn]
    exact nat_of_int (by decide) (IntOp.cmpi_sge.mp this.1) (IntOp.cmpi_slt.mp this.2)
  · intro n n' hn hn' e
    unfold place word at e; rw [dif_pos hn, dif_pos hn'] at e
    rcases IntOp.ori_eq_one.mp (h1 n n' hn hn') with h | h
    · exact absurd (BitVec.eq_of_toNat_eq e) (IntOp.cmpi_ne.mp h)
    · exact ofNat_inj hn hn' (IntOp.cmpi_eq.mp h)
  · intro n hn
    have := IntOp.andi_eq_one.mp (h3 n hn)
    unfold mword; rw [dif_pos (by omega)]
    exact nat_of_int (by decide) (IntOp.cmpi_sge.mp this.1) (IntOp.cmpi_slt.mp this.2)

/-- An index of the square of tokens. -/
def sq (p q : ℕ) (hp : p < 16384) (hq : q < 16384) : Cert.Pre_table_admissible.S16384x16384.Idx := fun a => match a with | 0 => ⟨p, hp⟩ | 1 => ⟨q, hq⟩

/-- An index of the tiles. -/
def tl (n : ℕ) (hn : n < 36) : Cert.Pre_table_admissible.S36.Idx := fun a => ⟨n, by rw [Subsingleton.elim a 0]; exact hn⟩

theorem tables_of_admissible (T : S16384.Idx → BitVec 32) (M : S128.Idx → BitVec 32) (X G A B C)
    (h : (Cert.Pre_table_admissible.fn (F := F) T M X G A B C).1 = (fun _ => 1#1)
      ∧ (Cert.Pre_table_admissible.fn (F := F) T M X G A B C).2.1 = (fun _ => 1#1)
      ∧ (Cert.Pre_table_admissible.fn (F := F) T M X G A B C).2.2 = (fun _ => 1#1)) : Tables T M := by
  obtain ⟨h1, h2, h3⟩ := h
  refine tables_of T M (fun p q hp hq => ?_) (fun p hp => ?_) (fun n hn => ?_)
  · have e := congrFun h1 (sq p q hp hq)
    simp only [Cert.Pre_table_admissible.fn, Cert.Pre_table_admissible.fn_part1, ori, cmpi, iotaInDim] at e
    rw [col_at (by decide) _ _ T (sq p q hp hq) (at1 p hp) rfl, row_at (by decide) _ _ T (sq p q hp hq) (at1 q hq) rfl] at e
    exact e
  · have e := congrFun h2 (at1 p hp)
    exact e
  · have e := congrFun h3 (tl n hn)
    simp only [Cert.Pre_table_admissible.fn, Cert.Pre_table_admissible.fn_part1, andi, cmpi] at e
    rw [extractStridedSlice_apply (k := mat n (by omega))] at e
    · exact e
    · intro a; obtain rfl : a = 0 := Subsingleton.elim _ _
      simp [mat, tl]

/-- Every tile's group is one whose weights there are. -/
theorem ok_of (pf : Cert.KernelIdeal.pre1.Contents (Elt F)) (h : ∀ n, n < 36 → (mword (pf 0) n).toNat < 4) : Cert.KernelIdeal.ok1 (F := F) pf := by
  have key : ∀ i : Cert.KernelIdeal.grid1.Coords, ((pf.at 0 (Rect.unit (s := S128) (Cert.KernelIdeal.k1_off1 i) Cert.KernelIdeal.S1.size (Cert.KernelIdeal.Gen.k1_off1_inb i)) Cert.KernelIdeal.Gen.numel1_S1 : BitVec 32)).toNat < 4 := by
    intro i
    have hi : (i 0).val < 36 := (i 0).isLt
    have e : mword (pf 0) (i 0).val = pf 0 (mat (i 0).val (by omega)) := dif_pos (by omega)
    have := h (i 0).val hi
    rw [e] at this
    have ex : ∀ x y : S128.Idx, (x 0).val = (y 0).val → x = y := idx1
    refine lt_of_eq_of_lt (congrArg (fun k : S128.Idx => (pf 0 k : BitVec 32).toNat) (ex _ (mat (i 0).val (by omega)) ?_)) this
    show (BitVec.ofNat 32 (i 0).val).toNat + 1 * 0 = (i 0).val
    rw [BitVec.toNat_ofNat]; omega
  refine ⟨fun i => ⟨fun a => ?_, Or.inl rfl⟩, fun i => ⟨fun a => ?_, Or.inl rfl⟩, fun i => ⟨fun a => ?_, Or.inl rfl⟩⟩
  all_goals
    have hk := key i
    match a with
    | 0 => exact (Nat.mul_one _).trans_le hk
    | 1 => exact le_refl _
    | 2 => exact le_refl _
    | 3 => exact le_refl _

end Cert.Pre
-- ==== Proof.Same.lean ====
/- The kernel over machine words has the text of the kernel over exact numbers: a run of one is a run of the other. -/
module
public import proofs.«01_k».proof.Defs
public import proofs.«01_k».proof.Proof.Pre
public import proofs.«01_k».proof.Proof.Gen.Kernel

@[expose] public section

set_option maxRecDepth 16384
noncomputable section
open Idealize.SL.Sem Idealize.ShloMosaic Idealize.ShloMosaic.TcCoe Idealize.ShloMosaic.Tactic
attribute [local instance] Cert.Kernel.Gen.facts Cert.KernelIdeal.Gen.facts
namespace Cert.Same
variable {F : FTy → Type} [FloatOps F]
open Cert.KernelIdeal Cert.KernelIdeal.Gen in
/-- The text of the program, over whatever its three calls are. -/
def text (P : Fin 3 → Pipeline.PCfg sig Λ₀ (Elt F)) : Dev nD → Prog (TpuEff nD τ sig (Elt F) (Pipeline.Sig Λ₀ (Fin 3) fun p => (P p).Adm) .tc) PUnit := fun _ => do
  hlo rfl (StableHlo.reshape main_arg2 main_v0 (rfl : (.f32 : EltTy) = .f32) shapeCasts_S16384x1152_S2048x8x1152) (fun _ => .ret ⟨⟩)
  hlo rfl (StableHlo.nullary main_cst (constant S_ .f32 0x00000000#32)) (fun _ => .ret ⟨⟩)
  hlo rfl (StableHlo.unary main_cst main_v1 (broadcastInDim S2304x8x1152 ![] bcast_S_S2304x8x1152 : (⟨S_, .f32⟩ : BufTy).Contents (Elt F) → (⟨S2304x8x1152, .f32⟩ : BufTy).Contents (Elt F))) (fun _ => .ret ⟨⟩)
  Prog.lift (.customCall (Pipeline.entry 0) ())
  hlo rfl (StableHlo.reshape main_v1 main_v3 (rfl : (.f32 : EltTy) = .f32) shapeCasts_S2304x8x1152_S18432x1152) (fun _ => .ret ⟨⟩)
  Prog.lift (.customCall (Pipeline.entry 1) ())
  hlo rfl (StableHlo.reshape main_v4 main_v5 (rfl : (.f32 : EltTy) = .f32) shapeCasts_S18432x1024_S2304x8x1024) (fun _ => .ret ⟨⟩)
  Prog.lift (.customCall (Pipeline.entry 2) ())
  hlo rfl (StableHlo.reshape main_v6 main_v7 (rfl : (.f32 : EltTy) = .f32) shapeCasts_S2048x8x1024_S16384x1024) (fun _ => .ret ⟨⟩)
  pure ⟨⟩

theorem text_p : Cert.Kernel.main (F := F) = text (F := F) Cert.Kernel.pcfgs := rfl
theorem text_pi : Cert.KernelIdeal.main (F := F) = text (F := F) Cert.KernelIdeal.pcfgs := rfl

open Cert.KernelIdeal in
/-- Two programs of one text and equal calls run alike. -/
theorem alike (P P' : Fin 3 → Pipeline.PCfg sig Λ₀ (Elt F)) (h : P = P') (d d' : Defs nD τ sig (Elt F) Λ₀) (hd : d = d') (s) (Q : _ → Prop)
    (run : θ_run (Pipeline.defs P' d') (onTc (τ := τ) (text P')) s Q) : θ_run (Pipeline.defs P d) (onTc (τ := τ) (text P)) s Q := by
  subst h hd; exact run

theorem bodies : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | 1, (t, s) => rfl
  | 2, (t, s) => rfl

theorem calls : Cert.Kernel.pcfgs (F := F) = Cert.KernelIdeal.pcfgs (F := F) := rfl

set_option maxHeartbeats 1000000 in
theorem p_run (m : (ℓ : Loc Cert.KernelIdeal.nD Cert.KernelIdeal.τ Cert.KernelIdeal.sig) → Buf (Elt F) ℓ) (g) (Q : _ → Prop)
    (run : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  unfold Cert.Kernel.defs
  rw [text_p]
  exact alike _ _ calls _ _ bodies _ _ run
end Cert.Same

end
-- ==== Proof.Frames.lean ====
/- The frames: each program runs, its arguments as they were, its counters at zero. -/
module

public import proofs.«01_k».proof.Defs
public import proofs.«01_k».proof.Proof.Pre
public import proofs.«01_k».proof.Proof.Gen.ReferenceIdeal
public import proofs.«01_k».proof.Proof.Same
public import Idealize.ShloMosaic.Lib.Claim

@[expose] public section

noncomputable section

namespace Cert.Frames

open Idealize.ShloMosaic Idealize.ShloMosaic.TcCoe Idealize.ShloMosaic.Tactic

open Cert.Scatter Cert.Run Cert.Pre

attribute [local instance] Cert.Kernel.Gen.facts Cert.KernelIdeal.Gen.facts Cert.ReferenceIdeal.Gen.facts

set_option maxHeartbeats 4000000 in
theorem frame_r : Cert.quiescent_ReferenceIdeal := by
  intro m g _
  hlo_run
  · exact fun _ => ⟨trivial, trivial, trivial, trivial, trivial, trivial, trivial⟩
  · exact sem_eq_zero_of_no_sems (sig := Cert.ReferenceIdeal.sig) (by decide) _

/-- The table of groups among the arguments. -/
theorem ok_tables {F : FTy → Type} [FloatOps F] (m : (ℓ : Loc Cert.KernelIdeal.nD Cert.KernelIdeal.τ Cert.KernelIdeal.sig) → Buf (Elt F) ℓ)
    (h : Tables (tabT m) (tabM m 0)) : Cert.KernelIdeal.ok1 (F := F) (tabM m) := ok_of _ h.group

set_option maxHeartbeats 4000000 in
theorem tables_p (m : (ℓ : Loc Cert.KernelIdeal.nD Cert.KernelIdeal.τ Cert.KernelIdeal.sig) → Buf (Elt Bits) ℓ)
    (h : Cert.Pre_Kernel m) : Tables (tabT (F := Bits) m) (tabM (F := Bits) m 0) := tables_of_admissible (F := Bits) _ _ _ _ _ _ _ (h 0)

set_option maxHeartbeats 4000000 in
theorem frame_p : Cert.quiescent_Kernel := by
  intro m g h
  exact Cert.Same.p_run m g _ ((θ_run Cert.KernelIdeal.defs _ _).mono (fun _ h => ⟨fun c => (h.1 c).2, h.2⟩)
    (run_main (F := Bits) m (ok_tables m (tables_p m h)) (tables_p m h).good g))

theorem frame_pi : Cert.quiescent_KernelIdeal := by
  intro m g h
  have ht : Tables (tabT (F := Ideal) m) (tabM (F := Ideal) m 0) := tables_of_admissible _ _ _ _ _ _ _ (h 0)
  exact (θ_run Cert.KernelIdeal.defs _ _).mono (fun _ h => ⟨fun c => (h.1 c).2, h.2⟩) (run_main (F := Ideal) m (ok_tables m ht) ht.good g)

end Cert.Frames
-- ==== Proof.Reads.lean ====
/- The experts' blocks and the gather's, read at one element of the arrays. -/
module

public import proofs.«01_k».proof.Proof.RunMain
public import Idealize.ShloMosaic.Lib.Pipeline.Value
public import Idealize.ShloMosaic.Lib.Pipeline.ValueKit.Geometry
public import Idealize.ShloMosaic.Lib.Pointwise

@[expose] public section

set_option maxRecDepth 16384
set_option backward.isDefEq.respectTransparency.types false

noncomputable section

namespace Cert.Reads

open Idealize.ShloMosaic Idealize.ShloMosaic.TcCoe Idealize.ShloMosaic.Tactic
open Idealize.ShloMosaic.Pipeline
open Cert.KernelIdeal Cert.KernelIdeal.Gen Cert.Rows Cert.Scatter Cert.Points Cert.Seg Cert.Dats Cert.Run Cert.Expert

variable {F : FTy → Type} [FloatOps F]

section Experts

variable (a : (pcfg1 (F := F)).Adm) (W : Dev nD → Valuation τ sig (Elt F)) (c : Dev nD)

theorem coords1 : ∀ t : Fin grid1.N, (grid1.coords t 0).val = t.val := by decide +kernel
theorem coords2 : ∀ t : Fin grid2.N, (grid2.coords t 0).val = t.val := by decide +kernel

theorem N1 : (cfg1 a).N = 36 := rfl

/-- A tile's row is a row of the array. -/
theorem rows1_at (t : Fin (cfg1 a).N) (r : Fin 512) (y : Fin 1152) (h : 512 * t.val + r.val < 18432) :
    rows1 a W c t (ix2 r y) = (W c (Proc.devRef .tc main_v3) : S18432x1152.Idx → Elt F .f32) (ix2 ⟨512 * t.val + r.val, h⟩ y) := by
  refine congrArg (W c (Proc.devRef .tc main_v3)) (funext fun x => Fin.ext ?_)
  have ht : t.val < 36 := t.isLt
  have e : ∀ x, (((((cfg1 a).win 0).rect t).emb (ix2 r y : S512x1152.Idx)) x : ℕ) = _ := fun x => ((cfg1 a).win 0).rect_emb_val t (ix2 r y : S512x1152.Idx) x
  refine (e x).trans ?_
  have hi : ∀ x, ((cfg1 a).win 0).index t x = cc1_transform_0 (grid1.coords t) x := fun _ => rfl
  rw [hi]
  match x with
  | ⟨0, _⟩ =>
    show (BitVec.ofNat 32 (grid1.coords t 0).val).toNat * 512 + r.val = 512 * t.val + r.val
    rw [coords1, BitVec.toNat_ofNat, Nat.mod_eq_of_lt (by omega)]; omega
  | ⟨1, _⟩ => show 0 * 1152 + y.val = y.val; omega

/-- The scale is whole at every point. -/
theorem scale1_at (t : Fin (cfg1 a).N) (d : Fin 1024) :
    scale1 a W c t (ix2 0 d) = (W c (Proc.devRef .tc main_arg3) : S1x1024.Idx → Elt F .f32) (ix2 0 d) := by
  refine congrArg (W c (Proc.devRef .tc main_arg3)) (funext fun x => Fin.ext ?_)
  have e : ∀ x, (((((cfg1 a).win 1).rect t).emb (ix2 0 d : S1x1024.Idx)) x : ℕ) = _ := fun x => ((cfg1 a).win 1).rect_emb_val t (ix2 0 d : S1x1024.Idx) x
  refine (e x).trans ?_
  have hi : ∀ x, ((cfg1 a).win 1).index t x = cc1_transform_1 (grid1.coords t) x := fun _ => rfl
  rw [hi]
  match x with
  | ⟨0, _⟩ => rfl
  | ⟨1, _⟩ => show 0 * 1024 + d.val = d.val; omega

theorem group1 (t : Fin (cfg1 a).N) (g : Fin 4) (hg : mword (tab1 a) t.val = BitVec.ofNat 32 g.val) :
    ((a.1.at 0 (Rect.unit (s := S128) (k1_off1 (grid1.coords t)) S1.size (k1_off1_inb (grid1.coords t))) numel1_S1 : BitVec 32)).toNat = g.val := by
  have hi : t.val < 36 := t.isLt
  have e : mword (tab1 a) t.val = tab1 a (mat t.val (by omega)) := dif_pos (by omega)
  have ex : ∀ x y : S128.Idx, (x 0).val = (y 0).val → x = y := fun x y h => funext fun k => by
    obtain rfl : k = 0 := Subsingleton.elim _ _; exact Fin.ext h
  have hg' : g.val = (tab1 a (mat t.val (by omega)) : BitVec 32).toNat := by
    rw [← e, hg, BitVec.toNat_ofNat, Nat.mod_eq_of_lt (by omega)]
  rw [hg']
  refine congrArg (fun k : S128.Idx => (a.1 0 k : BitVec 32).toNat) (ex _ (mat t.val (by omega)) ?_)
  show (BitVec.ofNat 32 (grid1.coords t 0).val).toNat + 1 * 0 = t.val
  rw [coords1, BitVec.toNat_ofNat]; omega

theorem wg1_at (t : Fin (cfg1 a).N) (g : Fin 4) (hg : mword (tab1 a) t.val = BitVec.ofNat 32 g.val) (e : Fin 8) (d : Fin 1024) (f : Fin 256) :
    wg1 a W c t (ix4 0 e d f) = (W c (Proc.devRef .tc main_arg4) : S4x8x1024x256.Idx → Elt F .f32) (ix4 g e d f) := by
  refine congrArg (W c (Proc.devRef .tc main_arg4)) (funext fun x => Fin.ext ?_)
  have h : ∀ x, (((((cfg1 a).win 2).rect t).emb (ix4 0 e d f : S1x8x1024x256.Idx)) x : ℕ) = _ := fun x => ((cfg1 a).win 2).rect_emb_val t (ix4 0 e d f : S1x8x1024x256.Idx) x
  refine (h x).trans ?_
  match x with
  | ⟨0, _⟩ => exact congrArg (· * 1 + 0) (group1 a t g hg) |>.trans (by show g.val * 1 + 0 = g.val; omega)
  | ⟨1, _⟩ => show 0 * 8 + e.val = e.val; omega
  | ⟨2, _⟩ => show 0 * 1024 + d.val = d.val; omega
  | ⟨3, _⟩ => show 0 * 256 + f.val = f.val; omega

theorem wu1_at (t : Fin (cfg1 a).N) (g : Fin 4) (hg : mword (tab1 a) t.val = BitVec.ofNat 32 g.val) (e : Fin 8) (d : Fin 1024) (f : Fin 256) :
    wu1 a W c t (ix4 0 e d f) = (W c (Proc.devRef .tc main_arg5) : S4x8x1024x256.Idx → Elt F .f32) (ix4 g e d f) := by
  refine congrArg (W c (Proc.devRef .tc main_arg5)) (funext fun x => Fin.ext ?_)
  have h : ∀ x, (((((cfg1 a).win 3).rect t).emb (ix4 0 e d f : S1x8x1024x256.Idx)) x : ℕ) = _ := fun x => ((cfg1 a).win 3).rect_emb_val t (ix4 0 e d f : S1x8x1024x256.Idx) x
  refine (h x).trans ?_
  match x with
  | ⟨0, _⟩ => exact congrArg (· * 1 + 0) (group1 a t g hg) |>.trans (by show g.val * 1 + 0 = g.val; omega)
  | ⟨1, _⟩ => show 0 * 8 + e.val = e.val; omega
  | ⟨2, _⟩ => show 0 * 1024 + d.val = d.val; omega
  | ⟨3, _⟩ => show 0 * 256 + f.val = f.val; omega

theorem wd1_at (t : Fin (cfg1 a).N) (g : Fin 4) (hg : mword (tab1 a) t.val = BitVec.ofNat 32 g.val) (e : Fin 8) (f : Fin 256) (l : Fin 1024) :
    wd1 a W c t (ix4 0 e f l) = (W c (Proc.devRef .tc main_arg6) : S4x8x256x1024.Idx → Elt F .f32) (ix4 g e f l) := by
  refine congrArg (W c (Proc.devRef .tc main_arg6)) (funext fun x => Fin.ext ?_)
  have h : ∀ x, (((((cfg1 a).win 4).rect t).emb (ix4 0 e f l : S1x8x256x1024.Idx)) x : ℕ) = _ := fun x => ((cfg1 a).win 4).rect_emb_val t (ix4 0 e f l : S1x8x256x1024.Idx) x
  refine (h x).trans ?_
  match x with
  | ⟨0, _⟩ => exact congrArg (· * 1 + 0) (group1 a t g hg) |>.trans (by show g.val * 1 + 0 = g.val; omega)
  | ⟨1, _⟩ => show 0 * 8 + e.val = e.val; omega
  | ⟨2, _⟩ => show 0 * 256 + f.val = f.val; omega
  | ⟨3, _⟩ => show 0 * 1024 + l.val = l.val; omega

theorem flush1 (t : Fin (cfg1 a).N) : ((cfg1 a).win 5).flush t = true := by
  rw [Window.flush_eq_flushOf]
  show Window.flushOf grid1 true (fun i => cc1_transform_5 i) t = true
  have h : ∀ t : Fin grid1.N, Window.flushOf grid1 true (fun i => cc1_transform_5 i) t = true := by decide +kernel
  exact h t

theorem index1 (t : Fin (cfg1 a).N) : ((cfg1 a).win 5).index t (0 : Fin 2) = t.val := by
  have ht : t.val < 36 := t.isLt
  show (BitVec.ofNat 32 (grid1.coords t 0).val).toNat = t.val
  rw [coords1, BitVec.toNat_ofNat, Nat.mod_eq_of_lt (by omega)]

theorem disj1 : ∀ t t' : Fin (cfg1 a).N, ((cfg1 a).win 5).flush t = true → ((cfg1 a).win 5).flush t' = true → t ≠ t' →
    Disjoint (((cfg1 a).win 5).blk t).view.set (((cfg1 a).win 5).blk t').view.set :=
  Window.hdisj_of_index_inj _ fun t t' _ _ h => Fin.ext (by
    have := congrFun h (0 : Fin 2)
    rw [index1, index1] at this
    exact this)

/-- What the experts' call leaves of a row is what its tile's point left. -/
theorem out1_at (t : Fin (cfg1 a).N) (r : Fin 512) (l : Fin 1024) (h : 512 * t.val + r.val < 18432) :
    ((dat1 a W c).arrAt 5 (cfg1 a).N : S18432x1024.Idx → Elt F .f32) (ix2 ⟨512 * t.val + r.val, h⟩ l) = out1 a W c t (ix2 r l) := by
  have key := (dat1 a W c).arrAt_emb_eq_flushed 5 (disj1 a) t (flush1 a t) (ix2 r l : S512x1024.Idx)
  have he : ((((cfg1 a).win 5).blk t).view.emb (ix2 r l : S512x1024.Idx) : S18432x1024.Idx) = ix2 ⟨512 * t.val + r.val, h⟩ l := by
    refine funext fun x => Fin.ext ?_
    have e : ∀ x, (((((cfg1 a).win 5).rect t).emb (ix2 r l : S512x1024.Idx)) x : ℕ) = _ := fun x => ((cfg1 a).win 5).rect_emb_val t (ix2 r l : S512x1024.Idx) x
    refine (e x).trans ?_
    match x with
    | ⟨0, _⟩ =>
      refine (congrArg (· * 512 + r.val) (index1 a t)).trans ?_
      show t.val * 512 + r.val = 512 * t.val + r.val; omega
    | ⟨1, _⟩ => show 0 * 1024 + l.val = l.val; omega
  rw [← he]
  exact key

end Experts

section Gathers

variable (a : (pcfg2 (F := F)).Adm) (W : Dev nD → Valuation τ sig (Elt F)) (c : Dev nD)

theorem flush2 (t : Fin (cfg2 a).N) : ((cfg2 a).win 0).flush t = true := by
  rw [Window.flush_eq_flushOf]
  show Window.flushOf grid2 true (fun i => cc2_transform_1 i) t = true
  have h : ∀ t : Fin grid2.N, Window.flushOf grid2 true (fun i => cc2_transform_1 i) t = true := by decide +kernel
  exact h t

theorem index2 (t : Fin (cfg2 a).N) : ((cfg2 a).win 0).index t (0 : Fin 3) = t.val := by
  have ht : t.val < 8 := t.isLt
  show (BitVec.ofNat 32 (grid2.coords t 0).val).toNat = t.val
  rw [coords2, BitVec.toNat_ofNat, Nat.mod_eq_of_lt (by omega)]

theorem disj2 : ∀ t t' : Fin (cfg2 a).N, ((cfg2 a).win 0).flush t = true → ((cfg2 a).win 0).flush t' = true → t ≠ t' →
    Disjoint (((cfg2 a).win 0).blk t).view.set (((cfg2 a).win 0).blk t').view.set :=
  Window.hdisj_of_index_inj _ fun t t' _ _ h => Fin.ext (by
    have := congrFun h (0 : Fin 3)
    rw [index2, index2] at this
    exact this)

/-- Row `n` of what the gather leaves is the row the table names. -/
theorem out2_at (n : ℕ) (hn : n < 16384) (l : Fin 1024) (hp : place (tab2 a) n < 8 * 2304) :
    ((dat2 a W c).arrAt 0 (cfg2 a).N : S2048x8x1024.Idx → Elt F .f32) (at3 (A := 2048) n hn l)
      = (W c (Proc.devRef .tc main_v5) : S2304x8x1024.Idx → Elt F .f32) (at3 (A := 2304) (place (tab2 a) n) hp l) := by
  have ht : n / 2048 < (cfg2 a).N := by show n / 2048 < 8; omega
  have hr : n % 2048 < 8 * 256 := by omega
  have key := (dat2 a W c).arrAt_emb_eq_flushed 0 (disj2 a) ⟨n / 2048, ht⟩ (flush2 a _) (at3 (A := 256) (n % 2048) hr l : S256x8x1024.Idx)
  have he : ((((cfg2 a).win 0).blk ⟨n / 2048, ht⟩).view.emb (at3 (A := 256) (n % 2048) hr l : S256x8x1024.Idx) : S2048x8x1024.Idx) = at3 (A := 2048) n hn l := by
    refine funext fun x => Fin.ext ?_
    have e : ∀ x, (((((cfg2 a).win 0).rect ⟨n / 2048, ht⟩).emb (at3 (A := 256) (n % 2048) hr l : S256x8x1024.Idx)) x : ℕ) = _ :=
      fun x => ((cfg2 a).win 0).rect_emb_val ⟨n / 2048, ht⟩ (at3 (A := 256) (n % 2048) hr l : S256x8x1024.Idx) x
    refine (e x).trans ?_
    match x with
    | ⟨0, _⟩ =>
      refine (congrArg (· * 256 + n % 2048 / 8) (index2 a ⟨n / 2048, ht⟩)).trans ?_
      show n / 2048 * 256 + n % 2048 / 8 = n / 8; omega
    | ⟨1, _⟩ => show 0 * 8 + n % 2048 % 8 = n % 8; omega
    | ⟨2, _⟩ => show 0 * 1024 + l.val = l.val; omega
  rw [← he]
  refine key.trans ?_
  show fetched (tab2 a) (W c (Proc.devRef .tc main_v5)) (grid2.coords ⟨n / 2048, ht⟩ 0).val (at3 (A := 256) (n % 2048) hr l) = _
  have hq : 2048 * (grid2.coords ⟨n / 2048, ht⟩ 0).val + rowOf (at3 (A := 256) (n % 2048) hr l) = n := by
    rw [coords2, rowOf_at3]; show 2048 * (n / 2048) + n % 2048 = n; omega
  have hp' := hp
  rw [fetched_at _ _ _ _ (by rw [hq]; exact hp)]
  have go : ∀ k (hk : place (tab2 a) k < 8 * 2304), k = n → at3 (A := 2304) (place (tab2 a) k) hk l = at3 (place (tab2 a) n) hp l := by rintro k hk rfl; rfl
  exact congrArg _ (go _ _ hq)

end Gathers

end Cert.Reads
-- ==== Proof.Routed.lean ====
/- What `routed` says of the arguments. -/
module

public import proofs.«01_k».proof.Proof.Pre
public import Idealize.ShloMosaic.Lib.Pointwise

@[expose] public section

set_option maxRecDepth 16384

noncomputable section

namespace Cert.Routed

open Idealize.ShloMosaic Idealize.ShloMosaic.TcCoe
open Cert.Pre_routed Cert.Pre Cert.Scatter Cert.Rows Cert.Expert

attribute [local instance] Cert.Pre.routedFacts

/-- A word of a place, shifted to its tile's number. -/
theorem shr9 (v : BitVec 32) (h : v.toNat < 18432) : v.sshiftRight 9 = BitVec.ofNat 32 (v.toNat / 512) := by
  have hm : v.msb = false := by
    rw [BitVec.msb_eq_decide, decide_eq_false_iff_not]; omega
  rw [BitVec.sshiftRight_eq_of_msb_false hm]
  apply BitVec.eq_of_toNat_eq
  rw [BitVec.toNat_ushiftRight, Nat.shiftRight_eq_div_pow, BitVec.toNat_ofNat, Nat.mod_eq_of_lt (by omega)]

theorem shift_word (v : BitVec 32) (h : v.toNat < 18432) : IntOp.shrsi .host v 9#32 = BitVec.ofNat 32 (v.toNat / 512) := by
  have : IntOp.shrsi .host v 9#32 = v.sshiftRight 9 := by
    unfold IntOp.shrsi; rw [if_pos (by decide)]; rfl
  rw [this, shr9 v h]

/-- A lane between a group's first and last, counted in words, is between them. -/
theorem lane_group (y : Fin 32) (g : BitVec 32) (hg : g.toNat < 4) (h1 : IntOp.cmpi .sge (BitVec.ofNat 32 y.val) (IntOp.muli g 8#32) = 1#1)
    (h2 : IntOp.cmpi .slt (BitVec.ofNat 32 y.val) (IntOp.addi (IntOp.muli g 8#32) 8#32) = 1#1) : 8 * g.toNat ≤ y.val ∧ y.val < 8 * g.toNat + 8 := by
  obtain ⟨k, hk, rfl⟩ : ∃ k, k < 4 ∧ g = BitVec.ofNat 32 k := ⟨g.toNat, hg, by simp⟩
  have hk' : (BitVec.ofNat 32 k).toNat = k := by rw [BitVec.toNat_ofNat]; omega
  rw [hk']
  revert h1 h2
  clear hg hk'
  revert y
  interval_cases k <;> decide

/-- What the arguments must be. -/
structure Holds (T : S16384.Idx → BitVec 32) (M : S128.Idx → BitVec 32) (X : S16384x1152.Idx → EReal) : Prop where
  tables : Tables T M
  used : ∀ n, n < 16384 → IntOp.cmpi .slt (BitVec.ofNat 32 (place T n / 512)) (mword M 64) = 1#1
  closed : ∀ n (hn : n < 16384) (y : Fin 32), (8 * (mword M (place T n / 512)).toNat ≤ y.val ∧ y.val < 8 * (mword M (place T n / 512)).toNat + 8)
    ∨ X (Idealize.ShloMosaic.ix2 ⟨n, hn⟩ ⟨1024 + y.val, by omega⟩) = 0

theorem holds_of (T : S16384.Idx → BitVec 32) (M : S128.Idx → BitVec 32) (X : FVec Ideal S16384x1152 .f32) (G A B C)
    (h : (Cert.Pre_routed.fn (F := Ideal) T M X G A B C).1 = (fun _ => 1#1)
      ∧ (Cert.Pre_routed.fn (F := Ideal) T M X G A B C).2.1 = (fun _ => 1#1)
      ∧ (Cert.Pre_routed.fn (F := Ideal) T M X G A B C).2.2.1 = (fun _ => 1#1)
      ∧ (Cert.Pre_routed.fn (F := Ideal) T M X G A B C).2.2.2.1 = (fun _ => 1#1)
      ∧ (Cert.Pre_routed.fn (F := Ideal) T M X G A B C).2.2.2.2 = (fun _ => 1#1)) : Holds T M X := by
  obtain ⟨h1, h2, h3, h4, h5⟩ := h
  have ht : Tables T M := by
    refine tables_of T M (fun p q hp hq => ?_) (fun p hp => ?_) (fun n hn => ?_)
    · have e := congrFun h1 (sq p q hp hq)
      simp only [Cert.Pre_routed.fn, Cert.Pre_routed.fn_part1, Cert.Pre_routed.fn_part2, ori, cmpi, iotaInDim] at e
      rw [col_at (by decide) _ _ T (sq p q hp hq) (at1 p hp) rfl, row_at (by decide) _ _ T (sq p q hp hq) (at1 q hq) rfl] at e
      exact e
    · have e := congrFun h2 (at1 p hp)
      exact e
    · have e := congrFun h3 (tl n hn)
      simp only [Cert.Pre_routed.fn, Cert.Pre_routed.fn_part1, Cert.Pre_routed.fn_part2, andi, cmpi] at e
      rw [extractStridedSlice_apply (k := mat n (by omega))] at e
      · exact e
      · intro a; obtain rfl : a = 0 := Subsingleton.elim _ _
        simp [mat, tl]
  refine ⟨ht, fun n hn => ?_, fun n hn y => ?_⟩
  · have e := congrFun h4 (Idealize.ShloMosaic.ix1 ⟨n, hn⟩)
    simp only [Cert.Pre_routed.fn, Cert.Pre_routed.fn_part1, Cert.Pre_routed.fn_part2] at e
    pointwise at e
    have hw : T (Idealize.ShloMosaic.ix1 ⟨n, hn⟩) = word T n := by unfold word; rw [dif_pos hn]; exact congrArg T (idx1 _ _ rfl)
    have hm : M (Idealize.ShloMosaic.ix1 64) = mword M 64 := by unfold mword; rw [dif_pos (by decide)]; exact congrArg M (idx1 _ _ rfl)
    rw [hw, hm, shift_word _ (ht.good.lt n hn)] at e
    exact e
  · have hp : place T n / 512 < 36 := by have := ht.good.lt n hn; omega
    have hg := ht.group _ hp
    have e := congrFun h5 (Idealize.ShloMosaic.ix3 ⟨n, hn⟩ ⟨place T n / 512, hp⟩ y)
    simp only [Cert.Pre_routed.fn, Cert.Pre_routed.fn_part1, Cert.Pre_routed.fn_part2] at e
    pointwise at e
    have hw : T (Idealize.ShloMosaic.ix1 ⟨n, hn⟩) = word T n := by unfold word; rw [dif_pos hn]; exact congrArg T (idx1 _ _ rfl)
    have hm : M (Idealize.ShloMosaic.ix1 ⟨place T n / 512, by omega⟩) = mword M (place T n / 512) := by
      unfold mword; rw [dif_pos (by omega)]; exact congrArg M (idx1 _ _ rfl)
    rw [hw, hm, shift_word _ (ht.good.lt n hn)] at e
    rcases IntOp.ori_eq_one.mp e with e | e
    · rcases IntOp.ori_eq_one.mp e with e | e
      · exact absurd rfl (IntOp.cmpi_ne.mp e)
      · obtain ⟨e1, e2⟩ := IntOp.andi_eq_one.mp e
        refine .inl ?_
        revert e1 e2 hg
        generalize mword M (place T n / 512) = g
        intro hg e1 e2
        exact lane_group y g hg e1 e2
    · refine .inr ?_
      by_contra hne
      rw [decide_eq_false hne] at e
      exact absurd e (by decide)

end Cert.Routed
-- ==== Proof.Spec.lean ====
/- One row's mathematics, over the extended reals: normalized, through a group's experts, added back. -/
module

public import Idealize.ShloMosaic.Lib.Pointwise

@[expose] public section

noncomputable section

namespace Cert.Spec

open Idealize.ShloMosaic

/-- A normalized row. -/
def nrm (row : Fin 1152 → EReal) (gf : Fin 1024 → EReal) (d : Fin 1024) : EReal :=
  row ⟨d.val, by omega⟩ * Ideal.rsqrt (Ideal.div (∑ x : Fin 1024, row ⟨x.val, by omega⟩ * row ⟨x.val, by omega⟩) (Ideal.ofBits .f32 0x44800000#32)
    + Ideal.ofBits .f32 0x358637BD#32) * gf d

/-- The product of a row with a column. -/
def dotp (h w : Fin 1024 → EReal) : EReal := ∑ d : Fin 1024, h d * w d

/-- An expert's hidden element, gated by `t`. -/
def cell (h a b : Fin 1024 → EReal) (t : EReal) : EReal := dotp h a * Ideal.logistic (dotp h a) * dotp h b * t

/-- A group's share of a row. -/
def share (row : Fin 1152 → EReal) (gf : Fin 1024 → EReal) (A B : Fin 4 → Fin 8 → Fin 1024 → Fin 256 → EReal) (C : Fin 4 → Fin 8 → Fin 256 → Fin 1024 → EReal)
    (k : Fin 4) (l : Fin 1024) : EReal :=
  ∑ e : Fin 8, ∑ f : Fin 256, cell (nrm row gf) (fun d => A k e d f) (fun d => B k e d f) (row ⟨1024 + 8 * k.val + e.val, by omega⟩) * C k e f l

/-- A group whose gates are zero has no share. -/
theorem share_zero (row : Fin 1152 → EReal) (gf : Fin 1024 → EReal) (A B : Fin 4 → Fin 8 → Fin 1024 → Fin 256 → EReal) (C : Fin 4 → Fin 8 → Fin 256 → Fin 1024 → EReal)
    (k : Fin 4) (l : Fin 1024) (h : ∀ e : Fin 8, row ⟨1024 + 8 * k.val + e.val, by omega⟩ = 0) : share row gf A B C k l = 0 := by
  unfold share
  refine Finset.sum_eq_zero fun e _ => Finset.sum_eq_zero fun f _ => ?_
  rw [h e, cell, mul_zero, zero_mul]

/-- All groups' shares, when one group alone has gates. -/
theorem shares (row : Fin 1152 → EReal) (gf : Fin 1024 → EReal) (A B : Fin 4 → Fin 8 → Fin 1024 → Fin 256 → EReal) (C : Fin 4 → Fin 8 → Fin 256 → Fin 1024 → EReal)
    (k : Fin 4) (l : Fin 1024) (h : ∀ j : Fin 4, j ≠ k → ∀ e : Fin 8, row ⟨1024 + 8 * j.val + e.val, by omega⟩ = 0) :
    0 + share row gf A B C 0 l + share row gf A B C 1 l + share row gf A B C 2 l + share row gf A B C 3 l = share row gf A B C k l := by
  have hz : ∀ j : Fin 4, j ≠ k → share row gf A B C j l = 0 := fun j hj => share_zero row gf A B C j l (h j hj)
  fin_cases k
  · rw [hz 1 (by decide), hz 2 (by decide), hz 3 (by decide)]; simp
  · rw [hz 0 (by decide), hz 2 (by decide), hz 3 (by decide)]; simp
  · rw [hz 0 (by decide), hz 1 (by decide), hz 3 (by decide)]; simp
  · rw [hz 0 (by decide), hz 1 (by decide), hz 2 (by decide)]; simp

end Cert.Spec
-- ==== Proof.Value.lean ====
/- The experts' arithmetic at an index: what one row of a point's block is. -/
module

public import proofs.«01_k».proof.Proof.Expert
public import proofs.«01_k».proof.Proof.Spec
public import Idealize.ShloMosaic.Lib.Pointwise
public import Idealize.ShloMosaic.Lib.Affine

@[expose] public section

set_option maxRecDepth 16384

noncomputable section

namespace Cert.Value

open Idealize.ShloMosaic Idealize.ShloMosaic.TcCoe
open Cert.KernelIdeal Cert.KernelIdeal.Gen Cert.Expert Cert.Spec

theorem proj_at (nx : FVec Ideal S512x1024 .bf16) (w : Vec Ideal S1x1x1024x256 .f32) (r : Fin 512) (f : Fin 256) :
    proj nx w (ix2 r f) = ∑ d : Fin 1024, nx (ix2 r d) * w (ix4 0 0 d f) := by
  pointwise [proj]

theorem pick (a b : BitVec 32) (x : EReal) : Scalar.select (IntOp.cmpi .eq a b) x 0 = if a = b then x else 0 := by
  by_cases h : a = b
  · rw [if_pos h, (IntOp.cmpi_eq).mpr h]; rfl
  · have h0 : IntOp.cmpi .eq a b ≠ 1#1 := fun h' => h (IntOp.cmpi_eq.mp h')
    rw [if_neg h]; exact if_neg h0

theorem gateCol_at (gt : FVec Ideal S512x128 .f32) (g : Fin 4) (e : Fin 8) (r : Fin 512) (z : Fin 1) :
    gateCol gt (Scalar.addi (Scalar.muli (BitVec.ofNat 32 g.val) 8#32) (BitVec.ofNat 32 e.val)) (ix2 r z) = gt (ix2 r ⟨8 * g.val + e.val, by omega⟩) := by
  have hs : Scalar.addi (Scalar.muli (BitVec.ofNat 32 g.val) 8#32) (BitVec.ofNat 32 e.val) = BitVec.ofNat 32 (8 * g.val + e.val) := by
    show BitVec.ofNat 32 g.val * 8#32 + BitVec.ofNat 32 e.val = _
    apply BitVec.eq_of_toNat_eq
    simp only [BitVec.toNat_add, BitVec.toNat_mul, BitVec.toNat_ofNat]
    omega
  rw [hs]
  pointwise [gateCol]
  simp only [pick]
  rw [Finset.sum_eq_single (⟨8 * g.val + e.val, by omega⟩ : Fin 128)]
  · rw [if_pos rfl]
  · intro k _ hk
    refine if_neg fun h => hk (Fin.ext ?_)
    have := congrArg BitVec.toNat h
    simp only [BitVec.toNat_ofNat] at this
    have := k.isLt
    show k.val = 8 * g.val + e.val
    omega
  · intro h; exact absurd (Finset.mem_univ _) h

theorem hid_at (nx : FVec Ideal S512x1024 .bf16) (gt : FVec Ideal S512x128 .f32) (s : BitVec 32) (wg wu : Vec Ideal S1x1x1024x256 .f32) (r : Fin 512) (f : Fin 256) :
    hid nx gt s wg wu (ix2 r f) = proj nx wg (ix2 r f) * Ideal.logistic (proj nx wg (ix2 r f)) * proj nx wu (ix2 r f) * gateCol gt s (ix2 r 0) := by
  pointwise [hid]

theorem same (T : Fin 8 → Fin 256 → EReal) (a b : Fin 8) (x y : Fin 256) (h1 : a = b) (h2 : x.val = y.val) : T a x = T b y := by
  rw [h1, Fin.ext h2]

theorem ladder (T : Fin 8 → Fin 256 → EReal) (e : Fin 8) (f : Fin 256) (k : ℕ) (hk : k = e.val * 256 + f.val) (hb : k - 256 - 256 - 256 - 256 - 256 - 256 - 256 < 256) :
    (if h : k < 256 then T 0 ⟨k, h⟩ else if h : k - 256 < 256 then T 1 ⟨k - 256, h⟩ else if h : k - 256 - 256 < 256 then T 2 ⟨k - 256 - 256, h⟩
      else if h : k - 256 - 256 - 256 < 256 then T 3 ⟨k - 256 - 256 - 256, h⟩ else if h : k - 256 - 256 - 256 - 256 < 256 then T 4 ⟨k - 256 - 256 - 256 - 256, h⟩
      else if h : k - 256 - 256 - 256 - 256 - 256 < 256 then T 5 ⟨k - 256 - 256 - 256 - 256 - 256, h⟩
      else if h : k - 256 - 256 - 256 - 256 - 256 - 256 < 256 then T 6 ⟨k - 256 - 256 - 256 - 256 - 256 - 256, h⟩
      else T 7 ⟨k - 256 - 256 - 256 - 256 - 256 - 256 - 256, hb⟩) = T e f := by
  have hf := f.isLt
  have he := e.isLt
  split_ifs
  · exact same T 0 e _ f (Fin.ext (by show 0 = e.val; omega)) (by show _ = f.val; simp only; omega)
  · exact same T 1 e _ f (Fin.ext (by show 1 = e.val; omega)) (by show _ = f.val; simp only; omega)
  · exact same T 2 e _ f (Fin.ext (by show 2 = e.val; omega)) (by show _ = f.val; simp only; omega)
  · exact same T 3 e _ f (Fin.ext (by show 3 = e.val; omega)) (by show _ = f.val; simp only; omega)
  · exact same T 4 e _ f (Fin.ext (by show 4 = e.val; omega)) (by show _ = f.val; simp only; omega)
  · exact same T 5 e _ f (Fin.ext (by show 5 = e.val; omega)) (by show _ = f.val; simp only; omega)
  · exact same T 6 e _ f (Fin.ext (by show 6 = e.val; omega)) (by show _ = f.val; simp only; omega)
  · exact same T 7 e _ f (Fin.ext (by show 7 = e.val; omega)) (by show _ = f.val; simp only; omega)

theorem close_at (x : FVec Ideal S512x1024 .f32) (h : Fin 8 → FVec Ideal S512x256 .bf16) (C : Vec Ideal S1x8x256x1024 .f32) (r : Fin 512) (l : Fin 1024) :
    close x h C (ix2 r l) = x (ix2 r l) + ∑ e : Fin 8, ∑ f : Fin 256, h e (ix2 r f) * C (ix4 0 e f l) := by
  pointwise [close]
  congr 1
  rw [Fin.sum_univ_tiles 8 256 rfl]
  refine Finset.sum_congr rfl fun e _ => Finset.sum_congr rfl fun f _ => ?_
  have hf := f.isLt
  have he := e.isLt
  refine congrArg₂ (· * ·) ?_ ?_
  · exact ladder (fun e f => h e (ix2 r f)) e f _ rfl (by show e.val * 256 + f.val - 256 - 256 - 256 - 256 - 256 - 256 - 256 < 256; omega)
  · refine congrArg C (funext fun a => Fin.ext ?_)
    match a with
    | 0 => rfl
    | 1 => show (e.val * 256 + f.val) / 256 = e.val; omega
    | 2 => show (e.val * 256 + f.val) % 256 = f.val; omega
    | 3 => rfl

theorem norm_at (x : Vec Ideal S512x1024 .f32) (gf : Vec Ideal S1x1024 .f32) (r : Fin 512) (d : Fin 1024) :
    k1_pay5 x gf (ix2 r d) = x (ix2 r d) * Ideal.rsqrt (Ideal.div (∑ k : Fin 1024, x (ix2 r k) * x (ix2 r k)) (Ideal.ofBits .f32 0x44800000#32)
      + Ideal.ofBits .f32 0x358637BD#32) * gf (ix2 0 d) := by
  pointwise [k1_pay5, k1_pay3]

theorem body_at (X : S512x1152.Idx → Elt Ideal .f32) (r : Fin 512) (d : Fin 1024) : body (F := Ideal) X (ix2 r d) = X (ix2 r ⟨d.val, by omega⟩) := by
  unfold body cut
  refine congrArg X (funext fun a => Fin.ext ?_)
  match a with
  | 0 => show 0 + 1 * r.val = r.val; omega
  | 1 => show 0 + 1 * d.val = d.val; omega

theorem gates_at (X : S512x1152.Idx → Elt Ideal .f32) (r : Fin 512) (d : Fin 128) : gates (F := Ideal) X (ix2 r d) = X (ix2 r ⟨1024 + d.val, by omega⟩) := by
  unfold gates cut
  refine congrArg X (funext fun a => Fin.ext ?_)
  match a with
  | 0 => show 0 + 1 * r.val = r.val; omega
  | 1 => show 1024 + 1 * d.val = 1024 + d.val; omega

theorem slab_at (A : S1x8x1024x256.Idx → Elt Ideal .f32) (e : Fin 8) (d : Fin 1024) (f : Fin 256) : slab (F := Ideal) A e (ix4 0 0 d f) = A (ix4 0 e d f) := by
  unfold slab cut
  refine congrArg A (funext fun a => Fin.ext ?_)
  match a with
  | 0 => rfl
  | 1 => show e.val + 1 * 0 = e.val; omega
  | 2 => show 0 + 1 * d.val = d.val; omega
  | 3 => show 0 + 1 * f.val = f.val; omega

/-- A row of a point's block. -/
theorem through_at (g : Fin 4) (X : S512x1152.Idx → Elt Ideal .f32) (gf : Vec Ideal S1x1024 .f32) (A B : S1x8x1024x256.Idx → Elt Ideal .f32)
    (C : Vec Ideal S1x8x256x1024 .f32) (row : Fin 1152 → EReal) (gf' : Fin 1024 → EReal) (A' B' : Fin 4 → Fin 8 → Fin 1024 → Fin 256 → EReal) (C' : Fin 4 → Fin 8 → Fin 256 → Fin 1024 → EReal)
    (r : Fin 512) (l : Fin 1024) (hX : ∀ y, X (ix2 r y) = row y) (hgf : ∀ d, gf (ix2 0 d) = gf' d) (hA : ∀ e d f, A (ix4 0 e d f) = A' g e d f)
    (hB : ∀ e d f, B (ix4 0 e d f) = B' g e d f) (hC : ∀ e f l, C (ix4 0 e f l) = C' g e f l) :
    through (F := Ideal) (BitVec.ofNat 32 g.val) X gf A B C (ix2 r l) = row ⟨l.val, by omega⟩ + share row gf' A' B' C' g l := by
  unfold through
  rw [close_at]
  have h3 : k1_pay3 (body (F := Ideal) X) (ix2 r l) = row ⟨l.val, by omega⟩ := by
    pointwise [k1_pay3]
    rw [body_at, hX]
  rw [h3]
  unfold share
  refine congrArg _ (Finset.sum_congr rfl fun e _ => Finset.sum_congr rfl fun f _ => ?_)
  rw [hid_at, gateCol_at, proj_at, proj_at, hC]
  have h4 : ∀ y : Fin 128, k1_pay4 (gates (F := Ideal) X) (ix2 r y) = row ⟨1024 + y.val, by omega⟩ := by
    intro y
    pointwise [k1_pay4]
    rw [gates_at, hX]
  have h5 : ∀ d, k1_pay5 (body (F := Ideal) X) gf (ix2 r d) = nrm row gf' d := by
    intro d
    rw [norm_at]
    simp only [body_at, hX, hgf]
    rfl
  have h6 : ∀ (u : ℕ) (hu : u < 1152), u = 1024 + 8 * g.val + e.val → row ⟨u, hu⟩ = row ⟨1024 + 8 * g.val + e.val, by omega⟩ := by
    intro u hu h; subst h; rfl
  simp only [h4, h5, slab_at, hA, hB]
  rw [h6 _ _ (by omega)]
  rfl

end Cert.Value
-- ==== Proof.RefValue.lean ====
/- The reference: what it leaves in its result, and that result at an index. -/
module

public import proofs.«01_k».proof.Proof.Gen.ReferenceIdeal
public import proofs.«01_k».proof.Proof.Spec
public import Idealize.ShloMosaic.Lib.Claim
public import Idealize.ShloMosaic.Lib.Pointwise

@[expose] public section

set_option maxRecDepth 16384

noncomputable section

namespace Cert.RefValue

open Idealize.ShloMosaic Idealize.ShloMosaic.TcCoe Idealize.ShloMosaic.Tactic
open Cert.ReferenceIdeal Cert.ReferenceIdeal.Facts₀ Cert.ReferenceIdeal.Facts Cert.Spec

attribute [local instance] Cert.ReferenceIdeal.Gen.facts

variable {F : FTy → Type} [FloatOps F]

/-- The rows without their gates. -/
def bodyR (X : FVec F S16384x1152 .f32) : FVec F S16384x1024 .f32 := (extractStridedSlice S16384x1024 ![0, 0] · slices_S16384x1152_S16384x1024_0_0) X

/-- The gates, one row of eight per group. -/
def gatesR (X : FVec F S16384x1152 .f32) : FVec F S16384x4x8 .f32 :=
  shapeCast S16384x4x8 ((extractStridedSlice S16384x32 ![0, 1024] · slices_S16384x1152_S16384x32_0_1024) X) shapeCasts_S16384x32_S16384x4x8

/-- The normalized rows. -/
def normR (x : FVec F S16384x1024 .f32) (gf : FVec F S1x1024 .f32) : FVec F S16384x1024 .f32 :=
  mulf (mulf x (broadcastInDim S16384x1024 ![0, 1] bcast_S16384x1_S16384x1024_0_1
    (Host.rsqrt (addf (Host.divf (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 gf)

/-- The gate of an expert's hidden row. -/
def siluR (a : FVec F S16384x8x256 .f32) : FVec F S16384x8x256 .f32 :=
  mulf a (Host.divf (broadcastInDim S16384x8x256 ![] bcast_S_S16384x8x256 (constant S_ .f32 0x3F800000#32))
    (addf (broadcastInDim S16384x8x256 ![] bcast_S_S16384x8x256 (constant S_ .f32 0x3F800000#32)) (Host.exp (Host.negf a))))

/-- The product with a group's weights. -/
def projR (H : FVec F S16384x1024 .f32) (A : FVec F S4x8x1024x256 .f32) {o : Fin 4 → ℕ} (ha : S4x8x1024x256.Slices o S1x8x1024x256) : FVec F S16384x8x256 .f32 :=
  Host.dotGeneral dot_S16384x1024_S8x1024x256_S16384x8x256_1_1_0_02_n_n none H
    (shapeCast S8x1024x256 (extractStridedSlice S1x8x1024x256 o A ha) shapeCasts_S1x8x1024x256_S8x1024x256)

/-- A group's gated hidden rows. -/
def hidR (H : FVec F S16384x1024 .f32) (G : FVec F S16384x4x8 .f32) (A B : FVec F S4x8x1024x256 .f32) {o : Fin 4 → ℕ} {og : Fin 3 → ℕ}
    (ha : S4x8x1024x256.Slices o S1x8x1024x256) (hg : S16384x4x8.Slices og S16384x1x8) : FVec F S16384x8x256 .f32 :=
  mulf (mulf (siluR (projR H A ha)) (projR H B ha))
    (broadcastInDim S16384x8x256 ![0, 1, 2] bcast_S16384x8x1_S16384x8x256_0_1_2 (broadcastInDim S16384x8x1 ![0, 1] bcast_S16384x8_S16384x8x1_0_1
      (shapeCast S16384x8 (extractStridedSlice S16384x1x8 og G hg) shapeCasts_S16384x1x8_S16384x8)))

/-- A group's rows through its last product. -/
def outR (h : FVec F S16384x8x256 .f32) (C : FVec F S4x8x256x1024 .f32) {o : Fin 4 → ℕ} (hc : S4x8x256x1024.Slices o S1x8x256x1024) : FVec F S16384x1024 .f32 :=
  Host.dotGeneral dot_S16384x8x256_S8x256x1024_S16384x1024_12_01_0_2_n_n none h
    (shapeCast S8x256x1024 (extractStridedSlice S1x8x256x1024 o C hc) shapeCasts_S1x8x256x1024_S8x256x1024)

/-- One group's share. -/
def groupR (X : FVec F S16384x1152 .f32) (gf : FVec F S1x1024 .f32) (A B : FVec F S4x8x1024x256 .f32) (C : FVec F S4x8x256x1024 .f32)
    {o : Fin 4 → ℕ} {og : Fin 3 → ℕ} (ha : S4x8x1024x256.Slices o S1x8x1024x256) (hg : S16384x4x8.Slices og S16384x1x8) (hc : S4x8x256x1024.Slices o S1x8x256x1024) : FVec F S16384x1024 .f32 :=
  outR (hidR (normR (bodyR X) gf) (gatesR X) A B ha hg) C hc

/-- The reference's result. -/
def resultR (X : FVec F S16384x1152 .f32) (gf : FVec F S1x1024 .f32) (A B : FVec F S4x8x1024x256 .f32) (C : FVec F S4x8x256x1024 .f32) : FVec F S16384x1024 .f32 :=
  addf (bodyR X) (addf (addf (addf (addf (broadcastInDim S16384x1024 ![] bcast_S_S16384x1024 (constant S_ .f32 0x00000000#32))
    (groupR X gf A B C slices_S4x8x1024x256_S1x8x1024x256_0_0_0_0 slices_S16384x4x8_S16384x1x8_0_0_0 slices_S4x8x256x1024_S1x8x256x1024_0_0_0_0))
    (groupR X gf A B C slices_S4x8x1024x256_S1x8x1024x256_1_0_0_0 slices_S16384x4x8_S16384x1x8_0_1_0 slices_S4x8x256x1024_S1x8x256x1024_1_0_0_0))
    (groupR X gf A B C slices_S4x8x1024x256_S1x8x1024x256_2_0_0_0 slices_S16384x4x8_S16384x1x8_0_2_0 slices_S4x8x256x1024_S1x8x256x1024_2_0_0_0))
    (groupR X gf A B C slices_S4x8x1024x256_S1x8x1024x256_3_0_0_0 slices_S16384x4x8_S16384x1x8_0_3_0 slices_S4x8x256x1024_S1x8x256x1024_3_0_0_0))

/-! ## At an index -/

/-- Row `n`. -/
def rowR (X : FVec Ideal S16384x1152 .f32) (n : Fin 16384) (y : Fin 1152) : EReal := X (ix2 n y)

theorem norm_at (X : FVec Ideal S16384x1152 .f32) (gf : FVec Ideal S1x1024 .f32) (n : Fin 16384) (d : Fin 1024) :
    normR (bodyR X) gf (ix2 n d) = nrm (rowR X n) (fun d => gf (ix2 0 d)) d := by
  pointwise [normR, bodyR]
  rfl

theorem proj_at (H : FVec Ideal S16384x1024 .f32) (A : FVec Ideal S4x8x1024x256 .f32) (k : Fin 4) (ha : S4x8x1024x256.Slices ![k.val, 0, 0, 0] S1x8x1024x256)
    (n : Fin 16384) (e : Fin 8) (f : Fin 256) :
    projR H A ha (ix3 n e f) = ∑ d : Fin 1024, H (ix2 n d) * A (ix4 k e d f) := by
  pointwise [projR]

theorem hid_at (H : FVec Ideal S16384x1024 .f32) (X : FVec Ideal S16384x1152 .f32) (A B : FVec Ideal S4x8x1024x256 .f32) (k : Fin 4)
    (ha : S4x8x1024x256.Slices ![k.val, 0, 0, 0] S1x8x1024x256) (hg : S16384x4x8.Slices ![0, k.val, 0] S16384x1x8) (n : Fin 16384) (e : Fin 8) (f : Fin 256) :
    hidR H (gatesR X) A B ha hg (ix3 n e f)
      = projR H A ha (ix3 n e f) * Ideal.logistic (projR H A ha (ix3 n e f)) * projR H B ha (ix3 n e f) * X (ix2 n ⟨1024 + 8 * k.val + e.val, by omega⟩) := by
  have hx : ∀ (u : ℕ) (hu : u < 1152), u = 1024 + 8 * k.val + e.val → X (ix2 n ⟨u, hu⟩) = X (ix2 n ⟨1024 + 8 * k.val + e.val, by omega⟩) := by
    intro u hu h; subst h; rfl
  pointwise [hidR, siluR, gatesR]
  exact congrArg _ (hx _ _ (by omega))

theorem out_at (h : FVec Ideal S16384x8x256 .f32) (C : FVec Ideal S4x8x256x1024 .f32) (k : Fin 4) (hc : S4x8x256x1024.Slices ![k.val, 0, 0, 0] S1x8x256x1024)
    (n : Fin 16384) (l : Fin 1024) :
    outR h C hc (ix2 n l) = ∑ e : Fin 8, ∑ f : Fin 256, h (ix3 n e f) * C (ix4 k e f l) := by
  pointwise [outR]

theorem group_at (X : FVec Ideal S16384x1152 .f32) (gf : FVec Ideal S1x1024 .f32) (A B : FVec Ideal S4x8x1024x256 .f32) (C : FVec Ideal S4x8x256x1024 .f32) (k : Fin 4)
    (ha : S4x8x1024x256.Slices ![k.val, 0, 0, 0] S1x8x1024x256) (hg : S16384x4x8.Slices ![0, k.val, 0] S16384x1x8) (hc : S4x8x256x1024.Slices ![k.val, 0, 0, 0] S1x8x256x1024)
    (n : Fin 16384) (l : Fin 1024) :
    groupR X gf A B C ha hg hc (ix2 n l)
      = share (rowR X n) (fun d => gf (ix2 0 d)) (fun k e d f => A (ix4 k e d f)) (fun k e d f => B (ix4 k e d f)) (fun k e f l => C (ix4 k e f l)) k l := by
  unfold groupR share
  rw [out_at]
  refine Finset.sum_congr rfl fun e _ => Finset.sum_congr rfl fun f _ => ?_
  rw [hid_at, proj_at, proj_at]
  simp only [norm_at]
  rfl

/-- The reference's result, when row `n` has gates in group `k` alone. -/
theorem result_at (X : FVec Ideal S16384x1152 .f32) (gf : FVec Ideal S1x1024 .f32) (A B : FVec Ideal S4x8x1024x256 .f32) (C : FVec Ideal S4x8x256x1024 .f32) (k : Fin 4)
    (n : Fin 16384) (l : Fin 1024) (h : ∀ j : Fin 4, j ≠ k → ∀ e : Fin 8, rowR X n ⟨1024 + 8 * j.val + e.val, by omega⟩ = 0) :
    resultR X gf A B C (ix2 n l) = rowR X n ⟨l.val, by omega⟩
      + share (rowR X n) (fun d => gf (ix2 0 d)) (fun k e d f => A (ix4 k e d f)) (fun k e d f => B (ix4 k e d f)) (fun k e f l => C (ix4 k e f l)) k l := by
  rw [← shares _ _ _ _ _ k l h]
  rw [← group_at X gf A B C 0 slices_S4x8x1024x256_S1x8x1024x256_0_0_0_0 slices_S16384x4x8_S16384x1x8_0_0_0 slices_S4x8x256x1024_S1x8x256x1024_0_0_0_0,
    ← group_at X gf A B C 1 slices_S4x8x1024x256_S1x8x1024x256_1_0_0_0 slices_S16384x4x8_S16384x1x8_0_1_0 slices_S4x8x256x1024_S1x8x256x1024_1_0_0_0,
    ← group_at X gf A B C 2 slices_S4x8x1024x256_S1x8x1024x256_2_0_0_0 slices_S16384x4x8_S16384x1x8_0_2_0 slices_S4x8x256x1024_S1x8x256x1024_2_0_0_0,
    ← group_at X gf A B C 3 slices_S4x8x1024x256_S1x8x1024x256_3_0_0_0 slices_S16384x4x8_S16384x1x8_0_3_0 slices_S4x8x256x1024_S1x8x256x1024_3_0_0_0]
  pointwise [resultR, bodyR]
  try rfl

end Cert.RefValue
-- ==== Proof.Assembly.lean ====
/- The kernel's result at one element: its row through the experts of the group of the tile it is placed in. -/
module

public import proofs.«01_k».proof.Proof.Reads
public import proofs.«01_k».proof.Proof.Routed
public import proofs.«01_k».proof.Proof.Value
public import proofs.«01_k».proof.Proof.RefValue

@[expose] public section

set_option maxRecDepth 16384
set_option backward.isDefEq.respectTransparency.types false

noncomputable section

namespace Cert.Assembly

open Idealize.ShloMosaic Idealize.ShloMosaic.TcCoe Idealize.ShloMosaic.Tactic
open Idealize.ShloMosaic.Pipeline
open Cert.KernelIdeal Cert.KernelIdeal.Gen Cert.Rows Cert.Scatter Cert.Points Cert.Seg Cert.Dats Cert.Run Cert.Expert Cert.Reads

section Reshapes

variable {α : Type} {A L : ℕ}

/-- Rows counted in one sequence, from rows in groups of eight, -/
theorem flat_at (n : ℕ) (hn : n < 8 * A) (l : Fin L) (v : (S3 A L).Idx → α) (N : ℕ) (hN : n < N) (h : (S3 A L).ShapeCasts ⟨2, ![N, L]⟩) :
    shapeCast ⟨2, ![N, L]⟩ v h (ix2 ⟨n, hN⟩ l) = v (at3 n hn l) := by
  refine shapeCast_apply v h (ix2 ⟨n, hN⟩ l) (at3 n hn l) ?_
  have h3 := Shape.rowMajor_val_three (at3 (A := A) n hn l)
  have h2 := Shape.rowMajor_val_two (ix2 (⟨n, hN⟩ : Fin N) l)
  refine h3.trans (Eq.trans ?_ h2.symm)
  show (n / 8 * 8 + n % 8) * L + l.val = n * L + l.val
  rw [show n / 8 * 8 + n % 8 = n by omega]

/-- and back. -/
theorem eights_at (n : ℕ) (hn : n < 8 * A) (l : Fin L) (N : ℕ) (hN : n < N) (v : (⟨2, ![N, L]⟩ : Shape).Idx → α) (h : (⟨2, ![N, L]⟩ : Shape).ShapeCasts (S3 A L)) :
    shapeCast (S3 A L) v h (at3 n hn l) = v (ix2 ⟨n, hN⟩ l) := by
  refine shapeCast_apply v h (at3 n hn l) (ix2 ⟨n, hN⟩ l) ?_
  have h3 := Shape.rowMajor_val_three (at3 (A := A) n hn l)
  have h2 := Shape.rowMajor_val_two (ix2 (⟨n, hN⟩ : Fin N) l)
  refine h2.trans (Eq.trans ?_ h3.symm)
  show n * L + l.val = (n / 8 * 8 + n % 8) * L + l.val
  rw [show n / 8 * 8 + n % 8 = n by omega]

end Reshapes

section Lines

variable (V : Valuation τ sig (Elt Ideal))

theorem line0 (n : ℕ) (hn : n < 16384) (y : Fin 1152) :
    (StableHlo.after hostOps0 V (Proc.devRef .tc main_v0) : S2048x8x1152.Idx → EReal) (at3 (A := 2048) n hn y) = (V (Proc.devRef .tc main_arg2) : S16384x1152.Idx → EReal) (ix2 ⟨n, hn⟩ y) := by
  exact eights_at n hn y 16384 hn _ shapeCasts_S16384x1152_S2048x8x1152

theorem line1 (p : ℕ) (hp : p < 18432) (y : Fin 1152) :
    (StableHlo.after hostOps1 V (Proc.devRef .tc main_v3) : S18432x1152.Idx → EReal) (ix2 ⟨p, hp⟩ y) = (V (Proc.devRef .tc main_v1) : S2304x8x1152.Idx → EReal) (at3 (A := 2304) p hp y) := by
  exact flat_at p hp y (V (Proc.devRef .tc main_v1)) 18432 hp shapeCasts_S2304x8x1152_S18432x1152

theorem line2 (p : ℕ) (hp : p < 18432) (l : Fin 1024) :
    (StableHlo.after hostOps2 V (Proc.devRef .tc main_v5) : S2304x8x1024.Idx → EReal) (at3 (A := 2304) p hp l) = (V (Proc.devRef .tc main_v4) : S18432x1024.Idx → EReal) (ix2 ⟨p, hp⟩ l) := by
  exact eights_at p hp l 18432 hp (V (Proc.devRef .tc main_v4)) shapeCasts_S18432x1024_S2304x8x1024

theorem line3 (n : ℕ) (hn : n < 16384) (l : Fin 1024) :
    (StableHlo.after hostOps3 V (Proc.devRef .tc main_v7) : S16384x1024.Idx → EReal) (ix2 ⟨n, hn⟩ l) = (V (Proc.devRef .tc main_v6) : S2048x8x1024.Idx → EReal) (at3 (A := 2048) n hn l) := by
  exact flat_at n hn l (V (Proc.devRef .tc main_v6)) 16384 hn shapeCasts_S2048x8x1024_S16384x1024

end Lines

variable (m : (ℓ : Loc nD τ sig) → Buf (Elt Ideal) ℓ) (hM : ok1 (F := Ideal) (tabM m)) (c : Dev nD)

/-- The argument of rows, of the scale, and of the weights. -/
abbrev argX : FVec Ideal S16384x1152 .f32 := m (c, Proc.devRef .tc main_arg2)
abbrev argG : FVec Ideal S1x1024 .f32 := m (c, Proc.devRef .tc main_arg3)
abbrev argA : FVec Ideal S4x8x1024x256 .f32 := m (c, Proc.devRef .tc main_arg4)
abbrev argB : FVec Ideal S4x8x1024x256 .f32 := m (c, Proc.devRef .tc main_arg5)
abbrev argC : FVec Ideal S4x8x256x1024 .f32 := m (c, Proc.devRef .tc main_arg6)

/-- A row at the experts' call: row `n` of the argument, at the place the table names for it. -/
theorem staged_at (hT : Good (tabT m)) (n : ℕ) (hn : n < 16384) (hp : place (tabT m) n < 18432) (y : Fin 1152) :
    (W3 m hM c (Proc.devRef .tc main_v3) : S18432x1152.Idx → EReal) (ix2 ⟨place (tabT m) n, hp⟩ y) = argX m c (ix2 ⟨n, hn⟩ y) := by
  refine (line1 (W2 m hM c) (place (tabT m) n) hp y).trans ?_
  have e : W2 m hM c (Proc.devRef .tc main_v1) = dest0 (adm m hM 0) (V1 m) c 8 := by unfold W2; rw [Function.update_self]
  rw [e]
  refine (placed_at (T := tabT m) (V1 m c (Proc.devRef .tc main_v0)) (V1 m c (Proc.devRef .tc main_v1)) hT (j := 2048 * 8) (n := n) (by omega) hn
    (at3 (A := 2304) (place (tabT m) n) hp y) (rowOf_at3 _ _ _).symm).trans ?_
  exact line0 (V0 m c) n hn y

/-- The result's row `n`, as the experts' call left it at its place. -/
theorem result_row (hT : Good (tabT m)) (n : ℕ) (hn : n < 16384) (hp : place (tabT m) n < 18432) (l : Fin 1024) :
    (StableHlo.after hostOps3 (W6 m hM c) (Proc.devRef .tc main_v7) : S16384x1024.Idx → EReal) (ix2 ⟨n, hn⟩ l)
      = ((dat1 (adm m hM 1) (W3 m hM) c).arrAt 5 (cfg1 (adm m hM 1)).N : S18432x1024.Idx → EReal) (ix2 ⟨place (tabT m) n, hp⟩ l) := by
  refine (line3 (W6 m hM c) n hn l).trans ?_
  rw [W6_v6]
  have h2 : ∀ T : S16384.Idx → BitVec 32, T = tab2 (adm m hM 2) → ∀ h : place T n < 8 * 2304,
      ((dat2 (adm m hM 2) (W5 m hM) c).arrAt 0 (cfg2 (adm m hM 2)).N : S2048x8x1024.Idx → EReal) (at3 (A := 2048) n hn l)
        = (W5 m hM c (Proc.devRef .tc main_v5) : S2304x8x1024.Idx → EReal) (at3 (A := 2304) (place T n) h l) := by
    rintro _ rfl h; exact out2_at (adm m hM 2) (W5 m hM) c n hn l h
  refine (h2 (tabT m) rfl hp).trans ?_
  refine (line2 (W4 m hM c) (place (tabT m) n) hp l).trans ?_
  rw [W4_v4]

theorem cond_of (p : grid1.Coords) (v : BitVec 32) (h : IntOp.cmpi .slt (BitVec.ofNat 32 (p 0).val) v = 1#1) : k1_cond1 p v = 1#1 := by
  unfold k1_cond1
  revert h
  generalize BitVec.ofNat 32 (p 0).val = a
  simp only [Scalar.cmpi, Scalar.extui, IntOp.cmpi]
  generalize a.slt v = b
  revert b; decide

open Cert.Routed Cert.Spec Cert.Value Cert.RefValue

/-- The group of the tile row `n` is placed in. -/
def groupOf (h : Holds (tabT m) (tabM m 0) (argX m c)) (n : ℕ) (hn : n < 16384) : Fin 4 :=
  ⟨(mword (tabM m 0) (place (tabT m) n / 512)).toNat, h.tables.group _ (by have := h.tables.good.lt n hn; omega)⟩

theorem kernel_at (h : Holds (tabT m) (tabM m 0) (argX m c)) (n : ℕ) (hn : n < 16384) (l : Fin 1024) :
    (StableHlo.after hostOps3 (W6 m hM c) (Proc.devRef .tc main_v7) : S16384x1024.Idx → EReal) (ix2 ⟨n, hn⟩ l)
      = rowR (argX m c) ⟨n, hn⟩ ⟨l.val, by omega⟩ + share (rowR (argX m c) ⟨n, hn⟩) (fun d => argG m c (ix2 0 d)) (fun k e d f => argA m c (ix4 k e d f))
          (fun k e d f => argB m c (ix4 k e d f)) (fun k e f l => argC m c (ix4 k e f l)) (groupOf m c h n hn) l := by
  have hT := h.tables.good
  have hp := hT.lt n hn
  refine (result_row m hM c hT n hn hp l).trans ?_
  have ht : place (tabT m) n / 512 < (cfg1 (adm m hM 1)).N := by show place (tabT m) n / 512 < 36; omega
  have hr : place (tabT m) n % 512 < 512 := by omega
  have hq : 512 * (place (tabT m) n / 512) + place (tabT m) n % 512 = place (tabT m) n := by omega
  have ei : ∀ L (y : Fin L) (h' : 512 * (place (tabT m) n / 512) + place (tabT m) n % 512 < 18432),
      ix2 (⟨place (tabT m) n, hp⟩ : Fin 18432) y = ix2 ⟨512 * (place (tabT m) n / 512) + place (tabT m) n % 512, h'⟩ y := fun L y h' =>
    congrArg (fun k : Fin 18432 => ix2 k y) (Fin.ext hq.symm)
  rw [ei 1024 l (by omega)]
  refine (out1_at (adm m hM 1) (W3 m hM) c ⟨place (tabT m) n / 512, ht⟩ ⟨place (tabT m) n % 512, hr⟩ l (by show 512 * (place (tabT m) n / 512) + place (tabT m) n % 512 < 18432; omega)).trans ?_
  have hc : k1_cond1 (grid1.coords ⟨place (tabT m) n / 512, ht⟩) (mword (tabM m 0) 64) = 1#1 := by
    refine cond_of _ _ ?_
    rw [coords1]
    exact h.used n hn
  have hg : mword (tabM m 0) (place (tabT m) n / 512) = BitVec.ofNat 32 (groupOf m c h n hn).val := by
    refine BitVec.eq_of_toNat_eq ?_
    rw [BitVec.toNat_ofNat, Nat.mod_eq_of_lt (by have := (groupOf m c h n hn).isLt; omega)]
    rfl
  have hb : out1 (adm m hM 1) (W3 m hM) c ⟨place (tabT m) n / 512, ht⟩
      = through (BitVec.ofNat 32 (groupOf m c h n hn).val) (rows1 (adm m hM 1) (W3 m hM) c ⟨place (tabT m) n / 512, ht⟩) (scale1 (adm m hM 1) (W3 m hM) c ⟨place (tabT m) n / 512, ht⟩)
        (wg1 (adm m hM 1) (W3 m hM) c ⟨place (tabT m) n / 512, ht⟩) (wu1 (adm m hM 1) (W3 m hM) c ⟨place (tabT m) n / 512, ht⟩) (wd1 (adm m hM 1) (W3 m hM) c ⟨place (tabT m) n / 512, ht⟩) := by
    refine (if_pos hc).trans ?_
    have hw : mword (tab1 (adm m hM 1)) (grid1.coords ⟨place (tabT m) n / 512, ht⟩ 0).val = BitVec.ofNat 32 (groupOf m c h n hn).val := by
      rw [coords1]; exact hg
    rw [hw]
  refine (congrFun hb _).trans ?_
  refine through_at (groupOf m c h n hn) _ _ _ _ _ (rowR (argX m c) ⟨n, hn⟩) (fun d => argG m c (ix2 0 d)) (fun k e d f => argA m c (ix4 k e d f))
    (fun k e d f => argB m c (ix4 k e d f)) (fun k e f l => argC m c (ix4 k e f l)) ⟨place (tabT m) n % 512, hr⟩ l ?_ ?_ ?_ ?_ ?_
  · intro y
    refine (rows1_at (adm m hM 1) (W3 m hM) c ⟨place (tabT m) n / 512, ht⟩ ⟨place (tabT m) n % 512, hr⟩ y (by show 512 * (place (tabT m) n / 512) + place (tabT m) n % 512 < 18432; omega)).trans ?_
    rw [← ei 1152 y]
    exact staged_at m hM c hT n hn hp y
  · intro d
    refine (scale1_at (adm m hM 1) (W3 m hM) c _ d).trans ?_
    rw [W3_arg m hM c main_arg3 (by decide) (by decide) (by decide)]
  · intro e d f
    refine (wg1_at (adm m hM 1) (W3 m hM) c ⟨place (tabT m) n / 512, ht⟩ (groupOf m c h n hn) hg e d f).trans ?_
    rw [W3_arg m hM c main_arg4 (by decide) (by decide) (by decide)]
  · intro e d f
    refine (wu1_at (adm m hM 1) (W3 m hM) c ⟨place (tabT m) n / 512, ht⟩ (groupOf m c h n hn) hg e d f).trans ?_
    rw [W3_arg m hM c main_arg5 (by decide) (by decide) (by decide)]
  · intro e f l
    refine (wd1_at (adm m hM 1) (W3 m hM) c ⟨place (tabT m) n / 512, ht⟩ (groupOf m c h n hn) hg e f l).trans ?_
    rw [W3_arg m hM c main_arg6 (by decide) (by decide) (by decide)]

/-- The kernel's result is the reference's. -/
theorem kernel_eq (h : Holds (tabT m) (tabM m 0) (argX m c)) :
    (StableHlo.after hostOps3 (W6 m hM c) (Proc.devRef .tc main_v7) : S16384x1024.Idx → EReal)
      = resultR (F := Ideal) (argX m c) (argG m c) (argA m c) (argB m c) (argC m c) := by
  have hx : ∀ x : S16384x1024.Idx, ix2 (⟨(x 0).val, (x 0).isLt⟩ : Fin 16384) (x 1 : Fin 1024) = x := fun x => funext fun a => match a with
    | ⟨0, _⟩ => rfl
    | ⟨1, _⟩ => rfl
  funext x
  rw [← hx x]
  refine (kernel_at m hM c h (x 0).val (x 0).isLt (x 1)).trans (result_at _ _ _ _ _ (groupOf m c h (x 0).val (x 0).isLt) ⟨(x 0).val, (x 0).isLt⟩ (x 1) ?_).symm
  intro j hj e
  have hg : (groupOf m c h (x 0).val (x 0).isLt).val = (mword (tabM m 0) (place (tabT m) (x 0).val / 512)).toNat := rfl
  rcases h.closed (x 0).val (x 0).isLt ⟨8 * j.val + e.val, by omega⟩ with ⟨h1, h2⟩ | h0
  · refine absurd (Fin.ext ?_) hj
    have h1' : 8 * (mword (tabM m 0) (place (tabT m) (x 0).val / 512)).toNat ≤ 8 * j.val + e.val := h1
    have h2' : 8 * j.val + e.val < 8 * (mword (tabM m 0) (place (tabT m) (x 0).val / 512)).toNat + 8 := h2
    omega
  · refine Eq.trans (congrArg (fun k : Fin 1152 => argX m c (ix2 _ k)) (Fin.ext ?_)) h0
    show 1024 + 8 * j.val + e.val = 1024 + (8 * j.val + e.val)
    omega

end Cert.Assembly
-- ==== Proof.RefRun.lean ====
/- The reference's run: its result in the last buffer, its arguments as they were. -/
module

public import proofs.«01_k».proof.Proof.RefValue

@[expose] public section

noncomputable section

namespace Cert.RefRun

open Idealize.ShloMosaic Idealize.ShloMosaic.TcCoe Idealize.ShloMosaic.Tactic
open Cert.ReferenceIdeal Cert.RefValue

attribute [local instance] Cert.ReferenceIdeal.Gen.facts

set_option maxHeartbeats 8000000 in
theorem run_r (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v84) = (resultR (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) : FVec Ideal S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  rfl

end Cert.RefRun
-- ==== Proof.Claims.lean ====
/- The claims over `routed`: the two frames, and that the kernel computes the reference. -/
module

public import proofs.«01_k».proof.Proof.Frames
public import proofs.«01_k».proof.Proof.Assembly
public import proofs.«01_k».proof.Proof.RefRun

@[expose] public section

noncomputable section

namespace Cert.Claims

open Idealize.ShloMosaic Idealize.ShloMosaic.TcCoe Idealize.ShloMosaic.Tactic
open Cert.Scatter Cert.Run Cert.Pre Cert.Frames Cert.Routed Cert.Assembly Cert.RefValue

attribute [local instance] Cert.Kernel.Gen.facts Cert.KernelIdeal.Gen.facts Cert.ReferenceIdeal.Gen.facts Cert.Pre.routedFacts

theorem holds_m (m : (ℓ : Loc Cert.KernelIdeal.nD Cert.KernelIdeal.τ Cert.KernelIdeal.sig) → Buf (Elt Ideal) ℓ) (h : Cert.Pre_KernelIdeal_routed m) (c : Dev Cert.KernelIdeal.nD) :
    Holds (tabT (F := Ideal) m) (tabM (F := Ideal) m 0) (argX m c) := by
  obtain rfl : c = 0 := Subsingleton.elim _ _
  exact holds_of _ _ _ _ _ _ _ (h 0)

theorem frame_pi_routed : Cert.quiescent_KernelIdeal_pre_routed := by
  intro m g h
  have ht := (holds_m m h 0).tables
  exact (θ_run Cert.KernelIdeal.defs _ _).mono (fun _ h => ⟨fun c => (h.1 c).2, h.2⟩) (run_main (F := Ideal) m (ok_tables m ht) ht.good g)

theorem frame_r_routed : Cert.quiescent_ReferenceIdeal_pre_routed := fun m g _ => frame_r m g trivial

theorem value : Cert.algebraic_KernelIdeal_ReferenceIdeal_pre_routed := by
  intro m g m' g' h hagree
  have ht := (holds_m m h 0).tables
  refine ⟨fun c => resultR (F := Ideal) (argX m c) (argG m c) (argA m c) (argB m c) (argC m c), ?_, ?_⟩
  · refine (θ_run Cert.KernelIdeal.defs _ _).mono (fun r hr c => ⟨?_, (hr.1 c).2⟩) (run_main (F := Ideal) m (ok_tables m ht) ht.good g)
    exact (hr.1 c).1.trans (kernel_eq m (ok_tables m ht) c (holds_m m h c))
  · refine (θ_run Cert.ReferenceIdeal.defs _ _).mono (fun r hr c => ⟨?_, (hr c).2⟩) (Cert.RefRun.run_r m' g')
    obtain ⟨-, -, h2, h3, h4, h5, h6⟩ := hagree c
    refine (hr c).1.trans ?_
    rw [h2, h3, h4, h5, h6]

end Cert.Claims
-- ==== Proof.MidRun.lean ====
/- The run of the second program, its result kept. -/
module

public import proofs.«01_k».proof.Proof.Gen.Kernel2Ideal.Frame

@[expose] public section

set_option maxRecDepth 16384

noncomputable section

namespace Cert.MidRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

variable (m : (ℓ : Loc nD τ sig) → Buf (Elt F) ℓ) (ρ : Dev nD → PrngReg)

set_option backward.isDefEq.respectTransparency.types false in

/-- The program ends with its result at what the last host operation leaves and its arguments as launched. -/
theorem run2 : θ_run defs (onTc (τ := τ) (main (F := F))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v14 (by decide)), (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.MidRun
-- ==== Proof.MidSpec.lean ====
/- One row of the middle call, over the extended reals: the mixers' outputs added, the attention to the memory, its output added. -/
module

public import Idealize.ShloMosaic.Lib.Pointwise

@[expose] public section

noncomputable section

namespace Cert.MidSpec

open Idealize.ShloMosaic

/-- A row normalized: `c` its length, `g` the gains. -/
def nrm {n : ℕ} (c : EReal) (v g : Fin n → EReal) (d : Fin n) : EReal :=
  v d * Ideal.rsqrt (Ideal.div (∑ x : Fin n, v x * v x) c + Ideal.ofBits .f32 0x358637BD#32) * g d

/-- The constant 1024. -/
def c1024 : EReal := Ideal.ofBits .f32 0x44800000#32

/-- The constant 128. -/
def c128 : EReal := Ideal.ofBits .f32 0x43000000#32

/-- The scores' scale. -/
def scl : EReal := Ideal.ofBits .f32 0x3DB504F3#32

/-- A row times a matrix. -/
def proj {n p : ℕ} (h : Fin n → EReal) (w : Fin n → Fin p → EReal) (j : Fin p) : EReal := ∑ d : Fin n, h d * w d j

/-- A head's 128 columns. -/
def hd (k : Fin 4) (q : Fin 512 → EReal) (d : Fin 128) : EReal := q ⟨128 * k.val + d.val, by omega⟩

/-- A head's scores. -/
def scores (q : Fin 128 → EReal) (K : Fin 256 → Fin 128 → EReal) (m : Fin 256) : EReal := ∑ d : Fin 128, q d * K m d

/-- The greatest of the scores. -/
def top (s : Fin 256 → EReal) : EReal := Finset.fold max (Ideal.ofBits .f32 0xFF800000#32) s Finset.univ

/-- The values, weighted by the softmax of the scores. -/
def att (s : Fin 256 → EReal) (V : Fin 256 → Fin 128 → EReal) (l : Fin 128) : EReal :=
  ∑ m : Fin 256, Ideal.div (Ideal.exp (s m - top s)) (∑ m' : Fin 256, Ideal.exp (s m' - top s)) * V m l

/-- The mixers' outputs added. -/
def x1 (x : Fin 1024 → EReal) (a b : Fin 512 → EReal) (wa wb : Fin 512 → Fin 1024 → EReal) (l : Fin 1024) : EReal :=
  x l + proj a wa l + proj b wb l

/-- A head of the queries, normalized and scaled. -/
def query (q : Fin 512 → EReal) (g : Fin 128 → EReal) (k : Fin 4) (d : Fin 128) : EReal := nrm c128 (hd k q) g d * scl

/-- A head's output. -/
def head (q : Fin 512 → EReal) (g : Fin 128 → EReal) (K V : Fin 4 → Fin 256 → Fin 128 → EReal) (k : Fin 4) (l : Fin 128) : EReal :=
  att (scores (query q g k) (K k)) (V k) l

/-- The heads side by side. -/
def cat (T : Fin 4 → Fin 128 → EReal) (j : Fin 512) : EReal := T ⟨j.val / 128, by omega⟩ ⟨j.val % 128, by omega⟩

/-- The attention's output added. -/
def x2 (y : Fin 1024 → EReal) (h : Fin 4 → Fin 128 → EReal) (wo : Fin 512 → Fin 1024 → EReal) (l : Fin 1024) : EReal := y l + proj (cat h) wo l

/-- The whole row. -/
def row (x : Fin 1024 → EReal) (a b : Fin 512 → EReal) (wa wb : Fin 512 → Fin 1024 → EReal) (gx : Fin 1024 → EReal) (wq : Fin 1024 → Fin 512 → EReal)
    (gq : Fin 128 → EReal) (K V : Fin 4 → Fin 256 → Fin 128 → EReal) (wo : Fin 512 → Fin 1024 → EReal) (l : Fin 1024) : EReal :=
  x2 (x1 x a b wa wb) (head (proj (nrm c1024 (x1 x a b wa wb) gx) wq) gq K V) wo l

/-- A head of the memory's keys. -/
def key (m g : Fin 1024 → EReal) (wkv : Fin 1024 → Fin 1024 → EReal) (gk : Fin 128 → EReal) (k : Fin 4) (d : Fin 128) : EReal :=
  nrm c128 (fun d : Fin 128 => proj (nrm c1024 m g) wkv ⟨128 * k.val + d.val, by omega⟩) gk d

/-- A head of the memory's values. -/
def val (m g : Fin 1024 → EReal) (wkv : Fin 1024 → Fin 1024 → EReal) (k : Fin 4) (d : Fin 128) : EReal :=
  proj (nrm c1024 m g) wkv ⟨512 + (128 * k.val + d.val), by omega⟩

theorem same (T : Fin 4 → Fin 128 → EReal) (a b : Fin 4) (c d : Fin 128) (h : a = b) (k : c = d) : T a c = T b d := by rw [h, k]

theorem ladder (T : Fin 4 → Fin 128 → EReal) (j : Fin 512) (hb : j.val - 128 - 128 - 128 < 128) :
    (if h : j.val < 128 then T 0 ⟨j.val, h⟩ else if h : j.val - 128 < 128 then T 1 ⟨j.val - 128, h⟩ else if h : j.val - 128 - 128 < 128 then T 2 ⟨j.val - 128 - 128, h⟩
      else T 3 ⟨j.val - 128 - 128 - 128, hb⟩) = cat T j := by
  have hj := j.isLt
  unfold cat
  split_ifs
  · exact same T 0 _ _ _ (Fin.ext (by show 0 = j.val / 128; omega)) (Fin.ext (by show _ = j.val % 128; simp only; omega))
  · exact same T 1 _ _ _ (Fin.ext (by show 1 = j.val / 128; omega)) (Fin.ext (by show _ = j.val % 128; simp only; omega))
  · exact same T 2 _ _ _ (Fin.ext (by show 2 = j.val / 128; omega)) (Fin.ext (by show _ = j.val % 128; simp only; omega))
  · exact same T 3 _ _ _ (Fin.ext (by show 3 = j.val / 128; omega)) (Fin.ext (by show _ = j.val % 128; simp only; omega))

end Cert.MidSpec
-- ==== Proof.MidBody.lean ====
/- The arithmetic of the memory's keys and values and of the middle call, at an index. -/
module

public import proofs.«01_k».proof.Proof.Gen.Kernel2Ideal.Skeleton
public import proofs.«01_k».proof.Proof.MidSpec
public import Idealize.ShloMosaic.Lib.Pointwise
public import Idealize.ShloMosaic.Lib.Affine

@[expose] public section

set_option maxRecDepth 16384

noncomputable section

namespace Cert.MidBody

open Idealize.ShloMosaic Idealize.ShloMosaic.TcCoe
open Cert.Kernel2Ideal Cert.Kernel2Ideal.Gen Cert.MidSpec

variable (q : FVec Ideal S1024x512 .f32) (g : Vec Ideal S1x128 .f32) (k v : Vec Ideal S1x256x128 .bf16) (r : Fin 1024) (l : Fin 128)

theorem head0_at (u : FVec Ideal S1024x128 .f32) (hu : ∀ l, u (ix2 r l) = hd 0 (fun j => q (ix2 r j)) l) :
    k1_pay6 u g k v (ix2 r l) = att (scores (query (fun j => q (ix2 r j)) (fun d => g (ix2 0 d)) 0) (fun m d => k (ix3 0 m d))) (fun m d => v (ix3 0 m d)) l := by
  pointwise [k1_pay6]
  simp only [hu]
  rfl

theorem head1_at :
    k1_pay10 (k1_pay7 q) (k1_pay8 g) (k1_pay9 q) (Scalar.ofBits .f32 0x358637BD#32) k v (ix2 r l)
      = att (scores (query (fun j => q (ix2 r j)) (fun d => g (ix2 0 d)) 1) (fun m d => k (ix3 0 m d))) (fun m d => v (ix3 0 m d)) l := by
  pointwise [k1_pay10, k1_pay7, k1_pay8, k1_pay9]
  rfl

theorem head2_at :
    k1_pay12 (k1_pay11 q g) k v (ix2 r l)
      = att (scores (query (fun j => q (ix2 r j)) (fun d => g (ix2 0 d)) 2) (fun m d => k (ix3 0 m d))) (fun m d => v (ix3 0 m d)) l := by
  pointwise [k1_pay12, k1_pay11]
  rfl

theorem scores3_at (m : Fin 256) :
    k1_pay13 q g k (ix2 r m) = scores (query (fun j => q (ix2 r j)) (fun d => g (ix2 0 d)) 3) (fun m d => k (ix3 0 m d)) m := by
  pointwise [k1_pay13]
  rfl

theorem top3_at :
    k1_pay14 q g k (ix1 r) = top (scores (query (fun j => q (ix2 r j)) (fun d => g (ix2 0 d)) 3) (fun m d => k (ix3 0 m d))) := by
  unfold k1_pay14
  pointwise
  simp only [scores3_at]
  rfl

variable (x : Vec Ideal S1x1024x1024 .f32) (a : Vec Ideal S1x1024x512 .bf16) (wa : Vec Ideal S512x1024 .bf16) (b : Vec Ideal S1x1024x512 .bf16)
  (wb : Vec Ideal S512x1024 .bf16) (gx : Vec Ideal S1x1024 .f32) (wq : Vec Ideal S1024x512 .bf16)

theorem x1_at (l : Fin 1024) :
    k1_pay3 x a wa b wb (ix2 r l)
      = x1 (fun l => x (ix3 0 r l)) (fun j => a (ix3 0 r j)) (fun j => b (ix3 0 r j)) (fun j l => wa (ix2 j l)) (fun j l => wb (ix2 j l)) l := by
  pointwise [k1_pay3]
  rfl

theorem q_at (l : Fin 512) :
    k1_pay4 x a wa b wb gx wq (ix2 r l) = proj (nrm c1024 (fun d => k1_pay3 x a wa b wb (ix2 r d)) (fun d => gx (ix2 0 d))) (fun d j => wq (ix2 d j)) l := by
  pointwise [k1_pay4]
  rfl

theorem q0_at : k1_pay5 x a wa b wb gx wq (ix2 r l) = hd 0 (fun j => k1_pay4 x a wa b wb gx wq (ix2 r j)) l := by
  unfold k1_pay5
  pointwise
  refine congrArg (k1_pay4 x a wa b wb gx wq) (funext fun i => ?_)
  match i with
  | 0 => rfl
  | 1 => exact Fin.ext (by show l.val = 128 * 0 + l.val; omega)

theorem x2_at (y : FVec Ideal S1024x1024 .f32) (h0 h1 h2 : FVec Ideal S1024x128 .f32) (wo : Vec Ideal S512x1024 .bf16) (s : FVec Ideal S1024x256 .f32) (t : FVec Ideal S1024 .f32)
    (T : Fin 4 → Fin 128 → EReal) (S : Fin 256 → EReal) (hs : ∀ m, s (ix2 r m) = S m) (ht : t (ix1 r) = top S)
    (e0 : ∀ l, h0 (ix2 r l) = T 0 l) (e1 : ∀ l, h1 (ix2 r l) = T 1 l) (e2 : ∀ l, h2 (ix2 r l) = T 2 l) (e3 : ∀ l, att S (fun m d => v (ix3 0 m d)) l = T 3 l) (l : Fin 1024) :
    k1_pay15 y h0 h1 h2 s t v wo (ix2 r l) = x2 (fun l => y (ix2 r l)) T (fun j l => wo (ix2 j l)) l := by
  pointwise [k1_pay15]
  simp only [hs, ht, e0, e1, e2]
  unfold x2 proj
  refine congrArg (y (ix2 r l) + ·) (Finset.sum_congr rfl fun j _ => congrArg (· * wo (ix2 j l)) ?_)
  have hb : j.val - 128 - 128 - 128 < 128 := by have := j.isLt; omega
  exact (congrArg (fun z => if h : j.val < 128 then T 0 ⟨j.val, h⟩ else if h : j.val - 128 < 128 then T 1 ⟨j.val - 128, h⟩ else if h : j.val - 128 - 128 < 128 then T 2 ⟨j.val - 128 - 128, h⟩ else z)
    (e3 ⟨j.val - 128 - 128 - 128, hb⟩)).trans (ladder T j hb)

/-! ## The memory's keys and values -/

variable (mem : Vec Ideal S1x256x1024 .f32) (gm : Vec Ideal S1x1024 .f32) (wkv : Vec Ideal S1024x1024 .bf16) (kv : FVec Ideal S256x1024 .f32) (m : Fin 256)

theorem kv_at (j : Fin 1024) :
    k0_pay3 mem gm wkv (ix2 m j) = proj (nrm c1024 (fun d => mem (ix3 0 m d)) (fun d => gm (ix2 0 d))) (fun d j => wkv (ix2 d j)) j := by
  pointwise [k0_pay3]
  rfl

/-- A head of keys, of the row of keys and values. -/
def keyOf (R : Fin 1024 → EReal) (gk : Fin 128 → EReal) (k : Fin 4) (d : Fin 128) : EReal :=
  nrm c128 (fun d : Fin 128 => R ⟨128 * k.val + d.val, by omega⟩) gk d

theorem key0_at : k0_pay4 mem gm wkv g (ix3 0 m l) = keyOf (fun j => k0_pay3 mem gm wkv (ix2 m j)) (fun d => g (ix2 0 d)) 0 l := by
  unfold k0_pay4
  generalize k0_pay3 mem gm wkv = kv
  have h : ∀ l : Fin 128, extractStridedSlice S256x128 ![0, 0] kv slices_S256x1024_o0_0_S256x128 (ix2 m l) = kv (ix2 m ⟨128 * (0 : Fin 4).val + l.val, by show 128 * 0 + _ < _; omega⟩) := by
    intro l
    refine congrArg kv (funext fun i => ?_)
    match i with
    | 0 => exact Fin.ext (by show 0 + m.val = m.val; omega)
    | 1 => exact Fin.ext (by show 0 + l.val = 128 * 0 + l.val; omega)
  generalize extractStridedSlice S256x128 ![0, 0] kv slices_S256x1024_o0_0_S256x128 = u at h
  pointwise
  simp only [h]
  rfl

theorem key1_at : k0_pay5 kv g (ix3 0 m l) = keyOf (fun j => kv (ix2 m j)) (fun d => g (ix2 0 d)) 1 l := by
  pointwise [k0_pay5]
  rfl

theorem key2_at : k0_pay6 kv g (ix3 0 m l) = keyOf (fun j => kv (ix2 m j)) (fun d => g (ix2 0 d)) 2 l := by
  pointwise [k0_pay6]
  rfl

theorem key3_at : k0_pay1 (k0_pay7 kv) g (ix3 0 m l) = keyOf (fun j => kv (ix2 m j)) (fun d => g (ix2 0 d)) 3 l := by
  pointwise [k0_pay1, k0_pay7]
  rfl

theorem val_at (j : Fin 512) : k0_pay2 kv (ix3 0 m j) = kv (ix2 m ⟨512 + j.val, by omega⟩) := by
  pointwise [k0_pay2]

end Cert.MidBody
-- ==== Proof.MidOut.lean ====
/- What the memory's call and the middle call leave in a block, at an index. -/
module

public import proofs.«01_k».proof.Proof.MidBody
public import proofs.«01_k».proof.Proof.Gen.Kernel2Ideal.Frame
public import Idealize.ShloMosaic.Lib.Pipeline.ValueKit

@[expose] public section

set_option maxRecDepth 16384

noncomputable section

namespace Cert.MidOut

open Idealize.ShloMosaic Idealize.ShloMosaic.TcCoe
open Cert.Kernel2Ideal Cert.Kernel2Ideal.Gen Cert.MidSpec Cert.MidBody

theorem mod_at (f : Fin 4 → Fin 128 → EReal) (k : Fin 4) (d : Fin 128) (j : ℕ) (hj : j < 512) (h : j = 128 * k.val + d.val) :
    f k d = f ⟨j / 128, by omega⟩ ⟨j % 128, by omega⟩ := by
  have hd := d.isLt
  exact same f _ _ _ _ (Fin.ext (by show k.val = j / 128; omega)) (Fin.ext (by show d.val = j % 128; omega))

theorem tile_at (f : Fin 4 → Fin 128 → EReal) (k : Fin 4) (m : Fin 256) (j : Fin 512) (o : ℕ) (ho : o = 128 * k.val) (w : S1x256x128.Idx → EReal) (hw : ∀ d, w (ix3 0 m d) = f k d) :
    View.TileAt (Val := Elt Ideal) (e := .bf16) (S := S1x256x512) (ix3 0 m j) ![0, 0, o] ![1, 256, 128] w (f ⟨j.val / 128, by omega⟩ ⟨j.val % 128, by omega⟩) := by
  intro x hx
  obtain ⟨a, b, d, rfl⟩ : ∃ a b d, x = ix3 a b d := ⟨x 0, x 1, x 2, (eq_ix3 x)⟩
  have h1 : m.val = 0 + b.val := hx 1
  have h2 : j.val = o + d.val := hx 2
  have ha : a = 0 := Fin.ext (by have := a.isLt; omega)
  have hb : b = m := Fin.ext (by omega)
  subst ha hb
  exact (hw d).trans (mod_at f k d j.val j.isLt (by omega))

theorem keys_at (x0 : Vec Ideal S1x256x1024 .f32) (x1 : Vec Ideal S1x1024 .f32) (x2 : Vec Ideal S1024x1024 .bf16) (x3 : Vec Ideal S1x128 .f32) (m : Fin 256) (j : Fin 512) :
    out0_4 x0 x1 x2 x3 (ix3 0 m j) = keyOf (fun j => k0_pay3 x0 x1 x2 (ix2 m j)) (fun d => x3 (ix2 0 d)) ⟨j.val / 128, by omega⟩ ⟨j.val % 128, by omega⟩ := by
  unfold out0_4 k0_pay8
  rw [show View.ld (Val := Elt Ideal) (e' := .f32) x0 r0_0 = x0 from View.ld_unit_lit _ x0 (by decide), show View.ld (Val := Elt Ideal) (e' := .f32) x1 r0_1 = x1 from View.ld_unit_lit _ x1 (by decide),
    show View.ld (Val := Elt Ideal) (e' := .bf16) x2 r0_2 = x2 from View.ld_unit_lit _ x2 (by decide), show View.ld (Val := Elt Ideal) (e' := .f32) x3 r0_3 = x3 from View.ld_unit_lit _ x3 (by decide)]
  refine View.canon_eq_of_allAt _ _ _ (cover0_4 _ _ _ _ _) ?_
  have T := fun k o ho w hw => tile_at (keyOf (fun j => k0_pay3 x0 x1 x2 (ix2 m j)) (fun d => x3 (ix2 0 d))) k m j o ho w hw
  refine View.allAt_cons_unit _ _ _ _ _ (T 3 384 rfl _ fun d => key3_at _ _ _ _) ?_
  refine View.allAt_cons_unit _ _ _ _ _ (T 2 256 rfl _ fun d => key2_at _ _ _ _) ?_
  refine View.allAt_cons_unit _ _ _ _ _ (T 1 128 rfl _ fun d => key1_at _ _ _ _) ?_
  exact View.allAt_cons_unit _ _ _ _ _ (T 0 0 rfl _ fun d => key0_at _ _ _ _ _ _) (View.allAt_nil _ _)

theorem vals_at (x0 : Vec Ideal S1x256x1024 .f32) (x1 : Vec Ideal S1x1024 .f32) (x2 : Vec Ideal S1024x1024 .bf16) (x3 : Vec Ideal S1x128 .f32) (m : Fin 256) (j : Fin 512) :
    out0_5 x0 x1 x2 x3 (ix3 0 m j) = k0_pay3 x0 x1 x2 (ix2 m ⟨512 + j.val, by omega⟩) := by
  unfold out0_5 k0_pay8
  rw [show View.ld (Val := Elt Ideal) (e' := .f32) x0 r0_0 = x0 from View.ld_unit_lit _ x0 (by decide), show View.ld (Val := Elt Ideal) (e' := .f32) x1 r0_1 = x1 from View.ld_unit_lit _ x1 (by decide),
    show View.ld (Val := Elt Ideal) (e' := .bf16) x2 r0_2 = x2 from View.ld_unit_lit _ x2 (by decide)]
  exact (congrFun (View.canon_cons_unit_lit _ _ _ (by decide)) _).trans (val_at _ _ _)

theorem ld_at (x : Vec Ideal S1x256x512 .bf16) (k : Fin 4) (o : ℕ) (ho : o = 128 * k.val) (inb) (m : Fin 256) (d : Fin 128) :
    View.ld x (Rect.unit (s := S1x256x512) ![0, 0, o] ![1, 256, 128] inb) (ix3 0 m d) = x (ix3 0 m ⟨128 * k.val + d.val, by omega⟩) := by
  subst ho
  refine congrArg x (funext fun i => Fin.ext ?_)
  match i with
  | 0 => rfl
  | 1 => show 0 + 1 * m.val = m.val; omega
  | 2 => show 128 * k.val + 1 * d.val = 128 * k.val + d.val; omega

variable (V : (c : Dev nD) → (b : Ref sig .tc) → Buf (Elt Ideal) ((c.tc : Thread nD τ).loc b)) (c : Dev nD) (t : Fin cfg1.N)

/-- The blocks the middle call reads at a grid point. -/
def B0 : S1x1024x1024.Idx → EReal := iblk1 V c 0 t
def B1 : S1x1024x512.Idx → EReal := iblk1 V c 1 t
def B2 : S1x1024x512.Idx → EReal := iblk1 V c 2 t
def B3 : S512x1024.Idx → EReal := iblk1 V c 3 t
def B4 : S512x1024.Idx → EReal := iblk1 V c 4 t
def B5 : S1x1024.Idx → EReal := iblk1 V c 5 t
def B6 : S1024x512.Idx → EReal := iblk1 V c 6 t
def B7 : S1x128.Idx → EReal := iblk1 V c 7 t
def B8 : S1x256x512.Idx → EReal := iblk1 V c 8 t
def B9 : S1x256x512.Idx → EReal := iblk1 V c 9 t
def B10 : S512x1024.Idx → EReal := iblk1 V c 10 t

theorem rows_at (r : Fin 1024) (l : Fin 1024) :
    (outsAt1 V c t).1 (ix3 0 r ⟨l.val, by omega⟩) = row (fun l => B0 V c t (ix3 0 r l)) (fun j => B1 V c t (ix3 0 r j)) (fun j => B2 V c t (ix3 0 r j))
      (fun j l => B3 V c t (ix2 j l)) (fun j l => B4 V c t (ix2 j l)) (fun d => B5 V c t (ix2 0 d)) (fun d j => B6 V c t (ix2 d j)) (fun d => B7 V c t (ix2 0 d))
      (fun k m d => B8 V c t (ix3 0 m ⟨128 * k.val + d.val, by omega⟩)) (fun k m d => B9 V c t (ix3 0 m ⟨128 * k.val + d.val, by omega⟩))
      (fun j l => B10 V c t (ix2 j l)) l := by
  unfold outsAt1
  frame_out
  refine (View.canon_cons_of_not_mem _ _ ?_).trans ?_
  · intro h
    obtain ⟨x, hx⟩ := LoadRect.exists_idx_of_mem _ h
    have h2 : 1024 + 1 * (x 2).val = l.val := congrArg (fun y : S1x1024x1152.Idx => (y 2).val) hx
    have := l.isLt
    omega
  have hy : (ix3 0 r ⟨l.val, by omega⟩ : S1x1024x1152.Idx) = (Rect.unit (s := S1x1024x1152) ![0, 0, 0] S1x1024x1024.size inb_S1x1024x1152_S1x1024x1024_0_0_0).emb (ix3 0 r l) := by
    funext i
    match i with
    | 0 => rfl
    | 1 => exact Fin.ext (by show r.val = 0 + 1 * r.val; omega)
    | 2 => exact Fin.ext (by show l.val = 0 + 1 * l.val; omega)
  rw [hy]
  refine (View.canon_cons_emb _ _ _ _).trans ?_
  unfold k1_pay16
  pointwise
  let q : Fin 512 → EReal := proj (nrm c1024 (fun d => k1_pay3 (F := Ideal) (B0 V c t) (B1 V c t) (B3 V c t) (B2 V c t) (B4 V c t) (ix2 r d)) (fun d => B5 V c t (ix2 0 d))) (fun d j => B6 V c t (ix2 d j))
  let gq : Fin 128 → EReal := fun d => B7 V c t (ix2 0 d)
  let K : Fin 4 → Fin 256 → Fin 128 → EReal := fun k m d => B8 V c t (ix3 0 m ⟨128 * k.val + d.val, by omega⟩)
  let U : Fin 4 → Fin 256 → Fin 128 → EReal := fun k m d => B9 V c t (ix3 0 m ⟨128 * k.val + d.val, by omega⟩)
  have hq : (fun j => k1_pay4 (F := Ideal) (B0 V c t) (B1 V c t) (B3 V c t) (B2 V c t) (B4 V c t) (B5 V c t) (B6 V c t) (ix2 r j)) = q := funext fun j => q_at _ _ _ _ _ _ _ _ _
  have hK := fun (k : Fin 4) o ho inb => show (fun m d => View.ld (Val := Elt Ideal) (e' := .bf16) (B8 V c t) (Rect.unit (s := S1x256x512) ![0, 0, o] ![1, 256, 128] inb) (ix3 0 m d)) = K k from
    funext fun m => funext fun d => ld_at _ k o ho inb m d
  have hU := fun (k : Fin 4) o ho inb => show (fun m d => View.ld (Val := Elt Ideal) (e' := .bf16) (B9 V c t) (Rect.unit (s := S1x256x512) ![0, 0, o] ![1, 256, 128] inb) (ix3 0 m d)) = U k from
    funext fun m => funext fun d => ld_at _ k o ho inb m d
  have fin : ∀ (k : Fin 4) (q' : Fin 512 → EReal) (K' U' : Fin 256 → Fin 128 → EReal) (l : Fin 128), q' = q → K' = K k → U' = U k → att (scores (query q' gq k) K') U' l = head q gq K U k l := by
    rintro k _ _ _ l rfl rfl rfl
    rfl
  refine (x2_at _ _ _ _ _ _ _ _ _ (head q gq K U) (scores (query q gq 3) (K 3)) (fun m => ?_) ?_ (fun l => ?_) (fun l => ?_) (fun l => ?_) (fun l => ?_) l).trans ?_
  · refine (scores3_at _ _ _ _ _).trans ?_
    exact congrArg₂ (fun q' K' => scores (query q' gq 3) K' m) hq (hK 3 384 rfl _)
  · refine (top3_at _ _ _ _).trans ?_
    exact congrArg₂ (fun q' K' => top (scores (query q' gq 3) K')) hq (hK 3 384 rfl _)
  · exact (head0_at _ _ _ _ _ _ _ fun l => q0_at _ _ _ _ _ _ _ _ _).trans (fin 0 _ _ _ l hq (hK 0 0 rfl _) (hU 0 0 rfl _))
  · exact (head1_at _ _ _ _ _ _).trans (fin 1 _ _ _ l hq (hK 1 128 rfl _) (hU 1 128 rfl _))
  · exact (head2_at _ _ _ _ _ _).trans (fin 2 _ _ _ l hq (hK 2 256 rfl _) (hU 2 256 rfl _))
  · exact fin 3 _ _ _ l rfl rfl (hU 3 384 rfl _)
  have hx : (fun l => k1_pay3 (F := Ideal) (B0 V c t) (B1 V c t) (B3 V c t) (B2 V c t) (B4 V c t) (ix2 r l)) = MidSpec.x1 (fun l => B0 V c t (ix3 0 r l)) (fun j => B1 V c t (ix3 0 r j)) (fun j => B2 V c t (ix3 0 r j))
      (fun j l => B3 V c t (ix2 j l)) (fun j l => B4 V c t (ix2 j l)) := funext fun l => x1_at _ _ _ _ _ _ _
  exact congrArg (fun y => x2 y (head (proj (nrm c1024 y (fun d => B5 V c t (ix2 0 d))) (fun d j => B6 V c t (ix2 d j))) gq K U) (fun j l => B10 V c t (ix2 j l)) l) hx

end Cert.MidOut
-- ==== Proof.MidReads.lean ====
/- The memory's blocks and the middle call's, read at one element of the arrays. -/
module

public import proofs.«01_k».proof.Proof.MidOut
public import Idealize.ShloMosaic.Lib.Pipeline.Value
public import Idealize.ShloMosaic.Lib.Pipeline.ValueKit.Geometry
public import Idealize.ShloMosaic.Lib.Pointwise

@[expose] public section

set_option maxRecDepth 16384
set_option backward.isDefEq.respectTransparency.types false

noncomputable section

namespace Cert.MidReads

open Idealize.ShloMosaic Idealize.ShloMosaic.TcCoe Idealize.ShloMosaic.Tactic
open Idealize.ShloMosaic.Pipeline
open Cert.Kernel2Ideal Cert.Kernel2Ideal.Gen Cert.MidSpec Cert.MidBody Cert.MidOut

variable (V : (c : Dev nD) → (b : Ref sig .tc) → Buf (Elt Ideal) ((c.tc : Thread nD τ).loc b)) (c : Dev nD)

theorem coords0 : ∀ t : Fin grid0.N, (grid0.coords t 0).val = t.val := by decide +kernel
theorem coords10 : ∀ t : Fin grid1.N, (grid1.coords t 0).val = t.val / 4 := by decide +kernel
theorem coords11 : ∀ t : Fin grid1.N, (grid1.coords t 1).val = t.val % 4 := by decide +kernel

/-- The memory's point of a batch. -/
def p0 (b : Fin 4) : Fin cfg0.N := ⟨b.val, b.isLt⟩

/-- The middle call's point of a batch and a tile. -/
def p1 (b i : Fin 4) : Fin cfg1.N := ⟨4 * b.val + i.val, by show _ < 16; omega⟩

theorem c0 (b : Fin 4) : (BitVec.ofNat 32 (grid0.coords (p0 b) 0).val).toNat = b.val := by
  rw [coords0, BitVec.toNat_ofNat]; show b.val % _ = _; omega
theorem c10 (b i : Fin 4) : (BitVec.ofNat 32 (grid1.coords (p1 b i) 0).val).toNat = b.val := by
  rw [coords10, BitVec.toNat_ofNat]; show (4 * b.val + i.val) / 4 % _ = _; omega
theorem c11 (b i : Fin 4) : (BitVec.ofNat 32 (grid1.coords (p1 b i) 1).val).toNat = i.val := by
  rw [coords11, BitVec.toNat_ofNat]; show (4 * b.val + i.val) % 4 % _ = _; omega

/-- The blocks the memory's call reads at a grid point. -/
def M0 (t : Fin cfg0.N) : S1x256x1024.Idx → EReal := iblk0 V c 0 t
def M1 (t : Fin cfg0.N) : S1x1024.Idx → EReal := iblk0 V c 1 t
def M2 (t : Fin cfg0.N) : S1024x1024.Idx → EReal := iblk0 V c 2 t
def M3 (t : Fin cfg0.N) : S1x128.Idx → EReal := iblk0 V c 3 t

theorem M0_at (b : Fin 4) (r : Fin 256) (y : Fin 1024) : M0 V c (p0 b) (ix3 0 r y) = (V c main_arg3 : S4x256x1024.Idx → EReal) (ix3 b r y) := by
  refine congrArg (V c main_arg3) (funext fun x => Fin.ext ?_)
  have e : ∀ x, ((((cfg0.win 0).rect (p0 b)).emb ((ix3 0 r y) : S1x256x1024.Idx)) x : ℕ) = _ := fun x => (cfg0.win 0).rect_emb_val (p0 b) ((ix3 0 r y) : S1x256x1024.Idx) x
  refine (e x).trans ?_
  match x with
  | ⟨0, _⟩ => exact (congrArg (· * 1 + 0) (c0 b)).trans (by show b.val * 1 + 0 = b.val; omega)
  | ⟨1, _⟩ => show 0 * 256 + r.val = r.val; omega
  | ⟨2, _⟩ => show 0 * 1024 + y.val = y.val; omega

theorem M1_at (b : Fin 4) (y : Fin 1024) : M1 V c (p0 b) (ix2 0 y) = (V c main_v0 : S1x1024.Idx → EReal) (ix2 0 y) := by
  refine congrArg (V c main_v0) (funext fun x => Fin.ext ?_)
  have e : ∀ x, ((((cfg0.win 1).rect (p0 b)).emb ((ix2 0 y) : S1x1024.Idx)) x : ℕ) = _ := fun x => (cfg0.win 1).rect_emb_val (p0 b) ((ix2 0 y) : S1x1024.Idx) x
  refine (e x).trans ?_
  match x with
  | ⟨0, _⟩ => rfl
  | ⟨1, _⟩ => show 0 * 1024 + y.val = y.val; omega

theorem M2_at (b : Fin 4) (r : Fin 1024) (y : Fin 1024) : M2 V c (p0 b) (ix2 r y) = (V c main_v1 : S1024x1024.Idx → EReal) (ix2 r y) := by
  refine congrArg (V c main_v1) (funext fun x => Fin.ext ?_)
  have e : ∀ x, ((((cfg0.win 2).rect (p0 b)).emb ((ix2 r y) : S1024x1024.Idx)) x : ℕ) = _ := fun x => (cfg0.win 2).rect_emb_val (p0 b) ((ix2 r y) : S1024x1024.Idx) x
  refine (e x).trans ?_
  match x with
  | ⟨0, _⟩ => show 0 * 1024 + r.val = r.val; omega
  | ⟨1, _⟩ => show 0 * 1024 + y.val = y.val; omega

theorem M3_at (b : Fin 4) (y : Fin 128) : M3 V c (p0 b) (ix2 0 y) = (V c main_v2 : S1x128.Idx → EReal) (ix2 0 y) := by
  refine congrArg (V c main_v2) (funext fun x => Fin.ext ?_)
  have e : ∀ x, ((((cfg0.win 3).rect (p0 b)).emb ((ix2 0 y) : S1x128.Idx)) x : ℕ) = _ := fun x => (cfg0.win 3).rect_emb_val (p0 b) ((ix2 0 y) : S1x128.Idx) x
  refine (e x).trans ?_
  match x with
  | ⟨0, _⟩ => rfl
  | ⟨1, _⟩ => show 0 * 128 + y.val = y.val; omega

theorem B0_at (b i : Fin 4) (r : Fin 1024) (y : Fin 1024) : B0 V c (p1 b i) (ix3 0 r y) = (V c main_arg0 : S4x4096x1024.Idx → EReal) (ix3 b ⟨1024 * i.val + r.val, by omega⟩ y) := by
  refine congrArg (V c main_arg0) (funext fun x => Fin.ext ?_)
  have e : ∀ x, ((((cfg1.win 0).rect (p1 b i)).emb ((ix3 0 r y) : S1x1024x1024.Idx)) x : ℕ) = _ := fun x => (cfg1.win 0).rect_emb_val (p1 b i) ((ix3 0 r y) : S1x1024x1024.Idx) x
  refine (e x).trans ?_
  match x with
  | ⟨0, _⟩ => exact (congrArg (· * 1 + 0) (c10 b i)).trans (by show b.val * 1 + 0 = b.val; omega)
  | ⟨1, _⟩ => exact (congrArg (· * 1024 + r.val) (c11 b i)).trans (by show i.val * 1024 + r.val = 1024 * i.val + r.val; omega)
  | ⟨2, _⟩ => show 0 * 1024 + y.val = y.val; omega

theorem B1_at (b i : Fin 4) (r : Fin 1024) (y : Fin 512) : B1 V c (p1 b i) (ix3 0 r y) = (V c main_arg1 : S4x4096x512.Idx → EReal) (ix3 b ⟨1024 * i.val + r.val, by omega⟩ y) := by
  refine congrArg (V c main_arg1) (funext fun x => Fin.ext ?_)
  have e : ∀ x, ((((cfg1.win 1).rect (p1 b i)).emb ((ix3 0 r y) : S1x1024x512.Idx)) x : ℕ) = _ := fun x => (cfg1.win 1).rect_emb_val (p1 b i) ((ix3 0 r y) : S1x1024x512.Idx) x
  refine (e x).trans ?_
  match x with
  | ⟨0, _⟩ => exact (congrArg (· * 1 + 0) (c10 b i)).trans (by show b.val * 1 + 0 = b.val; omega)
  | ⟨1, _⟩ => exact (congrArg (· * 1024 + r.val) (c11 b i)).trans (by show i.val * 1024 + r.val = 1024 * i.val + r.val; omega)
  | ⟨2, _⟩ => show 0 * 512 + y.val = y.val; omega

theorem B2_at (b i : Fin 4) (r : Fin 1024) (y : Fin 512) : B2 V c (p1 b i) (ix3 0 r y) = (V c main_arg2 : S4x4096x512.Idx → EReal) (ix3 b ⟨1024 * i.val + r.val, by omega⟩ y) := by
  refine congrArg (V c main_arg2) (funext fun x => Fin.ext ?_)
  have e : ∀ x, ((((cfg1.win 2).rect (p1 b i)).emb ((ix3 0 r y) : S1x1024x512.Idx)) x : ℕ) = _ := fun x => (cfg1.win 2).rect_emb_val (p1 b i) ((ix3 0 r y) : S1x1024x512.Idx) x
  refine (e x).trans ?_
  match x with
  | ⟨0, _⟩ => exact (congrArg (· * 1 + 0) (c10 b i)).trans (by show b.val * 1 + 0 = b.val; omega)
  | ⟨1, _⟩ => exact (congrArg (· * 1024 + r.val) (c11 b i)).trans (by show i.val * 1024 + r.val = 1024 * i.val + r.val; omega)
  | ⟨2, _⟩ => show 0 * 512 + y.val = y.val; omega

theorem B3_at (b i : Fin 4) (r : Fin 512) (y : Fin 1024) : B3 V c (p1 b i) (ix2 r y) = (V c main_v5 : S512x1024.Idx → EReal) (ix2 r y) := by
  refine congrArg (V c main_v5) (funext fun x => Fin.ext ?_)
  have e : ∀ x, ((((cfg1.win 3).rect (p1 b i)).emb ((ix2 r y) : S512x1024.Idx)) x : ℕ) = _ := fun x => (cfg1.win 3).rect_emb_val (p1 b i) ((ix2 r y) : S512x1024.Idx) x
  refine (e x).trans ?_
  match x with
  | ⟨0, _⟩ => show 0 * 512 + r.val = r.val; omega
  | ⟨1, _⟩ => show 0 * 1024 + y.val = y.val; omega

theorem B4_at (b i : Fin 4) (r : Fin 512) (y : Fin 1024) : B4 V c (p1 b i) (ix2 r y) = (V c main_v7 : S512x1024.Idx → EReal) (ix2 r y) := by
  refine congrArg (V c main_v7) (funext fun x => Fin.ext ?_)
  have e : ∀ x, ((((cfg1.win 4).rect (p1 b i)).emb ((ix2 r y) : S512x1024.Idx)) x : ℕ) = _ := fun x => (cfg1.win 4).rect_emb_val (p1 b i) ((ix2 r y) : S512x1024.Idx) x
  refine (e x).trans ?_
  match x with
  | ⟨0, _⟩ => show 0 * 512 + r.val = r.val; omega
  | ⟨1, _⟩ => show 0 * 1024 + y.val = y.val; omega

theorem B5_at (b i : Fin 4) (y : Fin 1024) : B5 V c (p1 b i) (ix2 0 y) = (V c main_v8 : S1x1024.Idx → EReal) (ix2 0 y) := by
  refine congrArg (V c main_v8) (funext fun x => Fin.ext ?_)
  have e : ∀ x, ((((cfg1.win 5).rect (p1 b i)).emb ((ix2 0 y) : S1x1024.Idx)) x : ℕ) = _ := fun x => (cfg1.win 5).rect_emb_val (p1 b i) ((ix2 0 y) : S1x1024.Idx) x
  refine (e x).trans ?_
  match x with
  | ⟨0, _⟩ => rfl
  | ⟨1, _⟩ => show 0 * 1024 + y.val = y.val; omega

theorem B6_at (b i : Fin 4) (r : Fin 1024) (y : Fin 512) : B6 V c (p1 b i) (ix2 r y) = (V c main_v9 : S1024x512.Idx → EReal) (ix2 r y) := by
  refine congrArg (V c main_v9) (funext fun x => Fin.ext ?_)
  have e : ∀ x, ((((cfg1.win 6).rect (p1 b i)).emb ((ix2 r y) : S1024x512.Idx)) x : ℕ) = _ := fun x => (cfg1.win 6).rect_emb_val (p1 b i) ((ix2 r y) : S1024x512.Idx) x
  refine (e x).trans ?_
  match x with
  | ⟨0, _⟩ => show 0 * 1024 + r.val = r.val; omega
  | ⟨1, _⟩ => show 0 * 512 + y.val = y.val; omega

theorem B7_at (b i : Fin 4) (y : Fin 128) : B7 V c (p1 b i) (ix2 0 y) = (V c main_v10 : S1x128.Idx → EReal) (ix2 0 y) := by
  refine congrArg (V c main_v10) (funext fun x => Fin.ext ?_)
  have e : ∀ x, ((((cfg1.win 7).rect (p1 b i)).emb ((ix2 0 y) : S1x128.Idx)) x : ℕ) = _ := fun x => (cfg1.win 7).rect_emb_val (p1 b i) ((ix2 0 y) : S1x128.Idx) x
  refine (e x).trans ?_
  match x with
  | ⟨0, _⟩ => rfl
  | ⟨1, _⟩ => show 0 * 128 + y.val = y.val; omega

theorem B8_at (b i : Fin 4) (r : Fin 256) (y : Fin 512) : B8 V c (p1 b i) (ix3 0 r y) = (V c main_v3_0 : S4x256x512.Idx → EReal) (ix3 b r y) := by
  refine congrArg (V c main_v3_0) (funext fun x => Fin.ext ?_)
  have e : ∀ x, ((((cfg1.win 8).rect (p1 b i)).emb ((ix3 0 r y) : S1x256x512.Idx)) x : ℕ) = _ := fun x => (cfg1.win 8).rect_emb_val (p1 b i) ((ix3 0 r y) : S1x256x512.Idx) x
  refine (e x).trans ?_
  match x with
  | ⟨0, _⟩ => exact (congrArg (· * 1 + 0) (c10 b i)).trans (by show b.val * 1 + 0 = b.val; omega)
  | ⟨1, _⟩ => show 0 * 256 + r.val = r.val; omega
  | ⟨2, _⟩ => show 0 * 512 + y.val = y.val; omega

theorem B9_at (b i : Fin 4) (r : Fin 256) (y : Fin 512) : B9 V c (p1 b i) (ix3 0 r y) = (V c main_v3_1 : S4x256x512.Idx → EReal) (ix3 b r y) := by
  refine congrArg (V c main_v3_1) (funext fun x => Fin.ext ?_)
  have e : ∀ x, ((((cfg1.win 9).rect (p1 b i)).emb ((ix3 0 r y) : S1x256x512.Idx)) x : ℕ) = _ := fun x => (cfg1.win 9).rect_emb_val (p1 b i) ((ix3 0 r y) : S1x256x512.Idx) x
  refine (e x).trans ?_
  match x with
  | ⟨0, _⟩ => exact (congrArg (· * 1 + 0) (c10 b i)).trans (by show b.val * 1 + 0 = b.val; omega)
  | ⟨1, _⟩ => show 0 * 256 + r.val = r.val; omega
  | ⟨2, _⟩ => show 0 * 512 + y.val = y.val; omega

theorem B10_at (b i : Fin 4) (r : Fin 512) (y : Fin 1024) : B10 V c (p1 b i) (ix2 r y) = (V c main_v11 : S512x1024.Idx → EReal) (ix2 r y) := by
  refine congrArg (V c main_v11) (funext fun x => Fin.ext ?_)
  have e : ∀ x, ((((cfg1.win 10).rect (p1 b i)).emb ((ix2 r y) : S512x1024.Idx)) x : ℕ) = _ := fun x => (cfg1.win 10).rect_emb_val (p1 b i) ((ix2 r y) : S512x1024.Idx) x
  refine (e x).trans ?_
  match x with
  | ⟨0, _⟩ => show 0 * 512 + r.val = r.val; omega
  | ⟨1, _⟩ => show 0 * 1024 + y.val = y.val; omega

/-! ## What the calls leave -/

theorem flush_kout (t : Fin cfg0.N) : (cfg0.win 4).flush t = true := by
  rw [Window.flush_eq_flushOf]
  show Window.flushOf grid0 true (fun i => cc0_transform_4 i) t = true
  have h : ∀ t : Fin grid0.N, Window.flushOf grid0 true (fun i => cc0_transform_4 i) t = true := by decide +kernel
  exact h t

theorem index_kout (t : Fin cfg0.N) : (cfg0.win 4).index t (0 : Fin 3) = t.val := by
  have ht : t.val < 4 := t.isLt
  show (BitVec.ofNat 32 (grid0.coords t 0).val).toNat = t.val
  rw [coords0, BitVec.toNat_ofNat, Nat.mod_eq_of_lt (by omega)]

theorem disj_kout : ∀ t t' : Fin cfg0.N, (cfg0.win 4).flush t = true → (cfg0.win 4).flush t' = true → t ≠ t' →
    Disjoint ((cfg0.win 4).blk t).view.set ((cfg0.win 4).blk t').view.set :=
  Window.hdisj_of_index_inj _ fun t t' _ _ h => Fin.ext (by
    have := congrFun h (0 : Fin 3)
    rw [index_kout, index_kout] at this
    exact this)

theorem kout_at (b : Fin 4) (r : Fin 256) (y : Fin 512) :
    ((dat0 V c).arrAt 4 cfg0.N : S4x256x512.Idx → EReal) (ix3 b r y) = (out0_4 (F := Ideal) (M0 V c (p0 b)) (M1 V c (p0 b)) (M2 V c (p0 b)) (M3 V c (p0 b)) : S1x256x512.Idx → EReal) (ix3 0 r y) := by
  have key := (dat0 V c).arrAt_emb_eq_flushed 4 disj_kout (p0 b) (flush_kout _) (ix3 0 r y : S1x256x512.Idx)
  have he : (((cfg0.win 4).blk (p0 b)).view.emb (ix3 0 r y : S1x256x512.Idx) : S4x256x512.Idx) = (ix3 b r y) := by
    refine funext fun x => Fin.ext ?_
    have e : ∀ x, ((((cfg0.win 4).rect (p0 b)).emb (ix3 0 r y : S1x256x512.Idx)) x : ℕ) = _ := fun x => (cfg0.win 4).rect_emb_val (p0 b) (ix3 0 r y : S1x256x512.Idx) x
    refine (e x).trans ?_
    match x with
    | ⟨0, _⟩ => exact (congrArg (· * 1 + 0) (c0 b)).trans (by show b.val * 1 + 0 = b.val; omega)
    | ⟨1, _⟩ => show 0 * 256 + r.val = r.val; omega
    | ⟨2, _⟩ => show 0 * 512 + y.val = y.val; omega
  rw [← he]
  refine key.trans ?_
  unfold Dat.flushed
  rw [after0_4]
  unfold M0 M1 M2 M3
  generalize out0_4 (F := Ideal) (iblk0 V c 0 (p0 b)) (iblk0 V c 1 (p0 b)) (iblk0 V c 2 (p0 b)) (iblk0 V c 3 (p0 b)) = g
  rfl

theorem flush_vout (t : Fin cfg0.N) : (cfg0.win 5).flush t = true := by
  rw [Window.flush_eq_flushOf]
  show Window.flushOf grid0 true (fun i => cc0_transform_5 i) t = true
  have h : ∀ t : Fin grid0.N, Window.flushOf grid0 true (fun i => cc0_transform_5 i) t = true := by decide +kernel
  exact h t

theorem index_vout (t : Fin cfg0.N) : (cfg0.win 5).index t (0 : Fin 3) = t.val := by
  have ht : t.val < 4 := t.isLt
  show (BitVec.ofNat 32 (grid0.coords t 0).val).toNat = t.val
  rw [coords0, BitVec.toNat_ofNat, Nat.mod_eq_of_lt (by omega)]

theorem disj_vout : ∀ t t' : Fin cfg0.N, (cfg0.win 5).flush t = true → (cfg0.win 5).flush t' = true → t ≠ t' →
    Disjoint ((cfg0.win 5).blk t).view.set ((cfg0.win 5).blk t').view.set :=
  Window.hdisj_of_index_inj _ fun t t' _ _ h => Fin.ext (by
    have := congrFun h (0 : Fin 3)
    rw [index_vout, index_vout] at this
    exact this)

theorem vout_at (b : Fin 4) (r : Fin 256) (y : Fin 512) :
    ((dat0 V c).arrAt 5 cfg0.N : S4x256x512.Idx → EReal) (ix3 b r y) = (out0_5 (F := Ideal) (M0 V c (p0 b)) (M1 V c (p0 b)) (M2 V c (p0 b)) (M3 V c (p0 b)) : S1x256x512.Idx → EReal) (ix3 0 r y) := by
  have key := (dat0 V c).arrAt_emb_eq_flushed 5 disj_vout (p0 b) (flush_vout _) (ix3 0 r y : S1x256x512.Idx)
  have he : (((cfg0.win 5).blk (p0 b)).view.emb (ix3 0 r y : S1x256x512.Idx) : S4x256x512.Idx) = (ix3 b r y) := by
    refine funext fun x => Fin.ext ?_
    have e : ∀ x, ((((cfg0.win 5).rect (p0 b)).emb (ix3 0 r y : S1x256x512.Idx)) x : ℕ) = _ := fun x => (cfg0.win 5).rect_emb_val (p0 b) (ix3 0 r y : S1x256x512.Idx) x
    refine (e x).trans ?_
    match x with
    | ⟨0, _⟩ => exact (congrArg (· * 1 + 0) (c0 b)).trans (by show b.val * 1 + 0 = b.val; omega)
    | ⟨1, _⟩ => show 0 * 256 + r.val = r.val; omega
    | ⟨2, _⟩ => show 0 * 512 + y.val = y.val; omega
  rw [← he]
  refine key.trans ?_
  unfold Dat.flushed
  rw [after0_5]
  unfold M0 M1 M2 M3
  generalize out0_5 (F := Ideal) (iblk0 V c 0 (p0 b)) (iblk0 V c 1 (p0 b)) (iblk0 V c 2 (p0 b)) (iblk0 V c 3 (p0 b)) = g
  rfl

theorem flush_rout (t : Fin cfg1.N) : (cfg1.win 14).flush t = true := by
  rw [Window.flush_eq_flushOf]
  show Window.flushOf grid1 true (fun i => cc1_transform_14 i) t = true
  have h : ∀ t : Fin grid1.N, Window.flushOf grid1 true (fun i => cc1_transform_14 i) t = true := by decide +kernel
  exact h t

theorem index_rout (t : Fin cfg1.N) : (cfg1.win 14).index t (0 : Fin 3) = t.val / 4 ∧ (cfg1.win 14).index t (1 : Fin 3) = t.val % 4 := by
  have ht : t.val < 16 := t.isLt
  constructor
  · show (BitVec.ofNat 32 (grid1.coords t 0).val).toNat = t.val / 4
    rw [coords10, BitVec.toNat_ofNat, Nat.mod_eq_of_lt (by omega)]
  · show (BitVec.ofNat 32 (grid1.coords t 1).val).toNat = t.val % 4
    rw [coords11, BitVec.toNat_ofNat, Nat.mod_eq_of_lt (by omega)]

theorem disj_rout : ∀ t t' : Fin cfg1.N, (cfg1.win 14).flush t = true → (cfg1.win 14).flush t' = true → t ≠ t' →
    Disjoint ((cfg1.win 14).blk t).view.set ((cfg1.win 14).blk t').view.set :=
  Window.hdisj_of_index_inj _ fun t t' _ _ h => Fin.ext (by
    have h0 := congrFun h (0 : Fin 3)
    have h1 := congrFun h (1 : Fin 3)
    rw [(index_rout t).1, (index_rout t').1] at h0
    rw [(index_rout t).2, (index_rout t').2] at h1
    omega)

theorem rout_at (b i : Fin 4) (r : Fin 1024) (y : Fin 1152) :
    ((dat1 V c).arrAt 14 cfg1.N : S4x4096x1152.Idx → EReal) (ix3 b ⟨1024 * i.val + r.val, by omega⟩ y) = ((outsAt1 V c (p1 b i)).1 : S1x1024x1152.Idx → EReal) (ix3 0 r y) := by
  have key := (dat1 V c).arrAt_emb_eq_flushed 14 disj_rout (p1 b i) (flush_rout _) (ix3 0 r y : S1x1024x1152.Idx)
  have he : (((cfg1.win 14).blk (p1 b i)).view.emb (ix3 0 r y : S1x1024x1152.Idx) : S4x4096x1152.Idx) = (ix3 b ⟨1024 * i.val + r.val, by omega⟩ y) := by
    refine funext fun x => Fin.ext ?_
    have e : ∀ x, ((((cfg1.win 14).rect (p1 b i)).emb (ix3 0 r y : S1x1024x1152.Idx)) x : ℕ) = _ := fun x => (cfg1.win 14).rect_emb_val (p1 b i) (ix3 0 r y : S1x1024x1152.Idx) x
    refine (e x).trans ?_
    match x with
    | ⟨0, _⟩ => exact (congrArg (· * 1 + 0) (c10 b i)).trans (by show b.val * 1 + 0 = b.val; omega)
    | ⟨1, _⟩ => exact (congrArg (· * 1024 + r.val) (c11 b i)).trans (by show i.val * 1024 + r.val = 1024 * i.val + r.val; omega)
    | ⟨2, _⟩ => show 0 * 1152 + y.val = y.val; omega
  rw [← he]
  refine key.trans ?_
  unfold Dat.flushed
  rw [after1_14]
  rfl

end Cert.MidReads
-- ==== Proof.MidVal.lean ====
/- The second program's result, at an index, of its arguments. -/
module

public import proofs.«01_k».proof.Proof.MidReads
public import Idealize.ShloMosaic.Lib.Pointwise

@[expose] public section

set_option maxRecDepth 16384
set_option backward.isDefEq.respectTransparency.types false

noncomputable section

namespace Cert.MidVal

open Idealize.ShloMosaic Idealize.ShloMosaic.TcCoe Idealize.ShloMosaic.Tactic
open Cert.Kernel2Ideal Cert.Kernel2Ideal.Gen Cert.MidSpec Cert.MidBody Cert.MidOut Cert.MidReads

section Host

variable (V : Valuation τ sig (Elt Ideal))

theorem v0_at (y : Fin 1024) : (StableHlo.after hostOps0 V (Proc.devRef .tc main_v0) : S1x1024.Idx → EReal) (ix2 0 y) = (V (Proc.devRef .tc main_arg6) : S1024.Idx → EReal) (ix1 y) := by
  unfold_abbrev_sides
  after_results
  pointwise

theorem v1_at (r : Fin 1024) (y : Fin 1024) : (StableHlo.after hostOps0 V (Proc.devRef .tc main_v1) : S1024x1024.Idx → EReal) (ix2 r y) = (V (Proc.devRef .tc main_arg8) : S1024x1024.Idx → EReal) (ix2 r y) := by
  unfold_abbrev_sides
  after_results
  pointwise

theorem v2_at (y : Fin 128) : (StableHlo.after hostOps0 V (Proc.devRef .tc main_v2) : S1x128.Idx → EReal) (ix2 0 y) = (V (Proc.devRef .tc main_arg10) : S128.Idx → EReal) (ix1 y) := by
  unfold_abbrev_sides
  after_results
  pointwise

theorem v5_at (r : Fin 512) (y : Fin 1024) : (StableHlo.after hostOps1 V (Proc.devRef .tc main_v5) : S512x1024.Idx → EReal) (ix2 r y)
    = (V (Proc.devRef .tc main_arg4) : S1024x1024.Idx → EReal) (ix2 ⟨r.val, by omega⟩ y) := by
  unfold_abbrev_sides
  after_results
  pointwise

theorem v7_at (r : Fin 512) (y : Fin 1024) : (StableHlo.after hostOps1 V (Proc.devRef .tc main_v7) : S512x1024.Idx → EReal) (ix2 r y)
    = (V (Proc.devRef .tc main_arg4) : S1024x1024.Idx → EReal) (ix2 ⟨512 + r.val, by omega⟩ y) := by
  unfold_abbrev_sides
  after_results
  pointwise

theorem v8_at (y : Fin 1024) : (StableHlo.after hostOps1 V (Proc.devRef .tc main_v8) : S1x1024.Idx → EReal) (ix2 0 y) = (V (Proc.devRef .tc main_arg5) : S1024.Idx → EReal) (ix1 y) := by
  unfold_abbrev_sides
  after_results
  pointwise

theorem v9_at (r : Fin 1024) (y : Fin 512) : (StableHlo.after hostOps1 V (Proc.devRef .tc main_v9) : S1024x512.Idx → EReal) (ix2 r y) = (V (Proc.devRef .tc main_arg7) : S1024x512.Idx → EReal) (ix2 r y) := by
  unfold_abbrev_sides
  after_results
  pointwise

theorem v10_at (y : Fin 128) : (StableHlo.after hostOps1 V (Proc.devRef .tc main_v10) : S1x128.Idx → EReal) (ix2 0 y) = (V (Proc.devRef .tc main_arg9) : S128.Idx → EReal) (ix1 y) := by
  unfold_abbrev_sides
  after_results
  pointwise

theorem v11_at (r : Fin 512) (y : Fin 1024) : (StableHlo.after hostOps1 V (Proc.devRef .tc main_v11) : S512x1024.Idx → EReal) (ix2 r y) = (V (Proc.devRef .tc main_arg11) : S512x1024.Idx → EReal) (ix2 r y) := by
  unfold_abbrev_sides
  after_results
  pointwise

theorem v14_at (b : Fin 4) (r : Fin 4096) (y : Fin 1024) : (StableHlo.after hostOps2 V (Proc.devRef .tc main_v14) : S4x4096x1024.Idx → EReal) (ix3 b r y)
    = (V (Proc.devRef .tc main_v13_0) : S4x4096x1152.Idx → EReal) (ix3 b r ⟨y.val, by omega⟩) := by
  unfold_abbrev_sides
  after_results
  pointwise

end Host

section Result

variable (m : (ℓ : Loc nD τ sig) → Buf (Elt Ideal) ℓ) (ρ : Dev nD → PrngReg) (c : Dev nD)

/-- The arguments. -/
def A0 : S4x4096x1024.Idx → EReal := m ((c : Thread nD τ).loc main_arg0)
def A1 : S4x4096x512.Idx → EReal := m ((c : Thread nD τ).loc main_arg1)
def A2 : S4x4096x512.Idx → EReal := m ((c : Thread nD τ).loc main_arg2)
def A3 : S4x256x1024.Idx → EReal := m ((c : Thread nD τ).loc main_arg3)
def A4 : S1024x1024.Idx → EReal := m ((c : Thread nD τ).loc main_arg4)
def A5 : S1024.Idx → EReal := m ((c : Thread nD τ).loc main_arg5)
def A6 : S1024.Idx → EReal := m ((c : Thread nD τ).loc main_arg6)
def A7 : S1024x512.Idx → EReal := m ((c : Thread nD τ).loc main_arg7)
def A8 : S1024x1024.Idx → EReal := m ((c : Thread nD τ).loc main_arg8)
def A9 : S128.Idx → EReal := m ((c : Thread nD τ).loc main_arg9)
def A10 : S128.Idx → EReal := m ((c : Thread nD τ).loc main_arg10)
def A11 : S512x1024.Idx → EReal := m ((c : Thread nD τ).loc main_arg11)

theorem kv_at (b : Fin 4) (y : Fin 256) :
    (fun j => k0_pay3 (F := Ideal) (M0 (V1 m ρ) c (p0 b)) (M1 (V1 m ρ) c (p0 b)) (M2 (V1 m ρ) c (p0 b)) (ix2 y j))
      = proj (nrm c1024 (fun d => A3 m c (ix3 b y d)) (fun d => A6 m c (ix1 d))) (fun d j => A8 m c (ix2 d j)) := by
  have e0 : (fun d => M0 (V1 m ρ) c (p0 b) (ix3 0 y d)) = fun d => A3 m c (ix3 b y d) :=
    funext fun d => (M0_at _ c b y d).trans (congrFun (W1_args m ρ c main_arg3 (by decide)) _)
  have e1 : (fun d => M1 (V1 m ρ) c (p0 b) (ix2 0 d)) = fun d => A6 m c (ix1 d) := funext fun d => (M1_at _ c b d).trans (v0_at _ d)
  have e2 : (fun d j => M2 (V1 m ρ) c (p0 b) (ix2 d j)) = fun d j => A8 m c (ix2 d j) := funext fun d => funext fun j => (M2_at _ c b d j).trans (v1_at _ d j)
  rw [← e0, ← e1, ← e2]
  exact funext fun j => MidBody.kv_at _ _ _ _ _

theorem keys_of (b : Fin 4) (k : Fin 4) (y : Fin 256) (d : Fin 128) :
    (W3 m ρ c (Proc.devRef .tc main_v3_0) : S4x256x512.Idx → EReal) (ix3 b y ⟨128 * k.val + d.val, by omega⟩)
      = key (fun d => A3 m c (ix3 b y d)) (fun d => A6 m c (ix1 d)) (fun d j => A8 m c (ix2 d j)) (fun d => A10 m c (ix1 d)) k d := by
  refine (congrFun ((W3_of m ρ c main_v3_0 (by decide)).trans (W2_arr m ρ c 4)) _).trans ?_
  refine (kout_at (V1 m ρ) c b y _).trans ((keys_at _ _ _ _ y _).trans ?_)
  have e3 : (fun d => M3 (V1 m ρ) c (p0 b) (ix2 0 d)) = fun d => A10 m c (ix1 d) := funext fun d => (M3_at _ c b d).trans (v2_at _ d)
  rw [kv_at, e3]
  exact (mod_at (keyOf _ _) k d (128 * k.val + d.val) (by omega) rfl).symm

theorem vals_of (b : Fin 4) (k : Fin 4) (y : Fin 256) (d : Fin 128) :
    (W3 m ρ c (Proc.devRef .tc main_v3_1) : S4x256x512.Idx → EReal) (ix3 b y ⟨128 * k.val + d.val, by omega⟩)
      = val (fun d => A3 m c (ix3 b y d)) (fun d => A6 m c (ix1 d)) (fun d j => A8 m c (ix2 d j)) k d := by
  refine (congrFun ((W3_of m ρ c main_v3_1 (by decide)).trans (W2_arr m ρ c 5)) _).trans ?_
  refine (vout_at (V1 m ρ) c b y _).trans ((vals_at _ _ _ (M3 (V1 m ρ) c (p0 b)) y _).trans ?_)
  exact congrFun (kv_at m ρ c b y) _

/-- A row of the result. -/
def spec (b : Fin 4) (s : Fin 4096) (l : Fin 1024) : EReal :=
  row (fun l => A0 m c (ix3 b s l)) (fun j => A1 m c (ix3 b s j)) (fun j => A2 m c (ix3 b s j)) (fun j l => A4 m c (ix2 ⟨j.val, by omega⟩ l))
    (fun j l => A4 m c (ix2 ⟨512 + j.val, by omega⟩ l)) (fun d => A5 m c (ix1 d)) (fun d j => A7 m c (ix2 d j)) (fun d => A9 m c (ix1 d))
    (fun k y d => key (fun d => A3 m c (ix3 b y d)) (fun d => A6 m c (ix1 d)) (fun d j => A8 m c (ix2 d j)) (fun d => A10 m c (ix1 d)) k d)
    (fun k y d => val (fun d => A3 m c (ix3 b y d)) (fun d => A6 m c (ix1 d)) (fun d j => A8 m c (ix2 d j)) k d)
    (fun j l => A11 m c (ix2 j l)) l

theorem row_at (b i : Fin 4) (r l : Fin 1024) :
    (W5 m ρ c (Proc.devRef .tc main_v14) : S4x4096x1024.Idx → EReal) (ix3 b ⟨1024 * i.val + r.val, by omega⟩ l) = spec m c b ⟨1024 * i.val + r.val, by omega⟩ l := by
  refine (v14_at (W4 m ρ c) b _ l).trans ?_
  refine (congrFun (W4_arr m ρ c 14) _).trans ?_
  refine (rout_at (V3 m ρ) c b i r _).trans ((rows_at (V3 m ρ) c (p1 b i) r l).trans ?_)
  have arg : ∀ a, a ∈ argRefs → V3 m ρ c a = m ((c : Thread nD τ).loc a) := fun a ha => W3_args m ρ c a ha
  have arg2 : ∀ a, a ∈ argRefs → W2 m ρ c (Proc.devRef .tc a) = m ((c : Thread nD τ).loc a) := fun a ha => W2_args m ρ c a ha
  have e0 : (fun l => B0 (V3 m ρ) c (p1 b i) (ix3 0 r l)) = fun l => A0 m c (ix3 b ⟨1024 * i.val + r.val, by omega⟩ l) :=
    funext fun l => (B0_at _ c b i r l).trans (congrFun (arg main_arg0 (by decide)) _)
  have e1 : (fun l => B1 (V3 m ρ) c (p1 b i) (ix3 0 r l)) = fun l => A1 m c (ix3 b ⟨1024 * i.val + r.val, by omega⟩ l) :=
    funext fun l => (B1_at _ c b i r l).trans (congrFun (arg main_arg1 (by decide)) _)
  have e2 : (fun l => B2 (V3 m ρ) c (p1 b i) (ix3 0 r l)) = fun l => A2 m c (ix3 b ⟨1024 * i.val + r.val, by omega⟩ l) :=
    funext fun l => (B2_at _ c b i r l).trans (congrFun (arg main_arg2 (by decide)) _)
  have e3 : (fun j l => B3 (V3 m ρ) c (p1 b i) (ix2 j l)) = fun (j : Fin 512) l => A4 m c (ix2 ⟨j.val, by omega⟩ l) :=
    funext fun j => funext fun l => (B3_at _ c b i j l).trans ((v5_at _ j l).trans (congrFun (arg2 main_arg4 (by decide)) _))
  have e4 : (fun j l => B4 (V3 m ρ) c (p1 b i) (ix2 j l)) = fun (j : Fin 512) l => A4 m c (ix2 ⟨512 + j.val, by omega⟩ l) :=
    funext fun j => funext fun l => (B4_at _ c b i j l).trans ((v7_at _ j l).trans (congrFun (arg2 main_arg4 (by decide)) _))
  have e5 : (fun d => B5 (V3 m ρ) c (p1 b i) (ix2 0 d)) = fun d => A5 m c (ix1 d) :=
    funext fun d => (B5_at _ c b i d).trans ((v8_at _ d).trans (congrFun (arg2 main_arg5 (by decide)) _))
  have e6 : (fun d j => B6 (V3 m ρ) c (p1 b i) (ix2 d j)) = fun d j => A7 m c (ix2 d j) :=
    funext fun d => funext fun j => (B6_at _ c b i d j).trans ((v9_at _ d j).trans (congrFun (arg2 main_arg7 (by decide)) _))
  have e7 : (fun d => B7 (V3 m ρ) c (p1 b i) (ix2 0 d)) = fun d => A9 m c (ix1 d) :=
    funext fun d => (B7_at _ c b i d).trans ((v10_at _ d).trans (congrFun (arg2 main_arg9 (by decide)) _))
  have e8 : (fun (k : Fin 4) m' (d : Fin 128) => B8 (V3 m ρ) c (p1 b i) (ix3 0 m' ⟨128 * k.val + d.val, by omega⟩))
      = fun k y d => key (fun d => A3 m c (ix3 b y d)) (fun d => A6 m c (ix1 d)) (fun d j => A8 m c (ix2 d j)) (fun d => A10 m c (ix1 d)) k d :=
    funext fun k => funext fun y => funext fun d => (B8_at _ c b i y _).trans (keys_of m ρ c b k y d)
  have e9 : (fun (k : Fin 4) m' (d : Fin 128) => B9 (V3 m ρ) c (p1 b i) (ix3 0 m' ⟨128 * k.val + d.val, by omega⟩))
      = fun k y d => val (fun d => A3 m c (ix3 b y d)) (fun d => A6 m c (ix1 d)) (fun d j => A8 m c (ix2 d j)) k d :=
    funext fun k => funext fun y => funext fun d => (B9_at _ c b i y _).trans (vals_of m ρ c b k y d)
  have e10 : (fun j l => B10 (V3 m ρ) c (p1 b i) (ix2 j l)) = fun j l => A11 m c (ix2 j l) :=
    funext fun j => funext fun l => (B10_at _ c b i j l).trans ((v11_at _ j l).trans (congrFun (arg2 main_arg11 (by decide)) _))
  rw [e0, e1, e2, e3, e4, e5, e6, e7, e8, e9, e10]
  rfl

theorem result_at (b : Fin 4) (s : Fin 4096) (l : Fin 1024) :
    (W5 m ρ c (Proc.devRef .tc main_v14) : S4x4096x1024.Idx → EReal) (ix3 b s l) = spec m c b s l := by
  have h := row_at m ρ c b ⟨s.val / 1024, by omega⟩ ⟨s.val % 1024, by omega⟩ l
  have e : (⟨1024 * (s.val / 1024) + s.val % 1024, by omega⟩ : Fin 4096) = s := Fin.ext (by show 1024 * (s.val / 1024) + s.val % 1024 = s.val; omega)
  have go : ∀ s' : Fin 4096, s' = s → (W5 m ρ c (Proc.devRef .tc main_v14) : S4x4096x1024.Idx → EReal) (ix3 b s' l) = spec m c b s' l →
      (W5 m ρ c (Proc.devRef .tc main_v14) : S4x4096x1024.Idx → EReal) (ix3 b s l) = spec m c b s l := by rintro _ rfl h; exact h
  exact go _ e h

end Result

end Cert.MidVal
-- ==== Proof.MidRef.lean ====
/- The second program's reference, at an index, of its arguments. -/
module

public import proofs.«01_k».proof.Proof.Gen.Reference2Ideal.Read
public import proofs.«01_k».proof.Proof.MidSpec
public import Idealize.ShloMosaic.Lib.Pointwise

@[expose] public section

set_option maxRecDepth 16384

noncomputable section

namespace Cert.MidRef

open Idealize.ShloMosaic Idealize.ShloMosaic.TcCoe Idealize.ShloMosaic.Tactic
open Cert.Reference2Ideal Cert.Reference2Ideal.Gen Cert.Reference2Ideal.Read Cert.MidSpec

/-- The scale is a number, and not negative. -/
theorem scl_real : ∃ r : ℝ, 0 ≤ r ∧ scl = (r : EReal) := by
  refine ⟨_, ?_, rfl⟩
  have h : (BitVec.extractLsb' (8 + 23) 1 1035273459#32 == 1#1) = false := by decide
  rw [h]
  simp only [Bool.false_eq_true, if_false]
  positivity

/-- A sum times a number that is not negative. -/
theorem sum_mul {ι : Type} [Fintype ι] (f : ι → EReal) (r : ℝ) (hr : 0 ≤ r) : (∑ i, f i) * (r : EReal) = ∑ i, f i * (r : EReal) := by
  classical
  induction (Finset.univ : Finset ι) using Finset.induction_on with
  | empty => simp
  | insert a s ha ih =>
    rw [Finset.sum_insert ha, Finset.sum_insert ha, ← ih, EReal.right_distrib_of_nonneg_of_ne_top (EReal.coe_nonneg.mpr hr) (EReal.coe_ne_top r)]

/-- The starting value of a greatest is no more than it. -/
theorem max_top (s : Fin 256 → EReal) : max (Ideal.ofBits .f32 0xFF800000#32) (top s) = top s := by
  refine max_eq_right ?_
  unfold top
  exact (Finset.le_fold_max _).mpr (Or.inl le_rfl)

variable (x0 : FVec Ideal S4x4096x1024 .f32) (x1 x2 : FVec Ideal S4x4096x512 .bf16) (x3 : FVec Ideal S4x256x1024 .f32) (x4 : FVec Ideal S1024x1024 .f32)
  (x5 x6 : FVec Ideal S1024 .f32) (x7 : FVec Ideal S1024x512 .f32) (x8 : FVec Ideal S1024x1024 .f32) (x9 x10 : FVec Ideal S128 .f32) (x11 : FVec Ideal S512x1024 .f32)

theorem x1_at (b : Fin 4) (s : Fin 4096) (l : Fin 1024) :
    val_main_v4 (F := Ideal) x0 x1 x2 x4 (ix3 b s l)
      = MidSpec.x1 (fun l => x0 (ix3 b s l)) (fun j => x1 (ix3 b s j)) (fun j => x2 (ix3 b s j)) (fun j l => x4 (ix2 ⟨j.val, by omega⟩ l)) (fun j l => x4 (ix2 ⟨512 + j.val, by omega⟩ l)) l := by
  pointwise [val_main_v4, val_main_v3, val_main_v2, val_main_v1, val_main_v0]
  exact (add_assoc _ _ _).symm

theorem xn_at (b : Fin 4) (s : Fin 4096) (d : Fin 1024) :
    val_main_v17 (F := Ideal) x0 x1 x2 x4 x5 (ix3 b s d) = nrm c1024 (fun l => val_main_v4 (F := Ideal) x0 x1 x2 x4 (ix3 b s l)) (fun d => x5 (ix1 d)) d := by
  unfold val_main_v17 val_main_v14 val_main_v13 val_main_v12 val_main_v11 val_main_v9 val_main_v7 val_main_v6 val_main_v5
  generalize val_main_v4 (F := Ideal) x0 x1 x2 x4 = X
  pointwise [val_main_v16, val_main_v15, val_main_v10, val_main_cst_1, val_main_v8, val_main_cst_0, val_main_cst]
  rfl

theorem q_at (b : Fin 4) (s : Fin 4096) (k : Fin 4) (d : Fin 128) :
    val_main_v32 (F := Ideal) x0 x1 x2 x4 x5 x7 (ix4 b s k d)
      = hd k (proj (fun d => val_main_v17 (F := Ideal) x0 x1 x2 x4 x5 (ix3 b s d)) (fun d j => x7 (ix2 d j))) d := by
  unfold val_main_v32 val_main_v31
  generalize val_main_v17 (F := Ideal) x0 x1 x2 x4 x5 = X
  pointwise
  unfold hd proj
  exact Finset.sum_congr rfl fun x _ => congrArg (fun j => X (ix3 b s x) * x7 (ix2 x j)) (Fin.ext (by show k.val * 128 + d.val = 128 * k.val + d.val; omega))

theorem qn_at (b : Fin 4) (s : Fin 4096) (k : Fin 4) (d : Fin 128) :
    val_main_v47 (F := Ideal) x0 x1 x2 x4 x5 x7 x9 (ix4 b s k d)
      = nrm c128 (fun d => val_main_v32 (F := Ideal) x0 x1 x2 x4 x5 x7 (ix4 b s k d)) (fun d => x9 (ix1 d)) d := by
  unfold val_main_v47 val_main_v44 val_main_v43 val_main_v42 val_main_v41 val_main_v39 val_main_v37 val_main_v36 val_main_v35
  generalize val_main_v32 (F := Ideal) x0 x1 x2 x4 x5 x7 = X
  pointwise [val_main_v46, val_main_v45, val_main_v40, val_main_cst_7, val_main_v38, val_main_cst_6, val_main_cst_5]
  rfl

theorem mn_at (b : Fin 4) (s : Fin 256) (d : Fin 1024) :
    val_main_v30 (F := Ideal) x3 x6 (ix3 b s d) = nrm c1024 (fun l => x3 (ix3 b s l)) (fun d => x6 (ix1 d)) d := by
  pointwise [val_main_v30, val_main_v27, val_main_v26, val_main_v25, val_main_v24, val_main_v22, val_main_v20, val_main_v19, val_main_v18, val_main_v29, val_main_v28, val_main_v23, val_main_cst_4, val_main_v21, val_main_cst_3, val_main_cst_2]
  rfl

theorem kv_at (b : Fin 4) (s : Fin 256) (j : Fin 1024) :
    val_main_v33 (F := Ideal) x3 x6 x8 (ix3 b s j) = proj (nrm c1024 (fun l => x3 (ix3 b s l)) (fun d => x6 (ix1 d))) (fun d j => x8 (ix2 d j)) j := by
  unfold val_main_v33
  have h := mn_at x3 x6
  generalize val_main_v30 (F := Ideal) x3 x6 = X at h ⊢
  pointwise
  simp only [h]
  rfl

theorem k0_at (b : Fin 4) (s : Fin 256) (k : Fin 4) (d : Fin 128) :
    val_main_v49 (F := Ideal) x3 x6 x8 (ix4 b s k d) = val_main_v33 (F := Ideal) x3 x6 x8 (ix3 b s ⟨128 * k.val + d.val, by omega⟩) := by
  unfold val_main_v49 val_main_v48 val_main_v34
  generalize val_main_v33 (F := Ideal) x3 x6 x8 = X
  pointwise
  exact congrArg (fun j => X (ix3 b s j)) (Fin.ext (by show k.val * 128 + d.val = 128 * k.val + d.val; omega))

theorem v0_at (b : Fin 4) (s : Fin 256) (k : Fin 4) (d : Fin 128) :
    val_main_v64 (F := Ideal) x3 x6 x8 (ix4 b s k d) = val_main_v33 (F := Ideal) x3 x6 x8 (ix3 b s ⟨512 + (128 * k.val + d.val), by omega⟩) := by
  unfold val_main_v64 val_main_v63 val_main_v34
  generalize val_main_v33 (F := Ideal) x3 x6 x8 = X
  pointwise
  exact congrArg (fun j => X (ix3 b s j)) (Fin.ext (by show 512 + k.val * 128 + d.val = 512 + (128 * k.val + d.val); omega))

theorem kn_at (b : Fin 4) (s : Fin 256) (k : Fin 4) (d : Fin 128) :
    val_main_v62 (F := Ideal) x3 x6 x8 x10 (ix4 b s k d)
      = nrm c128 (fun d => val_main_v49 (F := Ideal) x3 x6 x8 (ix4 b s k d)) (fun d => x10 (ix1 d)) d := by
  unfold val_main_v62 val_main_v59 val_main_v58 val_main_v57 val_main_v56 val_main_v54 val_main_v52 val_main_v51 val_main_v50
  generalize val_main_v49 (F := Ideal) x3 x6 x8 = X
  pointwise [val_main_v61, val_main_v60, val_main_v55, val_main_cst_10, val_main_v53, val_main_cst_9, val_main_cst_8]
  rfl

theorem s_at (b : Fin 4) (k : Fin 4) (s : Fin 4096) (m : Fin 256) :
    val_main_v67 (F := Ideal) x0 x1 x2 x3 x4 x5 x6 x7 x8 x9 x10 (ix4 b k s m)
      = (∑ d : Fin 128, val_main_v47 (F := Ideal) x0 x1 x2 x4 x5 x7 x9 (ix4 b s k d) * val_main_v62 (F := Ideal) x3 x6 x8 x10 (ix4 b m k d)) * scl := by
  unfold val_main_v67 val_main_v65
  generalize val_main_v47 (F := Ideal) x0 x1 x2 x4 x5 x7 x9 = Q
  generalize val_main_v62 (F := Ideal) x3 x6 x8 x10 = K
  pointwise [val_main_v66, val_main_cst_11]
  rfl

theorem most {n0 n1 n2 n3 : ℕ} (x : FVec Ideal ⟨4, ![n0, n1, n2, n3]⟩ .f32) (z : FVec Ideal S_ .f32) (h : (⟨4, ![n0, n1, n2, n3]⟩ : Shape).ReducesTo [3] ⟨3, ![n0, n1, n2]⟩)
    (hu : 0 < S_.numel) (c : EReal) (hz : z (Shape.Idx.first hu) = c) (f : Fin n3 → EReal) (i : Fin n0) (j : Fin n1) (k : Fin n2) (hf : ∀ l, x (ix4 i j k l) = f l) :
    (Host.reduce (FloatOps.maximumf (F := Ideal) (φ := .f32)) x z h hu (ix3 i j k) : EReal) = Finset.fold max c f Finset.univ := by
  obtain rfl : f = fun l => x (ix4 i j k l) := funext fun l => (hf l).symm
  subst hz
  simp only [pointwise]

theorem fold_at (X : FVec Ideal S4x4x4096x256 .f32) (b : Fin 4) (k : Fin 4) (s : Fin 4096) :
    (Host.reduce (FloatOps.maximumf (F := Ideal) (φ := .f32)) X (val_main_cst_12 (F := Ideal)) reducesTo_S4x4x4096x256_S4x4x4096_d3 h_S_ (ix3 b k s) : EReal) = top fun m => X (ix4 b k s m) := by
  have hz : val_main_cst_12 (F := Ideal) (Shape.Idx.first h_S_) = Ideal.ofBits .f32 0xFF800000#32 := rfl
  have := most X (val_main_cst_12 (F := Ideal)) reducesTo_S4x4x4096x256_S4x4x4096_d3 h_S_ (Ideal.ofBits .f32 0xFF800000#32) hz (fun m => X (ix4 b k s m)) b k s (fun _ => rfl)
  unfold top
  exact this

theorem t_at (b : Fin 4) (k : Fin 4) (s : Fin 4096) :
    val_main_v70 (F := Ideal) x0 x1 x2 x3 x4 x5 x6 x7 x8 x9 x10 (ix3 b k s)
      = top fun m => val_main_v67 (F := Ideal) x0 x1 x2 x3 x4 x5 x6 x7 x8 x9 x10 (ix4 b k s m) := by
  have h68 : (val_main_v68 (F := Ideal) x0 x1 x2 x3 x4 x5 x6 x7 x8 x9 x10 (ix3 b k s) : EReal) = top fun m => val_main_v67 (F := Ideal) x0 x1 x2 x3 x4 x5 x6 x7 x8 x9 x10 (ix4 b k s m) := by
    unfold val_main_v68
    exact fold_at _ b k s
  refine Eq.trans ?_ (max_top _)
  rw [← h68, val_main_v70_apply, val_main_v69_apply]
  generalize val_main_v68 (F := Ideal) x0 x1 x2 x3 x4 x5 x6 x7 x8 x9 x10 (ix3 b k s) = y
  rfl

theorem e_at (b : Fin 4) (k : Fin 4) (s : Fin 4096) (m : Fin 256) :
    val_main_v74 (F := Ideal) x0 x1 x2 x3 x4 x5 x6 x7 x8 x9 x10 (ix4 b k s m)
      = Ideal.exp (val_main_v67 (F := Ideal) x0 x1 x2 x3 x4 x5 x6 x7 x8 x9 x10 (ix4 b k s m) - val_main_v70 (F := Ideal) x0 x1 x2 x3 x4 x5 x6 x7 x8 x9 x10 (ix3 b k s)) := by
  unfold val_main_v74 val_main_v73 val_main_v72 val_main_v71
  generalize val_main_v67 (F := Ideal) x0 x1 x2 x3 x4 x5 x6 x7 x8 x9 x10 = X
  generalize val_main_v70 (F := Ideal) x0 x1 x2 x3 x4 x5 x6 x7 x8 x9 x10 = Y
  pointwise

theorem p_at (b : Fin 4) (k : Fin 4) (s : Fin 4096) (m : Fin 256) :
    val_main_v78 (F := Ideal) x0 x1 x2 x3 x4 x5 x6 x7 x8 x9 x10 (ix4 b k s m)
      = Ideal.div (val_main_v74 (F := Ideal) x0 x1 x2 x3 x4 x5 x6 x7 x8 x9 x10 (ix4 b k s m)) (∑ m' : Fin 256, val_main_v74 (F := Ideal) x0 x1 x2 x3 x4 x5 x6 x7 x8 x9 x10 (ix4 b k s m')) := by
  unfold val_main_v78 val_main_v77 val_main_v76 val_main_v75
  generalize val_main_v74 (F := Ideal) x0 x1 x2 x3 x4 x5 x6 x7 x8 x9 x10 = X
  pointwise [val_main_cst_14]

theorem o_at (b : Fin 4) (s : Fin 4096) (j : Fin 512) :
    val_main_v81 (F := Ideal) x0 x1 x2 x3 x4 x5 x6 x7 x8 x9 x10 (ix3 b s j)
      = cat (fun k l => ∑ m : Fin 256, val_main_v64 (F := Ideal) x3 x6 x8 (ix4 b m k l) * val_main_v78 (F := Ideal) x0 x1 x2 x3 x4 x5 x6 x7 x8 x9 x10 (ix4 b k s m)) j := by
  unfold val_main_v81 val_main_v80 val_main_v79
  generalize val_main_v64 (F := Ideal) x3 x6 x8 = V
  generalize val_main_v78 (F := Ideal) x0 x1 x2 x3 x4 x5 x6 x7 x8 x9 x10 = P
  pointwise
  rfl

theorem out_at (b : Fin 4) (s : Fin 4096) (l : Fin 1024) :
    val_main_v83 (F := Ideal) x0 x1 x2 x3 x4 x5 x6 x7 x8 x9 x10 x11 (ix3 b s l)
      = val_main_v4 (F := Ideal) x0 x1 x2 x4 (ix3 b s l) + proj (fun j => val_main_v81 (F := Ideal) x0 x1 x2 x3 x4 x5 x6 x7 x8 x9 x10 (ix3 b s j)) (fun j l => x11 (ix2 j l)) l := by
  unfold val_main_v83 val_main_v82
  generalize val_main_v81 (F := Ideal) x0 x1 x2 x3 x4 x5 x6 x7 x8 x9 x10 = O
  generalize val_main_v4 (F := Ideal) x0 x1 x2 x4 = X
  pointwise
  rfl

/-- The reference's result at an index. -/
theorem result_at (b : Fin 4) (s : Fin 4096) (l : Fin 1024) :
    val_main_v83 (F := Ideal) x0 x1 x2 x3 x4 x5 x6 x7 x8 x9 x10 x11 (ix3 b s l)
      = row (fun l => x0 (ix3 b s l)) (fun j => x1 (ix3 b s j)) (fun j => x2 (ix3 b s j)) (fun j l => x4 (ix2 ⟨j.val, by omega⟩ l)) (fun j l => x4 (ix2 ⟨512 + j.val, by omega⟩ l))
        (fun d => x5 (ix1 d)) (fun d j => x7 (ix2 d j)) (fun d => x9 (ix1 d))
        (fun k y d => key (fun d => x3 (ix3 b y d)) (fun d => x6 (ix1 d)) (fun d j => x8 (ix2 d j)) (fun d => x10 (ix1 d)) k d)
        (fun k y d => val (fun d => x3 (ix3 b y d)) (fun d => x6 (ix1 d)) (fun d j => x8 (ix2 d j)) k d)
        (fun j l => x11 (ix2 j l)) l := by
  rw [out_at]
  unfold row
  have hx : (fun l => val_main_v4 (F := Ideal) x0 x1 x2 x4 (ix3 b s l)) = _ := funext fun l => x1_at x0 x1 x2 x4 b s l
  rw [← hx]
  generalize hX : (fun l => val_main_v4 (F := Ideal) x0 x1 x2 x4 (ix3 b s l)) = X
  have hl : val_main_v4 (F := Ideal) x0 x1 x2 x4 (ix3 b s l) = X l := congrFun hX l
  have hs : ∀ k m, val_main_v67 (F := Ideal) x0 x1 x2 x3 x4 x5 x6 x7 x8 x9 x10 (ix4 b k s m)
      = scores (query (proj (nrm c1024 X fun d => x5 (ix1 d)) fun d j => x7 (ix2 d j)) (fun d => x9 (ix1 d)) k)
        ((fun k y d => key (fun d => x3 (ix3 b y d)) (fun d => x6 (ix1 d)) (fun d j => x8 (ix2 d j)) (fun d => x10 (ix1 d)) k d) k) m := by
    intro k m
    obtain ⟨r, hr, he⟩ := scl_real
    rw [s_at, he, sum_mul _ r hr]
    unfold scores query
    refine Finset.sum_congr rfl fun d _ => ?_
    rw [he, mul_right_comm, qn_at, kn_at]
    simp only [q_at, xn_at, hX, k0_at, kv_at]
    rfl
  rw [hl]
  unfold MidSpec.x2
  refine congrArg (X l + ·) (Finset.sum_congr rfl fun j _ => congrArg (· * x11 (ix2 j l)) ?_)
  show val_main_v81 (F := Ideal) x0 x1 x2 x3 x4 x5 x6 x7 x8 x9 x10 (ix3 b s j) = _
  rw [o_at]
  unfold cat head att
  refine Finset.sum_congr rfl fun m _ => ?_
  rw [mul_comm, p_at, v0_at, kv_at]
  simp only [e_at, t_at, hs]
  rfl

end Cert.MidRef
-- ==== Proof.Mid.lean ====
/- The claims over the second program: its frames, and that it computes its reference. -/
module

public import proofs.«01_k».proof.Defs
public import proofs.«01_k».proof.Proof.Gen.Kernel2.Frame
public import proofs.«01_k».proof.Proof.Gen.Kernel2Ideal.Frame
public import proofs.«01_k».proof.Proof.MidRun
public import proofs.«01_k».proof.Proof.MidVal
public import proofs.«01_k».proof.Proof.MidRef

@[expose] public section

set_option maxRecDepth 16384

noncomputable section

namespace Cert.Mid

open Idealize.ShloMosaic Idealize.ShloMosaic.TcCoe Idealize.ShloMosaic.Tactic

attribute [local instance] Cert.Kernel2.Gen.facts Cert.Kernel2Ideal.Gen.facts Cert.Reference2Ideal.Gen.facts

theorem frame_p : Cert.quiescent_Kernel2 := fun m ρ _ => Cert.Kernel2.Gen.frame m ρ

theorem frame_pi : Cert.quiescent_Kernel2Ideal := fun m ρ _ => Cert.Kernel2Ideal.Gen.frame m ρ

set_option maxHeartbeats 4000000 in
theorem frame_r : Cert.quiescent_Reference2Ideal := by
  intro m g _
  hlo_run
  · exact fun _ => ⟨trivial, trivial, trivial, trivial, trivial, trivial, trivial, trivial, trivial, trivial, trivial, trivial, trivial, trivial, trivial⟩
  · exact sem_eq_zero_of_no_sems (sig := Cert.Reference2Ideal.sig) (by decide) _

section Value

open Cert.Kernel2Ideal Cert.MidVal

/-- The reference's result, of the program's arguments. -/
def want (m : (ℓ : Loc nD τ sig) → Buf (Elt Ideal) ℓ) (c : Dev nD) : S4x4096x1024.Idx → EReal :=
  Cert.Reference2Ideal.Read.val_main_v83 (F := Ideal) (A0 m c) (A1 m c) (A2 m c) (A3 m c) (A4 m c) (A5 m c) (A6 m c) (A7 m c) (A8 m c) (A9 m c) (A10 m c) (A11 m c)

theorem eq_want (m : (ℓ : Loc nD τ sig) → Buf (Elt Ideal) ℓ) (ρ : Dev nD → PrngReg) (c : Dev nD) :
    (Cert.Kernel2Ideal.Gen.W5 m ρ c (Proc.devRef .tc main_v14) : S4x4096x1024.Idx → EReal) = want m c := by
  funext i
  obtain ⟨b, s, l, rfl⟩ : ∃ (b : Fin 4) (s : Fin 4096) (l : Fin 1024), i = ix3 b s l := ⟨i 0, i 1, i 2, by funext a; fin_cases a <;> rfl⟩
  exact (result_at m ρ c b s l).trans (Cert.MidRef.result_at (A0 m c) (A1 m c) (A2 m c) (A3 m c) (A4 m c) (A5 m c) (A6 m c) (A7 m c) (A8 m c) (A9 m c) (A10 m c) (A11 m c) b s l).symm

end Value

theorem value : Cert.algebraic_Kernel2Ideal_Reference2Ideal := by
  intro m g m' g' _ hagree
  refine ⟨fun c => want m c, ?_, ?_⟩
  · refine (θ_run Cert.Kernel2Ideal.defs _ _).mono (fun r hr c => ⟨?_, (hr c).2⟩) (Cert.MidRun.run2 (F := Ideal) m g)
    exact (hr c).1.trans (eq_want m g c)
  · refine (θ_run Cert.Reference2Ideal.defs _ _).mono (fun r hr c => ⟨?_, (hr c).2⟩) (Cert.Reference2Ideal.Value.run (F := Ideal) m' g')
    obtain ⟨h0, h1, h2, h3, h4, h5, h6, h7, h8, h9, h10, h11, -⟩ := hagree c
    refine (hr c).1.trans ?_
    rw [Cert.Reference2Ideal.Read.val_main_v83_eq, h0, h1, h2, h3, h4, h5, h6, h7, h8, h9, h10, h11]
    rfl

end Cert.Mid
-- ==== Proof.ProjSpec.lean ====
/- What the projections compute, of a row. -/
module

public import proofs.«01_k».proof.Proof.MidSpec

@[expose] public section

noncomputable section

namespace Cert.ProjSpec

open Idealize.ShloMosaic Cert.MidSpec

/-- The constant 64. -/
def c64 : EReal := Ideal.ofBits .f32 0x42800000#32

/-- The halves of a head exchanged. -/
def sw (z : Fin 64 → EReal) (d : Fin 64) : EReal := if h : d.val < 32 then z ⟨32 + d.val, by omega⟩ else z ⟨d.val - 32, by omega⟩

/-- A head turned by its position. -/
def rope (z cs sn : Fin 64 → EReal) (d : Fin 64) : EReal := z d * cs d + sw z d * sn d

/-- A head's 64 columns. -/
def hd8 (k : Fin 8) (q : Fin 512 → EReal) (d : Fin 64) : EReal := q ⟨64 * k.val + d.val, by omega⟩

/-- The sign of a half. -/
def sgn (d : Fin 64) : EReal := if d.val < 32 then -1 else 1

/-- Columns `o …` of the row times the weights. -/
def cols (h : Fin 1024 → EReal) (w : Fin 1024 → Fin 2632 → EReal) (o n : ℕ) (ho : o + n ≤ 2632) (d : Fin n) : EReal :=
  ∑ x : Fin 1024, h x * w x ⟨o + d.val, by omega⟩

end Cert.ProjSpec
-- ==== Proof.ProjBody.lean ====
/- The arithmetic of the projections, at an index. -/
module

public import proofs.«01_k».proof.Proof.Gen.Kernel3Ideal.Skeleton
public import proofs.«01_k».proof.Proof.ProjSpec
public import Idealize.ShloMosaic.Lib.Pointwise
public import Idealize.ShloMosaic.Lib.Affine

@[expose] public section

set_option maxRecDepth 16384

noncomputable section

namespace Cert.ProjBody

open Idealize.ShloMosaic Idealize.ShloMosaic.TcCoe
open Cert.Kernel3Ideal Cert.Kernel3Ideal.Gen Cert.MidSpec Cert.ProjSpec

variable (x : Vec Ideal S1x1024x1024 .f32) (g : Vec Ideal S1x1024 .f32) (cs sn gk : FVec Ideal S64x1024 .f32) (r : Fin 1024)

theorem h_at (l : Fin 1024) : k0_pay2 x g (ix2 r l) = nrm c1024 (fun l => x (ix3 0 r l)) (fun d => g (ix2 0 d)) l := by
  pointwise [k0_pay2]
  rfl

theorem cs_at (d : Fin 64) : k0_pay3 cs (ix2 d r) = cs (ix2 d r) := by
  pointwise [k0_pay3]

theorem sn_at (d : Fin 64) : k0_pay4 sn (ix2 d r) = sn (ix2 d r) := by
  pointwise [k0_pay4]

variable (h : FVec Ideal S1024x1024 .bf16) (w : Vec Ideal S512x1024 .bf16) (z : FVec Ideal S512x1024 .f32) (d : Fin 64)

theorem zk_at (j : Fin 512) : k0_pay36 h w (ix2 j r) = ∑ x : Fin 1024, w (ix2 j x) * h (ix2 r x) := by
  pointwise [k0_pay36]

theorem zq_at (j : Fin 512) : k0_pay58 h w (ix2 j r) = ∑ x : Fin 1024, w (ix2 j x) * h (ix2 r x) := by
  pointwise [k0_pay58]

theorem zv_at (j : Fin 512) : k0_pay55 h w (ix2 j r) = ∑ x : Fin 1024, w (ix2 j x) * h (ix2 r x) := by
  pointwise [k0_pay55]

theorem v0_at (j : Fin 512) (y : Fin 512) : k0_pay56 h w (ix4 0 0 j y) = k0_pay55 h w (ix2 j ⟨y.val, by omega⟩) := by
  unfold k0_pay56
  generalize k0_pay55 h w = X
  pointwise

theorem v1_at (j : Fin 512) (y : Fin 512) : k0_pay57 h w (ix4 0 0 j y) = k0_pay55 h w (ix2 j ⟨512 + y.val, by omega⟩) := by
  unfold k0_pay57
  generalize k0_pay55 h w = X
  pointwise

theorem zi_at (w : Vec Ideal S144x1024 .bf16) (j : Fin 144) : k0_pay67 h w (ix2 j r) = ∑ x : Fin 1024, w (ix2 j x) * h (ix2 r x) := by
  pointwise [k0_pay67]

theorem ki_at (w : Vec Ideal S144x1024 .bf16) :
    k0_pay68 h cs sn w gk (ix3 0 r ⟨d.val, by omega⟩) = rope (nrm c64 (fun d => k0_pay67 h w (ix2 ⟨d.val, by omega⟩ r)) (fun d => gk (ix2 d r))) (fun d => cs (ix2 d r)) (fun d => sn (ix2 d r)) d := by
  unfold k0_pay68
  generalize k0_pay67 h w = X
  pointwise
  unfold rope sw
  rfl

theorem k_at (u : Vec Ideal S512x1024 .f32) (j : Fin 512) : k0_pay54 u (ix3 0 r j) = u (ix2 j r) := by
  pointwise [k0_pay54]

theorem hd0 (q : Fin 512 → EReal) (d : Fin 64) : hd8 0 q d = q ⟨d.val, by omega⟩ :=
  congrArg q (Fin.ext (by show 64 * 0 + d.val = d.val; omega))

theorem q0_at : k0_pay59 cs sn z (ix3 0 d r) = rope (hd8 0 fun j => z (ix2 j r)) (fun d => cs (ix2 d r)) (fun d => sn (ix2 d r)) d := by
  pointwise [k0_pay59]
  unfold rope sw
  simp only [hd0]

theorem q1_at : k0_pay60 cs sn z (ix3 0 d r) = rope (hd8 1 fun j => z (ix2 j r)) (fun d => cs (ix2 d r)) (fun d => sn (ix2 d r)) d := by
  pointwise [k0_pay60]
  unfold rope sw
  rfl

theorem q2_at : k0_pay61 cs sn z (ix3 0 d r) = rope (hd8 2 fun j => z (ix2 j r)) (fun d => cs (ix2 d r)) (fun d => sn (ix2 d r)) d := by
  pointwise [k0_pay61]
  unfold rope sw
  rfl

theorem q3_at : k0_pay62 cs sn z (ix3 0 d r) = rope (hd8 3 fun j => z (ix2 j r)) (fun d => cs (ix2 d r)) (fun d => sn (ix2 d r)) d := by
  pointwise [k0_pay62]
  unfold rope sw
  rfl

theorem q4_at : k0_pay63 cs sn z (ix3 0 d r) = rope (hd8 4 fun j => z (ix2 j r)) (fun d => cs (ix2 d r)) (fun d => sn (ix2 d r)) d := by
  pointwise [k0_pay63]
  unfold rope sw
  rfl

theorem q5_at : k0_pay64 cs sn z (ix3 0 d r) = rope (hd8 5 fun j => z (ix2 j r)) (fun d => cs (ix2 d r)) (fun d => sn (ix2 d r)) d := by
  pointwise [k0_pay64]
  unfold rope sw
  rfl

theorem q6_at : k0_pay65 cs sn z (ix3 0 d r) = rope (hd8 6 fun j => z (ix2 j r)) (fun d => cs (ix2 d r)) (fun d => sn (ix2 d r)) d := by
  pointwise [k0_pay65]
  unfold rope sw
  rfl

theorem q7_at : k0_pay66 cs sn z (ix3 0 d r) = rope (hd8 7 fun j => z (ix2 j r)) (fun d => cs (ix2 d r)) (fun d => sn (ix2 d r)) d := by
  pointwise [k0_pay66]
  unfold rope sw
  rfl

theorem k0_at : k0_pay40 sn (k0_pay38 h gk w) (k0_pay39 h cs gk w) (ix2 d r) = rope (nrm c64 (hd8 0 fun j => k0_pay36 h w (ix2 j r)) (fun d => gk (ix2 d r))) (fun d => cs (ix2 d r)) (fun d => sn (ix2 d r)) d := by
  unfold k0_pay40 k0_pay38 k0_pay39 k0_pay37
  generalize k0_pay36 h w = X
  pointwise
  unfold rope sw nrm
  simp only [hd0]
  rfl

theorem k1_at : k0_pay41 cs sn gk z (ix2 d r) = rope (nrm c64 (hd8 1 fun j => z (ix2 j r)) (fun d => gk (ix2 d r))) (fun d => cs (ix2 d r)) (fun d => sn (ix2 d r)) d := by
  pointwise [k0_pay41]
  unfold rope sw
  rfl

theorem k2_at : k0_pay43 (k0_pay42 cs sn gk z) (ix2 d r) = rope (nrm c64 (hd8 2 fun j => z (ix2 j r)) (fun d => gk (ix2 d r))) (fun d => cs (ix2 d r)) (fun d => sn (ix2 d r)) d := by
  pointwise [k0_pay43, k0_pay42]
  unfold rope sw
  rfl

theorem k3_at : k0_pay44 cs sn gk z (ix2 d r) = rope (nrm c64 (hd8 3 fun j => z (ix2 j r)) (fun d => gk (ix2 d r))) (fun d => cs (ix2 d r)) (fun d => sn (ix2 d r)) d := by
  pointwise [k0_pay44]
  unfold rope sw
  rfl

theorem k4_at : k0_pay45 cs sn gk z (ix2 d r) = rope (nrm c64 (hd8 4 fun j => z (ix2 j r)) (fun d => gk (ix2 d r))) (fun d => cs (ix2 d r)) (fun d => sn (ix2 d r)) d := by
  pointwise [k0_pay45]
  unfold rope sw
  rfl

theorem k5_at : k0_pay48 cs sn gk (k0_pay46 z) (k0_pay47 z) (ix2 d r) = rope (nrm c64 (hd8 5 fun j => z (ix2 j r)) (fun d => gk (ix2 d r))) (fun d => cs (ix2 d r)) (fun d => sn (ix2 d r)) d := by
  pointwise [k0_pay48, k0_pay46, k0_pay47]
  unfold rope sw
  rfl

theorem k6_at : k0_pay49 cs sn gk z (ix2 d r) = rope (nrm c64 (hd8 6 fun j => z (ix2 j r)) (fun d => gk (ix2 d r))) (fun d => cs (ix2 d r)) (fun d => sn (ix2 d r)) d := by
  pointwise [k0_pay49]
  unfold rope sw
  rfl

theorem k7_at : k0_pay53 cs sn gk (k0_pay50 z) (k0_pay51 z) k0_pay52 (ix2 d r) = rope (nrm c64 (hd8 7 fun j => z (ix2 j r)) (fun d => gk (ix2 d r))) (fun d => cs (ix2 d r)) (fun d => sn (ix2 d r)) d := by
  pointwise [k0_pay53, k0_pay50, k0_pay51, k0_pay52]
  unfold rope sw
  rfl

theorem gk_at : k0_pay20 gk = gk := by
  funext i
  obtain ⟨a, b, rfl⟩ : ∃ a b, i = ix2 a b := ⟨i 0, i 1, eq_ix2 i⟩
  pointwise [k0_pay20]

end Cert.ProjBody
-- ==== Proof.ProjOut.lean ====
/- What the projections' call leaves in a block, at an index. -/
module

public import proofs.«01_k».proof.Proof.ProjBody
public import proofs.«01_k».proof.Proof.Gen.Kernel3Ideal.Frame
public import Idealize.ShloMosaic.Lib.Pipeline.ValueKit

@[expose] public section

set_option maxRecDepth 16384

noncomputable section

namespace Cert.ProjOut

open Idealize.ShloMosaic Idealize.ShloMosaic.TcCoe
open Cert.Kernel3Ideal Cert.Kernel3Ideal.Gen Cert.MidSpec Cert.ProjSpec Cert.ProjBody

/-- A row, normalized. -/
def hrow (X0 : Vec Ideal S1x1024x1024 .f32) (X1 : Vec Ideal S1x1024 .f32) (r : Fin 1024) : Fin 1024 → EReal := nrm c1024 (fun l => X0 (ix3 0 r l)) (fun d => X1 (ix2 0 d))

/-- Rows `o …` of the weights times the row. -/
def zrow (W : Vec Ideal S2192x1024 .bf16) (h : Fin 1024 → EReal) (o n : ℕ) (ho : o + n ≤ 2192) (j : Fin n) : EReal :=
  ∑ x : Fin 1024, W (ix2 ⟨o + j.val, by omega⟩ x) * h x

/-- A column of a table. -/
def tcol (T : Vec Ideal S64x1024 .f32) (r : Fin 1024) (d : Fin 64) : EReal := T (ix2 d r)

variable (X0 : Vec Ideal S1x1024x1024 .f32) (X1 : Vec Ideal S1x1024 .f32) (X3 : Vec Ideal S2192x1024 .bf16) (X7 X8 X9 X10 : Vec Ideal S64x1024 .f32) (r : Fin 1024)

theorem ld_at (o n : ℕ) (ho : o + n ≤ 2192) (inb) (j : Fin n) (y : Fin 1024) :
    View.ld (Val := Elt Ideal) (e' := .bf16) X3 (Rect.unit (s := S2192x1024) ![o, 0] ![n, 1024] inb) (ix2 j y) = X3 (ix2 ⟨o + j.val, by omega⟩ y) := by
  refine congrArg X3 (funext fun i => Fin.ext ?_)
  match i with
  | 0 => show o + 1 * j.val = o + j.val; omega
  | 1 => show 0 + 1 * y.val = y.val; omega

theorem sum_of (o n : ℕ) (ho : o + n ≤ 2192) (inb) (j : Fin n) :
    (∑ x : Fin 1024, View.ld (Val := Elt Ideal) (e' := .bf16) X3 (Rect.unit (s := S2192x1024) ![o, 0] ![n, 1024] inb) (ix2 j x) * k0_pay2 X0 X1 (ix2 r x) : EReal)
      = zrow X3 (hrow X0 X1 r) o n ho j :=
  Finset.sum_congr rfl fun x _ => congrArg₂ (· * ·) (ld_at X3 o n ho inb j x) (h_at X0 X1 r x)

theorem zk_of : (fun j => k0_pay36 (k0_pay2 X0 X1) (View.ld X3 (Rect.unit ![512, 0] ![512, 1024] inb_S2192x1024_S512x1024_512_0)) (ix2 j r)) = zrow X3 (hrow X0 X1 r) 512 512 (by omega) :=
  funext fun j => (zk_at _ _ _ _).trans (sum_of X0 X1 X3 r 512 512 _ _ j)

theorem zv_of : (fun j => k0_pay55 (k0_pay2 X0 X1) (View.ld X3 (Rect.unit ![1024, 0] ![512, 1024] inb_S2192x1024_S512x1024_1024_0)) (ix2 j r)) = zrow X3 (hrow X0 X1 r) 1024 512 (by omega) :=
  funext fun j => (zv_at _ _ _ _).trans (sum_of X0 X1 X3 r 1024 512 _ _ j)

theorem zq_of : (fun j => k0_pay58 (k0_pay2 X0 X1) (View.ld X3 (Rect.unit ![1536, 0] ![512, 1024] inb_S2192x1024_S512x1024_1536_0)) (ix2 j r)) = zrow X3 (hrow X0 X1 r) 1536 512 (by omega) :=
  funext fun j => (zq_at _ _ _ _).trans (sum_of X0 X1 X3 r 1536 512 _ _ j)

theorem zi_of : (fun j : Fin 64 => k0_pay67 (k0_pay2 X0 X1) (View.ld X3 (Rect.unit ![2048, 0] ![144, 1024] inb_S2192x1024_S144x1024_2048_0)) (ix2 ⟨j.val, by omega⟩ r)) = zrow X3 (hrow X0 X1 r) 2048 64 (by omega) :=
  funext fun j => (zi_at _ _ _ _).trans (sum_of X0 X1 X3 r 2048 144 (by omega) _ ⟨j.val, by omega⟩)

theorem cs_of : (fun d => k0_pay3 X9 (ix2 d r)) = tcol X9 r := funext fun d => cs_at _ _ _
theorem sn_of : (fun d => k0_pay4 X10 (ix2 d r)) = tcol X10 r := funext fun d => sn_at _ _ _
theorem gk_of : (fun d => k0_pay20 X7 (ix2 d r)) = tcol X7 r := funext fun d => congrFun (gk_at _) _

theorem ki_of (d : Fin 64) :
    k0_pay68 (k0_pay2 X0 X1) (k0_pay3 X9) (k0_pay4 X10) (View.ld X3 (Rect.unit ![2048, 0] ![144, 1024] inb_S2192x1024_S144x1024_2048_0)) X8 (ix3 0 r ⟨d.val, by omega⟩)
      = rope (nrm c64 (zrow X3 (hrow X0 X1 r) 2048 64 (by omega)) (tcol X8 r)) (tcol X9 r) (tcol X10 r) d := by
  refine (ki_at _ _ _ _ _ _ _).trans ?_
  rw [zi_of, cs_of, sn_of]
  rfl

theorem mod_at (f : Fin 8 → Fin 64 → EReal) (k : Fin 8) (d : Fin 64) (j : ℕ) (hj : j < 512) (h : j = 64 * k.val + d.val) :
    f k d = f ⟨j / 64, by omega⟩ ⟨j % 64, by omega⟩ := by
  have hd := d.isLt
  have h1 : k = ⟨j / 64, by omega⟩ := Fin.ext (by show k.val = j / 64; omega)
  have h2 : d = ⟨j % 64, by omega⟩ := Fin.ext (by show d.val = j % 64; omega)
  exact congrArg₂ f h1 h2

theorem qtile (f : Fin 8 → Fin 64 → EReal) (k : Fin 8) (j : Fin 512) (o : ℕ) (ho : o = 64 * k.val) (w : S1x64x1024.Idx → EReal) (hw : ∀ d, w (ix3 0 d r) = f k d) :
    View.TileAt (Val := Elt Ideal) (e := .bf16) (S := S1x512x1024) (ix3 0 j r) ![0, o, 0] ![1, 64, 1024] w (f ⟨j.val / 64, by omega⟩ ⟨j.val % 64, by omega⟩) := by
  intro x hx
  obtain ⟨a, d, b, rfl⟩ : ∃ a d b, x = ix3 a d b := ⟨x 0, x 1, x 2, (eq_ix3 x)⟩
  have h1 : j.val = o + d.val := hx 1
  have h2 : r.val = 0 + b.val := hx 2
  have ha : a = 0 := Fin.ext (by have := a.isLt; omega)
  have hb : b = r := Fin.ext (by omega)
  subst ha hb
  exact (hw d).trans (mod_at f k d j.val j.isLt (by omega))

theorem ktile (f : Fin 8 → Fin 64 → EReal) (k : Fin 8) (j : Fin 512) (o : ℕ) (ho : o = 64 * k.val) (w : S64x1024.Idx → EReal) (hw : ∀ d, w (ix2 d r) = f k d) :
    View.TileAt (Val := Elt Ideal) (e := .f32) (S := S512x1024) (ix2 j r) ![o, 0] ![64, 1024] w (f ⟨j.val / 64, by omega⟩ ⟨j.val % 64, by omega⟩) := by
  intro x hx
  obtain ⟨d, b, rfl⟩ : ∃ d b, x = ix2 d b := ⟨x 0, x 1, (eq_ix2 x)⟩
  have h1 : j.val = o + d.val := hx 0
  have h2 : r.val = 0 + b.val := hx 1
  have hb : b = r := Fin.ext (by omega)
  subst hb
  exact (hw d).trans (mod_at f k d j.val j.isLt (by omega))

/-- The stores of the values. -/
def vList : List (View.Piece (Elt Ideal) S1x2x512x512 .bf16) :=
  [⟨Rect.unit ![0, 1, 0, 0] ![1, 1, 512, 512] inb_S1x2x512x512_S1x1x512x512_0_1_0_0, k0_pay57 (k0_pay2 X0 X1) (View.ld X3 (Rect.unit ![1024, 0] ![512, 1024] inb_S2192x1024_S512x1024_1024_0))⟩,
   ⟨Rect.unit ![0, 0, 0, 0] ![1, 1, 512, 512] inb_S1x2x512x512_S1x1x512x512_0_0_0_0, k0_pay56 (k0_pay2 X0 X1) (View.ld X3 (Rect.unit ![1024, 0] ![512, 1024] inb_S2192x1024_S512x1024_1024_0))⟩]

theorem v_of (a : Fin 2) (j y : Fin 512) : View.canon (vList X0 X1 X3) (ix4 0 a j y) = zrow X3 (hrow X0 X1 ⟨512 * a.val + y.val, by omega⟩) 1024 512 (by omega) j := by
  refine View.canon_eq_of_allAt _ _ _ (View.cover_of_tiled_head _ _ _ rfl _) ?_
  unfold vList
  refine View.allAt_cons_unit _ _ _ _ _ ?_ (View.allAt_cons_unit _ _ _ _ _ ?_ (View.allAt_nil _ _))
  · intro x hx
    obtain ⟨p, q, d, b, rfl⟩ : ∃ p q d b, x = ix4 p q d b := ⟨x 0, x 1, x 2, x 3, (eq_ix4 x)⟩
    have h1 : a.val = 1 + q.val := hx 1
    have h2 : j.val = 0 + d.val := hx 2
    have h3 : y.val = 0 + b.val := hx 3
    have hp : p = 0 := Fin.ext (by have := p.isLt; omega)
    have hq : q = 0 := Fin.ext (by have := q.isLt; omega)
    have hd : d = j := Fin.ext (by omega)
    have hb : b = y := Fin.ext (by omega)
    subst hp hq hd hb
    refine (v1_at _ _ _ _).trans ((congrFun (zv_of X0 X1 X3 _) d).trans ?_)
    exact congrArg (fun r => zrow X3 (hrow X0 X1 r) 1024 512 (by omega) d) (Fin.ext (by show 512 + b.val = 512 * a.val + b.val; omega))
  · intro x hx
    obtain ⟨p, q, d, b, rfl⟩ : ∃ p q d b, x = ix4 p q d b := ⟨x 0, x 1, x 2, x 3, (eq_ix4 x)⟩
    have h1 : a.val = 0 + q.val := hx 1
    have h2 : j.val = 0 + d.val := hx 2
    have h3 : y.val = 0 + b.val := hx 3
    have hp : p = 0 := Fin.ext (by have := p.isLt; omega)
    have hq : q = 0 := Fin.ext (by have := q.isLt; omega)
    have hd : d = j := Fin.ext (by omega)
    have hb : b = y := Fin.ext (by omega)
    subst hp hq hd hb
    refine (v0_at _ _ _ _).trans ((congrFun (zv_of X0 X1 X3 _) d).trans ?_)
    exact congrArg (fun r => zrow X3 (hrow X0 X1 r) 1024 512 (by omega) d) (Fin.ext (by show b.val = 512 * a.val + b.val; have : (0 : Fin 1).val = 0 := rfl; omega))

/-- The stores of the index queries. -/
def qList : List (View.Piece (Elt Ideal) S1x512x1024 .bf16) :=
  [⟨Rect.unit ![0, 448, 0] ![1, 64, 1024] inb_S1x512x1024_S1x64x1024_0_448_0, k0_pay66 (k0_pay3 X9) (k0_pay4 X10) (k0_pay58 (k0_pay2 X0 X1) (View.ld X3 (Rect.unit ![1536, 0] ![512, 1024] inb_S2192x1024_S512x1024_1536_0)))⟩,
   ⟨Rect.unit ![0, 384, 0] ![1, 64, 1024] inb_S1x512x1024_S1x64x1024_0_384_0, k0_pay65 (k0_pay3 X9) (k0_pay4 X10) (k0_pay58 (k0_pay2 X0 X1) (View.ld X3 (Rect.unit ![1536, 0] ![512, 1024] inb_S2192x1024_S512x1024_1536_0)))⟩,
   ⟨Rect.unit ![0, 320, 0] ![1, 64, 1024] inb_S1x512x1024_S1x64x1024_0_320_0, k0_pay64 (k0_pay3 X9) (k0_pay4 X10) (k0_pay58 (k0_pay2 X0 X1) (View.ld X3 (Rect.unit ![1536, 0] ![512, 1024] inb_S2192x1024_S512x1024_1536_0)))⟩,
   ⟨Rect.unit ![0, 256, 0] ![1, 64, 1024] inb_S1x512x1024_S1x64x1024_0_256_0, k0_pay63 (k0_pay3 X9) (k0_pay4 X10) (k0_pay58 (k0_pay2 X0 X1) (View.ld X3 (Rect.unit ![1536, 0] ![512, 1024] inb_S2192x1024_S512x1024_1536_0)))⟩,
   ⟨Rect.unit ![0, 192, 0] ![1, 64, 1024] inb_S1x512x1024_S1x64x1024_0_192_0, k0_pay62 (k0_pay3 X9) (k0_pay4 X10) (k0_pay58 (k0_pay2 X0 X1) (View.ld X3 (Rect.unit ![1536, 0] ![512, 1024] inb_S2192x1024_S512x1024_1536_0)))⟩,
   ⟨Rect.unit ![0, 128, 0] ![1, 64, 1024] inb_S1x512x1024_S1x64x1024_0_128_0, k0_pay61 (k0_pay3 X9) (k0_pay4 X10) (k0_pay58 (k0_pay2 X0 X1) (View.ld X3 (Rect.unit ![1536, 0] ![512, 1024] inb_S2192x1024_S512x1024_1536_0)))⟩,
   ⟨Rect.unit ![0, 64, 0] ![1, 64, 1024] inb_S1x512x1024_S1x64x1024_0_64_0, k0_pay60 (k0_pay3 X9) (k0_pay4 X10) (k0_pay58 (k0_pay2 X0 X1) (View.ld X3 (Rect.unit ![1536, 0] ![512, 1024] inb_S2192x1024_S512x1024_1536_0)))⟩,
   ⟨Rect.unit ![0, 0, 0] ![1, 64, 1024] inb_S1x512x1024_S1x64x1024_0_0_0, k0_pay59 (k0_pay3 X9) (k0_pay4 X10) (k0_pay58 (k0_pay2 X0 X1) (View.ld X3 (Rect.unit ![1536, 0] ![512, 1024] inb_S2192x1024_S512x1024_1536_0)))⟩]

theorem qi_of (j : Fin 512) : View.canon (qList X0 X1 X3 X9 X10) (ix3 0 j r)
    = rope (hd8 ⟨j.val / 64, by omega⟩ (zrow X3 (hrow X0 X1 r) 1536 512 (by omega))) (tcol X9 r) (tcol X10 r) ⟨j.val % 64, by omega⟩ := by
  refine View.canon_eq_of_allAt _ _ _ (View.cover_of_tiled_head _ _ _ rfl _) ?_
  unfold qList
  have T := qtile r (fun k d => rope (hd8 k (zrow X3 (hrow X0 X1 r) 1536 512 (by omega))) (tcol X9 r) (tcol X10 r) d)
  refine View.allAt_cons_unit _ _ _ _ _ (T 7 j 448 rfl _ fun d => (q7_at _ _ _ _ _).trans (by rw [zq_of, cs_of, sn_of])) ?_
  refine View.allAt_cons_unit _ _ _ _ _ (T 6 j 384 rfl _ fun d => (q6_at _ _ _ _ _).trans (by rw [zq_of, cs_of, sn_of])) ?_
  refine View.allAt_cons_unit _ _ _ _ _ (T 5 j 320 rfl _ fun d => (q5_at _ _ _ _ _).trans (by rw [zq_of, cs_of, sn_of])) ?_
  refine View.allAt_cons_unit _ _ _ _ _ (T 4 j 256 rfl _ fun d => (q4_at _ _ _ _ _).trans (by rw [zq_of, cs_of, sn_of])) ?_
  refine View.allAt_cons_unit _ _ _ _ _ (T 3 j 192 rfl _ fun d => (q3_at _ _ _ _ _).trans (by rw [zq_of, cs_of, sn_of])) ?_
  refine View.allAt_cons_unit _ _ _ _ _ (T 2 j 128 rfl _ fun d => (q2_at _ _ _ _ _).trans (by rw [zq_of, cs_of, sn_of])) ?_
  refine View.allAt_cons_unit _ _ _ _ _ (T 1 j 64 rfl _ fun d => (q1_at _ _ _ _ _).trans (by rw [zq_of, cs_of, sn_of])) ?_
  refine View.allAt_cons_unit _ _ _ _ _ (T 0 j 0 rfl _ fun d => (q0_at _ _ _ _ _).trans (by rw [zq_of, cs_of, sn_of])) ?_
  exact View.allAt_nil _ _

/-- The stores of the keys, transposed. -/
def kList : List (View.Piece (Elt Ideal) S512x1024 .f32) :=
  [⟨Rect.unit ![448, 0] ![64, 1024] inb_S512x1024_S64x1024_448_0, k0_pay53 (k0_pay3 X9) (k0_pay4 X10) (k0_pay20 X7) (k0_pay50 (k0_pay36 (k0_pay2 X0 X1) (View.ld X3 (Rect.unit ![512, 0] ![512, 1024] inb_S2192x1024_S512x1024_512_0)))) (k0_pay51 (k0_pay36 (k0_pay2 X0 X1) (View.ld X3 (Rect.unit ![512, 0] ![512, 1024] inb_S2192x1024_S512x1024_512_0)))) k0_pay52⟩,
   ⟨Rect.unit ![384, 0] ![64, 1024] inb_S512x1024_S64x1024_384_0, k0_pay49 (k0_pay3 X9) (k0_pay4 X10) (k0_pay20 X7) (k0_pay36 (k0_pay2 X0 X1) (View.ld X3 (Rect.unit ![512, 0] ![512, 1024] inb_S2192x1024_S512x1024_512_0)))⟩,
   ⟨Rect.unit ![320, 0] ![64, 1024] inb_S512x1024_S64x1024_320_0, k0_pay48 (k0_pay3 X9) (k0_pay4 X10) (k0_pay20 X7) (k0_pay46 (k0_pay36 (k0_pay2 X0 X1) (View.ld X3 (Rect.unit ![512, 0] ![512, 1024] inb_S2192x1024_S512x1024_512_0)))) (k0_pay47 (k0_pay36 (k0_pay2 X0 X1) (View.ld X3 (Rect.unit ![512, 0] ![512, 1024] inb_S2192x1024_S512x1024_512_0))))⟩,
   ⟨Rect.unit ![256, 0] ![64, 1024] inb_S512x1024_S64x1024_256_0, k0_pay45 (k0_pay3 X9) (k0_pay4 X10) (k0_pay20 X7) (k0_pay36 (k0_pay2 X0 X1) (View.ld X3 (Rect.unit ![512, 0] ![512, 1024] inb_S2192x1024_S512x1024_512_0)))⟩,
   ⟨Rect.unit ![192, 0] ![64, 1024] inb_S512x1024_S64x1024_192_0, k0_pay44 (k0_pay3 X9) (k0_pay4 X10) (k0_pay20 X7) (k0_pay36 (k0_pay2 X0 X1) (View.ld X3 (Rect.unit ![512, 0] ![512, 1024] inb_S2192x1024_S512x1024_512_0)))⟩,
   ⟨Rect.unit ![128, 0] ![64, 1024] inb_S512x1024_S64x1024_128_0, k0_pay43 (k0_pay42 (k0_pay3 X9) (k0_pay4 X10) (k0_pay20 X7) (k0_pay36 (k0_pay2 X0 X1) (View.ld X3 (Rect.unit ![512, 0] ![512, 1024] inb_S2192x1024_S512x1024_512_0))))⟩,
   ⟨Rect.unit ![64, 0] ![64, 1024] inb_S512x1024_S64x1024_64_0, k0_pay41 (k0_pay3 X9) (k0_pay4 X10) (k0_pay20 X7) (k0_pay36 (k0_pay2 X0 X1) (View.ld X3 (Rect.unit ![512, 0] ![512, 1024] inb_S2192x1024_S512x1024_512_0)))⟩,
   ⟨Rect.unit ![0, 0] ![64, 1024] inb_S512x1024_S64x1024_0_0, k0_pay40 (k0_pay4 X10) (k0_pay38 (k0_pay2 X0 X1) (k0_pay20 X7) (View.ld X3 (Rect.unit ![512, 0] ![512, 1024] inb_S2192x1024_S512x1024_512_0))) (k0_pay39 (k0_pay2 X0 X1) (k0_pay3 X9) (k0_pay20 X7) (View.ld X3 (Rect.unit ![512, 0] ![512, 1024] inb_S2192x1024_S512x1024_512_0)))⟩]

theorem kt_of (j : Fin 512) : View.canon (kList X0 X1 X3 X7 X9 X10) (ix2 j r)
    = rope (nrm c64 (hd8 ⟨j.val / 64, by omega⟩ (zrow X3 (hrow X0 X1 r) 512 512 (by omega))) (tcol X7 r)) (tcol X9 r) (tcol X10 r) ⟨j.val % 64, by omega⟩ := by
  refine View.canon_eq_of_allAt _ _ _ (View.cover_of_tiled_head _ _ _ rfl _) ?_
  unfold kList
  have T := ktile r (fun k d => rope (nrm c64 (hd8 k (zrow X3 (hrow X0 X1 r) 512 512 (by omega))) (tcol X7 r)) (tcol X9 r) (tcol X10 r) d)
  refine View.allAt_cons_unit _ _ _ _ _ (T 7 j 448 rfl _ fun d => (k7_at _ _ _ _ _ _).trans (by rw [zk_of, cs_of, sn_of, gk_of])) ?_
  refine View.allAt_cons_unit _ _ _ _ _ (T 6 j 384 rfl _ fun d => (k6_at _ _ _ _ _ _).trans (by rw [zk_of, cs_of, sn_of, gk_of])) ?_
  refine View.allAt_cons_unit _ _ _ _ _ (T 5 j 320 rfl _ fun d => (k5_at _ _ _ _ _ _).trans (by rw [zk_of, cs_of, sn_of, gk_of])) ?_
  refine View.allAt_cons_unit _ _ _ _ _ (T 4 j 256 rfl _ fun d => (k4_at _ _ _ _ _ _).trans (by rw [zk_of, cs_of, sn_of, gk_of])) ?_
  refine View.allAt_cons_unit _ _ _ _ _ (T 3 j 192 rfl _ fun d => (k3_at _ _ _ _ _ _).trans (by rw [zk_of, cs_of, sn_of, gk_of])) ?_
  refine View.allAt_cons_unit _ _ _ _ _ (T 2 j 128 rfl _ fun d => (k2_at _ _ _ _ _ _).trans (by rw [zk_of, cs_of, sn_of, gk_of])) ?_
  refine View.allAt_cons_unit _ _ _ _ _ (T 1 j 64 rfl _ fun d => (k1_at _ _ _ _ _ _).trans (by rw [zk_of, cs_of, sn_of, gk_of])) ?_
  refine View.allAt_cons_unit _ _ _ _ _ (T 0 j 0 rfl _ fun d => (k0_at _ _ _ _ _ _ _).trans (by rw [zk_of, cs_of, sn_of, gk_of])) ?_
  exact View.allAt_nil _ _

theorem k_of {sig : RefSig} {κ : Kind} {sp : Space} (v : View sig κ sp S512x1024 .f32) (j : Fin 512) :
    k0_pay54 (v.readCov (kList X0 X1 X3 X7 X9 X10) (Rect.unit (s := S512x1024) ![0, 0] ![512, 1024] inb_S512x1024_S512x1024_0_0).toLoadRect) (ix3 0 r j)
      = rope (nrm c64 (hd8 ⟨j.val / 64, by omega⟩ (zrow X3 (hrow X0 X1 r) 512 512 (by omega))) (tcol X7 r)) (tcol X9 r) (tcol X10 r) ⟨j.val % 64, by omega⟩ := by
  refine (k_at _ _ _).trans ?_
  rw [View.readCov_eq_canon']
  refine Eq.trans ?_ (kt_of X0 X1 X3 X7 X9 X10 r j)
  refine congrArg (View.canon (kList X0 X1 X3 X7 X9 X10)) (funext fun i => Fin.ext ?_)
  match i with
  | 0 => show 0 + 1 * j.val = j.val; omega
  | 1 => show 0 + 1 * r.val = r.val; omega

variable (m : (ℓ : Loc nD τ sig) → Buf (Elt Ideal) ℓ) (c : Dev nD) (t : Fin cfg0.N)

/-- The blocks read at a grid point. -/
def B0 : S1x1024x1024.Idx → EReal := iblk m c 0 t
def B1 : S1x1024.Idx → EReal := iblk m c 1 t
def B3 : S2192x1024.Idx → EReal := iblk m c 3 t
def B7 : S64x1024.Idx → EReal := iblk m c 7 t
def B8 : S64x1024.Idx → EReal := iblk m c 8 t
def B9 : S64x1024.Idx → EReal := iblk m c 9 t
def B10 : S64x1024.Idx → EReal := iblk m c 10 t

theorem ki_out (d : Fin 64) : (outsAt0 m c t.val t.isLt).2.2.2.2.2.1 (ix3 0 r ⟨d.val, by omega⟩) = rope (nrm c64 (zrow (B3 m c t) (hrow (B0 m c t) (B1 m c t) r) 2048 64 (by omega)) (tcol (B8 m c t) r)) (tcol (B9 m c t) r) (tcol (B10 m c t) r) d := by
  by_cases h0 : t.val % 4 = 0
  · rw [outsAt0_A m c t h0]
    frame_out
    exact ki_of (B0 m c t) (B1 m c t) (B3 m c t) (B8 m c t) (B9 m c t) (B10 m c t) r d
  · rw [outsAt0_B m c t h0]
    frame_out
    exact ki_of (B0 m c t) (B1 m c t) (B3 m c t) (B8 m c t) (B9 m c t) (B10 m c t) r d

theorem qi_out (j : Fin 512) : (outsAt0 m c t.val t.isLt).2.2.2.2.1 (ix3 0 j r) = rope (hd8 ⟨j.val / 64, by omega⟩ (zrow (B3 m c t) (hrow (B0 m c t) (B1 m c t) r) 1536 512 (by omega))) (tcol (B9 m c t) r) (tcol (B10 m c t) r) ⟨j.val % 64, by omega⟩ := by
  by_cases h0 : t.val % 4 = 0
  · rw [outsAt0_A m c t h0]
    frame_out
    exact qi_of (B0 m c t) (B1 m c t) (B3 m c t) (B9 m c t) (B10 m c t) r j
  · rw [outsAt0_B m c t h0]
    frame_out
    exact qi_of (B0 m c t) (B1 m c t) (B3 m c t) (B9 m c t) (B10 m c t) r j

theorem v_out (a : Fin 2) (j y : Fin 512) : (outsAt0 m c t.val t.isLt).2.2.2.1 (ix4 0 a j y) = zrow (B3 m c t) (hrow (B0 m c t) (B1 m c t) ⟨512 * a.val + y.val, by omega⟩) 1024 512 (by omega) j := by
  by_cases h0 : t.val % 4 = 0
  · rw [outsAt0_A m c t h0]
    frame_out
    exact v_of (B0 m c t) (B1 m c t) (B3 m c t) a j y
  · rw [outsAt0_B m c t h0]
    frame_out
    exact v_of (B0 m c t) (B1 m c t) (B3 m c t) a j y

theorem k_out (j : Fin 512) : (outsAt0 m c t.val t.isLt).2.2.1 (ix3 0 r j) = rope (nrm c64 (hd8 ⟨j.val / 64, by omega⟩ (zrow (B3 m c t) (hrow (B0 m c t) (B1 m c t) r) 512 512 (by omega))) (tcol (B7 m c t) r)) (tcol (B9 m c t) r) (tcol (B10 m c t) r) ⟨j.val % 64, by omega⟩ := by
  by_cases h0 : t.val % 4 = 0
  · rw [outsAt0_A m c t h0]
    frame_out
    exact k_of (B0 m c t) (B1 m c t) (B3 m c t) (B7 m c t) (B9 m c t) (B10 m c t) r _ j
  · rw [outsAt0_B m c t h0]
    frame_out
    exact k_of (B0 m c t) (B1 m c t) (B3 m c t) (B7 m c t) (B9 m c t) (B10 m c t) r _ j

end Cert.ProjOut
-- ==== Proof.ProjReads.lean ====
/- The projections' blocks, read at one element of the arrays. -/
module

public import proofs.«01_k».proof.Proof.ProjOut
public import Idealize.ShloMosaic.Lib.Pipeline.Value
public import Idealize.ShloMosaic.Lib.Pipeline.ValueKit.Geometry
public import Idealize.ShloMosaic.Lib.Pointwise

@[expose] public section

set_option maxRecDepth 16384
set_option backward.isDefEq.respectTransparency.types false

noncomputable section

namespace Cert.ProjReads

open Idealize.ShloMosaic Idealize.ShloMosaic.TcCoe Idealize.ShloMosaic.Tactic
open Idealize.ShloMosaic.Pipeline
open Cert.Kernel3Ideal Cert.Kernel3Ideal.Gen Cert.MidSpec Cert.ProjSpec Cert.ProjBody Cert.ProjOut

variable (m : (ℓ : Loc nD τ sig) → Buf (Elt Ideal) ℓ) (c : Dev nD)

theorem coords0 : ∀ t : Fin grid0.N, (grid0.coords t 0).val = t.val / 4 := by decide +kernel
theorem coords1 : ∀ t : Fin grid0.N, (grid0.coords t 1).val = t.val % 4 := by decide +kernel

/-- The call's point of a batch and a tile. -/
def p (b i : Fin 4) : Fin cfg0.N := ⟨4 * b.val + i.val, by show _ < 16; omega⟩

theorem c0 (b i : Fin 4) : (BitVec.ofNat 32 (grid0.coords (p b i) 0).val).toNat = b.val := by
  rw [coords0, BitVec.toNat_ofNat]; show (4 * b.val + i.val) / 4 % _ = _; omega
theorem c1 (b i : Fin 4) : (BitVec.ofNat 32 (grid0.coords (p b i) 1).val).toNat = i.val := by
  rw [coords1, BitVec.toNat_ofNat]; show (4 * b.val + i.val) % 4 % _ = _; omega

theorem B0_at (b i : Fin 4) (r y : Fin 1024) : B0 m c (p b i) (ix3 0 r y) = (V m c main_arg0 : S4x4096x1024.Idx → EReal) (ix3 b ⟨1024 * i.val + r.val, by omega⟩ y) := by
  refine congrArg (V m c main_arg0) (funext fun x => Fin.ext ?_)
  have e : ∀ x, ((((cfg0.win 0).rect (p b i)).emb ((ix3 0 r y) : S1x1024x1024.Idx)) x : ℕ) = _ := fun x => (cfg0.win 0).rect_emb_val (p b i) ((ix3 0 r y) : S1x1024x1024.Idx) x
  refine (e x).trans ?_
  match x with
  | ⟨0, _⟩ => exact (congrArg (· * 1 + 0) (c0 b i)).trans (by show b.val * 1 + 0 = b.val; omega)
  | ⟨1, _⟩ => exact (congrArg (· * 1024 + r.val) (c1 b i)).trans (by show i.val * 1024 + r.val = 1024 * i.val + r.val; omega)
  | ⟨2, _⟩ => show 0 * 1024 + y.val = y.val; omega

theorem B1_at (b i : Fin 4) (y : Fin 1024) : B1 m c (p b i) (ix2 0 y) = (V m c main_v16 : S1x1024.Idx → EReal) (ix2 0 y) := by
  refine congrArg (V m c main_v16) (funext fun x => Fin.ext ?_)
  have e : ∀ x, ((((cfg0.win 1).rect (p b i)).emb ((ix2 0 y) : S1x1024.Idx)) x : ℕ) = _ := fun x => (cfg0.win 1).rect_emb_val (p b i) ((ix2 0 y) : S1x1024.Idx) x
  refine (e x).trans ?_
  match x with
  | ⟨0, _⟩ => rfl
  | ⟨1, _⟩ => show 0 * 1024 + y.val = y.val; omega

theorem B3_at (b i : Fin 4) (r : Fin 2192) (y : Fin 1024) : B3 m c (p b i) (ix2 r y) = (V m c main_v11 : S2192x1024.Idx → EReal) (ix2 r y) := by
  refine congrArg (V m c main_v11) (funext fun x => Fin.ext ?_)
  have e : ∀ x, ((((cfg0.win 3).rect (p b i)).emb ((ix2 r y) : S2192x1024.Idx)) x : ℕ) = _ := fun x => (cfg0.win 3).rect_emb_val (p b i) ((ix2 r y) : S2192x1024.Idx) x
  refine (e x).trans ?_
  match x with
  | ⟨0, _⟩ => show 0 * 2192 + r.val = r.val; omega
  | ⟨1, _⟩ => show 0 * 1024 + y.val = y.val; omega

theorem B7_at (b i : Fin 4) (r : Fin 64) (y : Fin 1024) : B7 m c (p b i) (ix2 r y) = (V m c main_v22 : S64x1024.Idx → EReal) (ix2 r y) := by
  refine congrArg (V m c main_v22) (funext fun x => Fin.ext ?_)
  have e : ∀ x, ((((cfg0.win 7).rect (p b i)).emb ((ix2 r y) : S64x1024.Idx)) x : ℕ) = _ := fun x => (cfg0.win 7).rect_emb_val (p b i) ((ix2 r y) : S64x1024.Idx) x
  refine (e x).trans ?_
  match x with
  | ⟨0, _⟩ => show 0 * 64 + r.val = r.val; omega
  | ⟨1, _⟩ => show 0 * 1024 + y.val = y.val; omega

theorem B8_at (b i : Fin 4) (r : Fin 64) (y : Fin 1024) : B8 m c (p b i) (ix2 r y) = (V m c main_v24 : S64x1024.Idx → EReal) (ix2 r y) := by
  refine congrArg (V m c main_v24) (funext fun x => Fin.ext ?_)
  have e : ∀ x, ((((cfg0.win 8).rect (p b i)).emb ((ix2 r y) : S64x1024.Idx)) x : ℕ) = _ := fun x => (cfg0.win 8).rect_emb_val (p b i) ((ix2 r y) : S64x1024.Idx) x
  refine (e x).trans ?_
  match x with
  | ⟨0, _⟩ => show 0 * 64 + r.val = r.val; omega
  | ⟨1, _⟩ => show 0 * 1024 + y.val = y.val; omega

theorem B9_at (b i : Fin 4) (r : Fin 64) (y : Fin 1024) : B9 m c (p b i) (ix2 r y) = (V m c main_v25 : S64x4096.Idx → EReal) (ix2 r ⟨1024 * i.val + y.val, by omega⟩) := by
  refine congrArg (V m c main_v25) (funext fun x => Fin.ext ?_)
  have e : ∀ x, ((((cfg0.win 9).rect (p b i)).emb ((ix2 r y) : S64x1024.Idx)) x : ℕ) = _ := fun x => (cfg0.win 9).rect_emb_val (p b i) ((ix2 r y) : S64x1024.Idx) x
  refine (e x).trans ?_
  match x with
  | ⟨0, _⟩ => show 0 * 64 + r.val = r.val; omega
  | ⟨1, _⟩ => exact (congrArg (· * 1024 + y.val) (c1 b i)).trans (by show i.val * 1024 + y.val = 1024 * i.val + y.val; omega)

theorem B10_at (b i : Fin 4) (r : Fin 64) (y : Fin 1024) : B10 m c (p b i) (ix2 r y) = (V m c main_v29 : S64x4096.Idx → EReal) (ix2 r ⟨1024 * i.val + y.val, by omega⟩) := by
  refine congrArg (V m c main_v29) (funext fun x => Fin.ext ?_)
  have e : ∀ x, ((((cfg0.win 10).rect (p b i)).emb ((ix2 r y) : S64x1024.Idx)) x : ℕ) = _ := fun x => (cfg0.win 10).rect_emb_val (p b i) ((ix2 r y) : S64x1024.Idx) x
  refine (e x).trans ?_
  match x with
  | ⟨0, _⟩ => show 0 * 64 + r.val = r.val; omega
  | ⟨1, _⟩ => exact (congrArg (· * 1024 + y.val) (c1 b i)).trans (by show i.val * 1024 + y.val = 1024 * i.val + y.val; omega)

/-! ## What the call leaves -/

theorem flush_kout (t : Fin cfg0.N) : (cfg0.win 13).flush t = true := by
  rw [Window.flush_eq_flushOf]
  show Window.flushOf grid0 true (fun i => cc0_transform_13 i) t = true
  have h : ∀ t : Fin grid0.N, Window.flushOf grid0 true (fun i => cc0_transform_13 i) t = true := by decide +kernel
  exact h t

theorem index_kout (t : Fin cfg0.N) : (cfg0.win 13).index t (0 : Fin 3) = t.val / 4 ∧ (cfg0.win 13).index t (1 : Fin 3) = t.val % 4 := by
  have ht : t.val < 16 := t.isLt
  constructor
  · show (BitVec.ofNat 32 (grid0.coords t 0).val).toNat = t.val / 4
    rw [coords0, BitVec.toNat_ofNat, Nat.mod_eq_of_lt (by omega)]
  · show (BitVec.ofNat 32 (grid0.coords t 1).val).toNat = t.val % 4
    rw [coords1, BitVec.toNat_ofNat, Nat.mod_eq_of_lt (by omega)]

theorem disj_kout : ∀ t t' : Fin cfg0.N, (cfg0.win 13).flush t = true → (cfg0.win 13).flush t' = true → t ≠ t' →
    Disjoint ((cfg0.win 13).blk t).view.set ((cfg0.win 13).blk t').view.set :=
  Window.hdisj_of_index_inj _ fun t t' _ _ h => Fin.ext (by
    have h0 := congrFun h (0 : Fin 3)
    have h1 := congrFun h (1 : Fin 3)
    rw [(index_kout t).1, (index_kout t').1] at h0
    rw [(index_kout t).2, (index_kout t').2] at h1
    omega)

theorem kout_at (b i : Fin 4) (r : Fin 1024) (y : Fin 512) :
    ((dats m 0 c).arrAt 13 cfg0.N : S4x4096x512.Idx → EReal) (ix3 b ⟨1024 * i.val + r.val, by omega⟩ y) = ((outsAt0 m c (p b i).val (p b i).isLt).2.2.1 : S1x1024x512.Idx → EReal) (ix3 0 r y) := by
  have key := (dats m 0 c).arrAt_emb_eq_flushed 13 disj_kout (p b i) (flush_kout _) (ix3 0 r y : S1x1024x512.Idx)
  have he : (((cfg0.win 13).blk (p b i)).view.emb (ix3 0 r y : S1x1024x512.Idx) : S4x4096x512.Idx) = (ix3 b ⟨1024 * i.val + r.val, by omega⟩ y) := by
    refine funext fun x => Fin.ext ?_
    have e : ∀ x, ((((cfg0.win 13).rect (p b i)).emb (ix3 0 r y : S1x1024x512.Idx)) x : ℕ) = _ := fun x => (cfg0.win 13).rect_emb_val (p b i) (ix3 0 r y : S1x1024x512.Idx) x
    refine (e x).trans ?_
    match x with
    | ⟨0, _⟩ => exact (congrArg (· * 1 + 0) (c0 b i)).trans (by show b.val * 1 + 0 = b.val; omega)
    | ⟨1, _⟩ => exact (congrArg (· * 1024 + r.val) (c1 b i)).trans (by show i.val * 1024 + r.val = 1024 * i.val + r.val; omega)
    | ⟨2, _⟩ => show 0 * 512 + y.val = y.val; omega
  rw [← he]
  refine key.trans ?_
  unfold Dat.flushed
  rw [after0_13]
  rfl

theorem flush_vout (t : Fin cfg0.N) : (cfg0.win 14).flush t = true := by
  rw [Window.flush_eq_flushOf]
  show Window.flushOf grid0 true (fun i => cc0_transform_14 i) t = true
  have h : ∀ t : Fin grid0.N, Window.flushOf grid0 true (fun i => cc0_transform_14 i) t = true := by decide +kernel
  exact h t

theorem index_vout (t : Fin cfg0.N) : (cfg0.win 14).index t (0 : Fin 4) = t.val / 4 ∧ (cfg0.win 14).index t (1 : Fin 4) = t.val % 4 := by
  have ht : t.val < 16 := t.isLt
  constructor
  · show (BitVec.ofNat 32 (grid0.coords t 0).val).toNat = t.val / 4
    rw [coords0, BitVec.toNat_ofNat, Nat.mod_eq_of_lt (by omega)]
  · show (BitVec.ofNat 32 (grid0.coords t 1).val).toNat = t.val % 4
    rw [coords1, BitVec.toNat_ofNat, Nat.mod_eq_of_lt (by omega)]

theorem disj_vout : ∀ t t' : Fin cfg0.N, (cfg0.win 14).flush t = true → (cfg0.win 14).flush t' = true → t ≠ t' →
    Disjoint ((cfg0.win 14).blk t).view.set ((cfg0.win 14).blk t').view.set :=
  Window.hdisj_of_index_inj _ fun t t' _ _ h => Fin.ext (by
    have h0 := congrFun h (0 : Fin 4)
    have h1 := congrFun h (1 : Fin 4)
    rw [(index_vout t).1, (index_vout t').1] at h0
    rw [(index_vout t).2, (index_vout t').2] at h1
    omega)

theorem vout_at (b i : Fin 4) (a : Fin 2) (r y : Fin 512) :
    ((dats m 0 c).arrAt 14 cfg0.N : S4x8x512x512.Idx → EReal) (ix4 b ⟨2 * i.val + a.val, by omega⟩ r y) = ((outsAt0 m c (p b i).val (p b i).isLt).2.2.2.1 : S1x2x512x512.Idx → EReal) (ix4 0 a r y) := by
  have key := (dats m 0 c).arrAt_emb_eq_flushed 14 disj_vout (p b i) (flush_vout _) (ix4 0 a r y : S1x2x512x512.Idx)
  have he : (((cfg0.win 14).blk (p b i)).view.emb (ix4 0 a r y : S1x2x512x512.Idx) : S4x8x512x512.Idx) = (ix4 b ⟨2 * i.val + a.val, by omega⟩ r y) := by
    refine funext fun x => Fin.ext ?_
    have e : ∀ x, ((((cfg0.win 14).rect (p b i)).emb (ix4 0 a r y : S1x2x512x512.Idx)) x : ℕ) = _ := fun x => (cfg0.win 14).rect_emb_val (p b i) (ix4 0 a r y : S1x2x512x512.Idx) x
    refine (e x).trans ?_
    match x with
    | ⟨0, _⟩ => exact (congrArg (· * 1 + 0) (c0 b i)).trans (by show b.val * 1 + 0 = b.val; omega)
    | ⟨1, _⟩ => exact (congrArg (· * 2 + a.val) (c1 b i)).trans (by show i.val * 2 + a.val = 2 * i.val + a.val; omega)
    | ⟨2, _⟩ => show 0 * 512 + r.val = r.val; omega
    | ⟨3, _⟩ => show 0 * 512 + y.val = y.val; omega
  rw [← he]
  refine key.trans ?_
  unfold Dat.flushed
  rw [after0_14]
  rfl

theorem flush_qout (t : Fin cfg0.N) : (cfg0.win 15).flush t = true := by
  rw [Window.flush_eq_flushOf]
  show Window.flushOf grid0 true (fun i => cc0_transform_15 i) t = true
  have h : ∀ t : Fin grid0.N, Window.flushOf grid0 true (fun i => cc0_transform_15 i) t = true := by decide +kernel
  exact h t

theorem index_qout (t : Fin cfg0.N) : (cfg0.win 15).index t (0 : Fin 3) = t.val / 4 ∧ (cfg0.win 15).index t (2 : Fin 3) = t.val % 4 := by
  have ht : t.val < 16 := t.isLt
  constructor
  · show (BitVec.ofNat 32 (grid0.coords t 0).val).toNat = t.val / 4
    rw [coords0, BitVec.toNat_ofNat, Nat.mod_eq_of_lt (by omega)]
  · show (BitVec.ofNat 32 (grid0.coords t 1).val).toNat = t.val % 4
    rw [coords1, BitVec.toNat_ofNat, Nat.mod_eq_of_lt (by omega)]

theorem disj_qout : ∀ t t' : Fin cfg0.N, (cfg0.win 15).flush t = true → (cfg0.win 15).flush t' = true → t ≠ t' →
    Disjoint ((cfg0.win 15).blk t).view.set ((cfg0.win 15).blk t').view.set :=
  Window.hdisj_of_index_inj _ fun t t' _ _ h => Fin.ext (by
    have h0 := congrFun h (0 : Fin 3)
    have h1 := congrFun h (2 : Fin 3)
    rw [(index_qout t).1, (index_qout t').1] at h0
    rw [(index_qout t).2, (index_qout t').2] at h1
    omega)

theorem qout_at (b i : Fin 4) (y : Fin 512) (r : Fin 1024) :
    ((dats m 0 c).arrAt 15 cfg0.N : S4x512x4096.Idx → EReal) (ix3 b y ⟨1024 * i.val + r.val, by omega⟩) = ((outsAt0 m c (p b i).val (p b i).isLt).2.2.2.2.1 : S1x512x1024.Idx → EReal) (ix3 0 y r) := by
  have key := (dats m 0 c).arrAt_emb_eq_flushed 15 disj_qout (p b i) (flush_qout _) (ix3 0 y r : S1x512x1024.Idx)
  have he : (((cfg0.win 15).blk (p b i)).view.emb (ix3 0 y r : S1x512x1024.Idx) : S4x512x4096.Idx) = (ix3 b y ⟨1024 * i.val + r.val, by omega⟩) := by
    refine funext fun x => Fin.ext ?_
    have e : ∀ x, ((((cfg0.win 15).rect (p b i)).emb (ix3 0 y r : S1x512x1024.Idx)) x : ℕ) = _ := fun x => (cfg0.win 15).rect_emb_val (p b i) (ix3 0 y r : S1x512x1024.Idx) x
    refine (e x).trans ?_
    match x with
    | ⟨0, _⟩ => exact (congrArg (· * 1 + 0) (c0 b i)).trans (by show b.val * 1 + 0 = b.val; omega)
    | ⟨1, _⟩ => show 0 * 512 + y.val = y.val; omega
    | ⟨2, _⟩ => exact (congrArg (· * 1024 + r.val) (c1 b i)).trans (by show i.val * 1024 + r.val = 1024 * i.val + r.val; omega)
  rw [← he]
  refine key.trans ?_
  unfold Dat.flushed
  rw [after0_15]
  rfl

theorem flush_iout (t : Fin cfg0.N) : (cfg0.win 16).flush t = true := by
  rw [Window.flush_eq_flushOf]
  show Window.flushOf grid0 true (fun i => cc0_transform_16 i) t = true
  have h : ∀ t : Fin grid0.N, Window.flushOf grid0 true (fun i => cc0_transform_16 i) t = true := by decide +kernel
  exact h t

theorem index_iout (t : Fin cfg0.N) : (cfg0.win 16).index t (0 : Fin 3) = t.val / 4 ∧ (cfg0.win 16).index t (1 : Fin 3) = t.val % 4 := by
  have ht : t.val < 16 := t.isLt
  constructor
  · show (BitVec.ofNat 32 (grid0.coords t 0).val).toNat = t.val / 4
    rw [coords0, BitVec.toNat_ofNat, Nat.mod_eq_of_lt (by omega)]
  · show (BitVec.ofNat 32 (grid0.coords t 1).val).toNat = t.val % 4
    rw [coords1, BitVec.toNat_ofNat, Nat.mod_eq_of_lt (by omega)]

theorem disj_iout : ∀ t t' : Fin cfg0.N, (cfg0.win 16).flush t = true → (cfg0.win 16).flush t' = true → t ≠ t' →
    Disjoint ((cfg0.win 16).blk t).view.set ((cfg0.win 16).blk t').view.set :=
  Window.hdisj_of_index_inj _ fun t t' _ _ h => Fin.ext (by
    have h0 := congrFun h (0 : Fin 3)
    have h1 := congrFun h (1 : Fin 3)
    rw [(index_iout t).1, (index_iout t').1] at h0
    rw [(index_iout t).2, (index_iout t').2] at h1
    omega)

theorem iout_at (b i : Fin 4) (r : Fin 1024) (y : Fin 128) :
    ((dats m 0 c).arrAt 16 cfg0.N : S4x4096x128.Idx → EReal) (ix3 b ⟨1024 * i.val + r.val, by omega⟩ y) = ((outsAt0 m c (p b i).val (p b i).isLt).2.2.2.2.2.1 : S1x1024x128.Idx → EReal) (ix3 0 r y) := by
  have key := (dats m 0 c).arrAt_emb_eq_flushed 16 disj_iout (p b i) (flush_iout _) (ix3 0 r y : S1x1024x128.Idx)
  have he : (((cfg0.win 16).blk (p b i)).view.emb (ix3 0 r y : S1x1024x128.Idx) : S4x4096x128.Idx) = (ix3 b ⟨1024 * i.val + r.val, by omega⟩ y) := by
    refine funext fun x => Fin.ext ?_
    have e : ∀ x, ((((cfg0.win 16).rect (p b i)).emb (ix3 0 r y : S1x1024x128.Idx)) x : ℕ) = _ := fun x => (cfg0.win 16).rect_emb_val (p b i) (ix3 0 r y : S1x1024x128.Idx) x
    refine (e x).trans ?_
    match x with
    | ⟨0, _⟩ => exact (congrArg (· * 1 + 0) (c0 b i)).trans (by show b.val * 1 + 0 = b.val; omega)
    | ⟨1, _⟩ => exact (congrArg (· * 1024 + r.val) (c1 b i)).trans (by show i.val * 1024 + r.val = 1024 * i.val + r.val; omega)
    | ⟨2, _⟩ => show 0 * 128 + y.val = y.val; omega
  rw [← he]
  refine key.trans ?_
  unfold Dat.flushed
  rw [after0_16]
  rfl

end Cert.ProjReads
-- ==== Proof.ProjVal.lean ====
/- The projections' results, at an index, of the arguments. -/
module

public import proofs.«01_k».proof.Proof.ProjReads
public import Idealize.ShloMosaic.Lib.Pointwise

@[expose] public section

set_option maxRecDepth 16384
set_option backward.isDefEq.respectTransparency.types false

noncomputable section

namespace Cert.ProjVal

open Idealize.ShloMosaic Idealize.ShloMosaic.TcCoe Idealize.ShloMosaic.Tactic
open Cert.Kernel3Ideal Cert.Kernel3Ideal.Gen Cert.MidSpec Cert.ProjSpec Cert.ProjOut Cert.ProjReads

section Host

variable (V : Valuation τ sig (Elt Ideal))

theorem v16_at (y : Fin 1024) : (StableHlo.after hostOps0 V (Proc.devRef .tc main_v16) : S1x1024.Idx → EReal) (ix2 0 y) = (V (Proc.devRef .tc main_arg1) : S1024.Idx → EReal) (ix1 y) := by
  unfold_abbrev_sides
  after_results
  pointwise

theorem v11_lo (r : Fin 2192) (hr : r.val < 2048) (y : Fin 1024) : (StableHlo.after hostOps0 V (Proc.devRef .tc main_v11) : S2192x1024.Idx → EReal) (ix2 r y)
    = (V (Proc.devRef .tc main_arg2) : S1024x2632.Idx → EReal) (ix2 y ⟨512 + r.val, by omega⟩) := by
  unfold_abbrev_sides
  after_results
  pointwise
  rw [dif_pos hr]
  refine Eq.trans (b := (StableHlo.after hostOps0 V (Proc.devRef .tc main_v3) : S2048x1024.Idx → EReal) (ix2 ⟨r.val, by omega⟩ y)) ?_ ?_
  · unfold_abbrev_sides
    after_results
  unfold_abbrev_sides
  after_results
  pointwise

theorem v11_hi (r : Fin 2192) (hr : 2048 ≤ r.val) (hr' : r.val < 2112) (y : Fin 1024) : (StableHlo.after hostOps0 V (Proc.devRef .tc main_v11) : S2192x1024.Idx → EReal) (ix2 r y)
    = (V (Proc.devRef .tc main_arg2) : S1024x2632.Idx → EReal) (ix2 y ⟨512 + r.val, by omega⟩) := by
  unfold_abbrev_sides
  after_results
  pointwise
  rw [dif_neg (by omega), dif_pos (by omega)]
  refine Eq.trans (b := (StableHlo.after hostOps0 V (Proc.devRef .tc main_v5) : S64x1024.Idx → EReal) (ix2 ⟨r.val - 2048, by omega⟩ y)) ?_ ?_
  · unfold_abbrev_sides
    after_results
  unfold_abbrev_sides
  after_results
  pointwise
  exact congrArg (fun j => (V (Proc.devRef .tc main_arg2) : S1024x2632.Idx → EReal) (ix2 y j)) (Fin.ext (by simp only []; omega))

theorem v22_at (r : Fin 64) (y : Fin 1024) : (StableHlo.after hostOps0 V (Proc.devRef .tc main_v22) : S64x1024.Idx → EReal) (ix2 r y) = (V (Proc.devRef .tc main_arg6) : S64.Idx → EReal) (ix1 r) := by
  unfold_abbrev_sides
  after_results
  pointwise

theorem v24_at (r : Fin 64) (y : Fin 1024) : (StableHlo.after hostOps0 V (Proc.devRef .tc main_v24) : S64x1024.Idx → EReal) (ix2 r y) = (V (Proc.devRef .tc main_arg7) : S64.Idx → EReal) (ix1 r) := by
  unfold_abbrev_sides
  after_results
  pointwise

theorem v25_at (r : Fin 64) (y : Fin 4096) : (StableHlo.after hostOps0 V (Proc.devRef .tc main_v25) : S64x4096.Idx → EReal) (ix2 r y) = (V (Proc.devRef .tc main_arg8) : S4096x64.Idx → EReal) (ix2 y r) := by
  unfold_abbrev_sides
  after_results
  pointwise

theorem v29_at (r : Fin 64) (y : Fin 4096) : (StableHlo.after hostOps0 V (Proc.devRef .tc main_v29) : S64x4096.Idx → EReal) (ix2 r y) = @HMul.hMul EReal EReal EReal _ ((V (Proc.devRef .tc main_arg9) : S4096x64.Idx → EReal) (ix2 y r)) (sgn r) := by
  unfold_abbrev_sides
  after_results
  pointwise
  unfold sgn
  split
  · rfl
  · rfl

theorem v31_at (b : Fin 4) (s : Fin 4096) (j : Fin 512) : (StableHlo.after hostOps1 V (Proc.devRef .tc main_v31) : S4x4096x512.Idx → EReal) (ix3 b s j)
    = (V (Proc.devRef .tc main_v30_2) : S4x4096x512.Idx → EReal) (ix3 b s j) := by
  unfold_abbrev_sides
  after_results
  pointwise

theorem v34_at (b : Fin 4) (a : Fin 8) (s j : Fin 512) : (StableHlo.after hostOps1 V (Proc.devRef .tc main_v34) : S4x4096x512.Idx → EReal) (ix3 b ⟨512 * a.val + s.val, by omega⟩ j)
    = (V (Proc.devRef .tc main_v30_3) : S4x8x512x512.Idx → EReal) (ix4 b a j s) := by
  unfold_abbrev_sides
  after_results
  pointwise
  have e0 : (512 * a.val + s.val) / 512 = a.val := by omega
  have e1 : (512 * a.val + s.val) % 512 = s.val := by omega
  simp only [e0, e1]

theorem v36_at (b : Fin 4) (s : Fin 4096) (j : Fin 512) : (StableHlo.after hostOps1 V (Proc.devRef .tc main_v36) : S4x4096x512.Idx → EReal) (ix3 b s j)
    = (V (Proc.devRef .tc main_v30_4) : S4x512x4096.Idx → EReal) (ix3 b j s) := by
  unfold_abbrev_sides
  after_results
  pointwise

theorem v38_at (b : Fin 4) (s : Fin 4096) (d : Fin 64) : (StableHlo.after hostOps1 V (Proc.devRef .tc main_v38) : S4x4096x64.Idx → EReal) (ix3 b s d)
    = (V (Proc.devRef .tc main_v30_5) : S4x4096x128.Idx → EReal) (ix3 b s ⟨d.val, by omega⟩) := by
  unfold_abbrev_sides
  after_results
  pointwise

end Host

section Result

variable (m : (ℓ : Loc nD τ sig) → Buf (Elt Ideal) ℓ) (c : Dev nD)

/-- The arguments. -/
def A0 : S4x4096x1024.Idx → EReal := m ((c : Thread nD τ).loc main_arg0)
def A1 : S1024.Idx → EReal := m ((c : Thread nD τ).loc main_arg1)
def A2 : S1024x2632.Idx → EReal := m ((c : Thread nD τ).loc main_arg2)
def A6 : S64.Idx → EReal := m ((c : Thread nD τ).loc main_arg6)
def A7 : S64.Idx → EReal := m ((c : Thread nD τ).loc main_arg7)
def A8 : S4096x64.Idx → EReal := m ((c : Thread nD τ).loc main_arg8)
def A9 : S4096x64.Idx → EReal := m ((c : Thread nD τ).loc main_arg9)

/-- A row, normalized. -/
def hx (b : Fin 4) (s : Fin 4096) : Fin 1024 → EReal := nrm c1024 (fun l => A0 m c (ix3 b s l)) (fun d => A1 m c (ix1 d))

/-- The weights. -/
def wx (x : Fin 1024) (j : Fin 2632) : EReal := A2 m c (ix2 x j)

theorem hrow_eq (b i : Fin 4) (r : Fin 1024) : hrow (B0 m c (p b i)) (B1 m c (p b i)) r = hx m c b ⟨1024 * i.val + r.val, by omega⟩ := by
  have e0 : (fun l => B0 m c (p b i) (ix3 0 r l)) = fun l => A0 m c (ix3 b ⟨1024 * i.val + r.val, by omega⟩ l) :=
    funext fun l => (B0_at m c b i r l).trans (congrFun (V_main_arg0 m c) _)
  have e1 : (fun d => B1 m c (p b i) (ix2 0 d)) = fun d => A1 m c (ix1 d) := funext fun d => (B1_at m c b i d).trans (v16_at _ d)
  unfold hrow hx
  rw [← e0, ← e1]

theorem zrow_lo (b i : Fin 4) (h : Fin 1024 → EReal) (o n : ℕ) (ho : o + n ≤ 2048) (o' : ℕ) (ho' : o' + n ≤ 2632) (e : o' = 512 + o) :
    zrow (B3 m c (p b i)) h o n (by omega) = cols h (wx m c) o' n ho' := by
  subst e
  refine funext fun j => Finset.sum_congr rfl fun x _ => ?_
  refine (mul_comm _ _).trans (congrArg (h x * ·) ?_)
  refine (B3_at m c b i _ x).trans ((v11_lo _ _ (by show o + j.val < 2048; omega) x).trans ?_)
  exact congrArg (fun j => A2 m c (ix2 x j)) (Fin.ext (by show 512 + (o + j.val) = 512 + o + j.val; omega))

theorem zrow_hi (b i : Fin 4) (h : Fin 1024 → EReal) : zrow (B3 m c (p b i)) h 2048 64 (by omega) = cols h (wx m c) 2560 64 (by omega) := by
  refine funext fun j => Finset.sum_congr rfl fun x _ => ?_
  refine (mul_comm _ _).trans (congrArg (h x * ·) ?_)
  refine (B3_at m c b i _ x).trans ((v11_hi _ _ (by show 2048 ≤ 2048 + j.val; omega) (by show 2048 + j.val < 2112; omega) x).trans ?_)
  exact congrArg (fun j => A2 m c (ix2 x j)) (Fin.ext (by show 512 + (2048 + j.val) = 2560 + j.val; omega))

theorem t7 (b i : Fin 4) (r : Fin 1024) : tcol (B7 m c (p b i)) r = fun d => A6 m c (ix1 d) := funext fun d => (B7_at m c b i d r).trans (v22_at _ d r)
theorem t8 (b i : Fin 4) (r : Fin 1024) : tcol (B8 m c (p b i)) r = fun d => A7 m c (ix1 d) := funext fun d => (B8_at m c b i d r).trans (v24_at _ d r)
theorem t9 (b i : Fin 4) (r : Fin 1024) : tcol (B9 m c (p b i)) r = fun d => A8 m c (ix2 ⟨1024 * i.val + r.val, by omega⟩ d) := funext fun d => (B9_at m c b i d r).trans (v25_at _ d _)
theorem t10 (b i : Fin 4) (r : Fin 1024) : tcol (B10 m c (p b i)) r = fun d => A9 m c (ix2 ⟨1024 * i.val + r.val, by omega⟩ d) * sgn d := funext fun d => (B10_at m c b i d r).trans (v29_at _ d _)

/-- The results, at an index. -/
def specK (b : Fin 4) (s : Fin 4096) (j : Fin 512) : EReal :=
  rope (nrm c64 (hd8 ⟨j.val / 64, by omega⟩ (cols (hx m c b s) (wx m c) 1024 512 (by omega))) (fun d => A6 m c (ix1 d)))
    (fun d => A8 m c (ix2 s d)) (fun d => A9 m c (ix2 s d) * sgn d) ⟨j.val % 64, by omega⟩
def specV (b : Fin 4) (s : Fin 4096) (j : Fin 512) : EReal := cols (hx m c b s) (wx m c) 1536 512 (by omega) j
def specQ (b : Fin 4) (s : Fin 4096) (j : Fin 512) : EReal :=
  rope (hd8 ⟨j.val / 64, by omega⟩ (cols (hx m c b s) (wx m c) 2048 512 (by omega)))
    (fun d => A8 m c (ix2 s d)) (fun d => A9 m c (ix2 s d) * sgn d) ⟨j.val % 64, by omega⟩
def specI (b : Fin 4) (s : Fin 4096) (d : Fin 64) : EReal :=
  rope (nrm c64 (cols (hx m c b s) (wx m c) 2560 64 (by omega)) (fun d => A7 m c (ix1 d)))
    (fun d => A8 m c (ix2 s d)) (fun d => A9 m c (ix2 s d) * sgn d) d

/-- A buffer after the whole program. -/
abbrev W (b : Ref sig .tc) : Buf (Elt Ideal) ((c : Thread nD τ).loc b) := Pipeline.afterTail₀ cfgs (dats m) 0 (V0 m) [hostOps1] c b

theorem arr (w : Fin 18) : Pipeline.withArrays spec0 c (V0 m c) (fun w => (dats m 0 c).arrAt w cfg0.N) (Proc.devRef .tc (Pipeline.arrRef spec0 w)) = (dats m 0 c).arrAt w cfg0.N :=
  Pipeline.withArrays_arr spec0 (by decide +kernel) c _ _ w

theorem k_row (b i : Fin 4) (r : Fin 1024) (j : Fin 512) :
    (W m c main_v31 : S4x4096x512.Idx → EReal) (ix3 b ⟨1024 * i.val + r.val, by omega⟩ j) = specK m c b ⟨1024 * i.val + r.val, by omega⟩ j := by
  refine (v31_at _ b _ j).trans ((congrFun (arr m c 13) _).trans ((kout_at m c b i r j).trans ((k_out r m c (p b i) j).trans ?_)))
  rw [hrow_eq, zrow_lo m c b i _ 512 512 (by omega) 1024 (by omega) rfl, t7, t9, t10]
  rfl

theorem q_row (b i : Fin 4) (r : Fin 1024) (j : Fin 512) :
    (W m c main_v36 : S4x4096x512.Idx → EReal) (ix3 b ⟨1024 * i.val + r.val, by omega⟩ j) = specQ m c b ⟨1024 * i.val + r.val, by omega⟩ j := by
  refine (v36_at _ b _ j).trans ((congrFun (arr m c 15) _).trans ((qout_at m c b i j r).trans ((qi_out r m c (p b i) j).trans ?_)))
  rw [hrow_eq, zrow_lo m c b i _ 1536 512 (by omega) 2048 (by omega) rfl, t9, t10]
  rfl

theorem i_row (b i : Fin 4) (r : Fin 1024) (d : Fin 64) :
    (W m c main_v38 : S4x4096x64.Idx → EReal) (ix3 b ⟨1024 * i.val + r.val, by omega⟩ d) = specI m c b ⟨1024 * i.val + r.val, by omega⟩ d := by
  refine (v38_at _ b _ d).trans ((congrFun (arr m c 16) _).trans ((iout_at m c b i r _).trans ((ki_out r m c (p b i) d).trans ?_)))
  rw [hrow_eq, zrow_hi, t8, t9, t10]
  rfl

theorem v_row (b i : Fin 4) (a : Fin 2) (y j : Fin 512) (s : Fin 4096) (hs : s.val = 1024 * i.val + (512 * a.val + y.val)) :
    (W m c main_v34 : S4x4096x512.Idx → EReal) (ix3 b s j) = specV m c b s j := by
  have e : s = ⟨512 * (2 * i.val + a.val) + y.val, by omega⟩ := Fin.ext (by show s.val = 512 * (2 * i.val + a.val) + y.val; omega)
  have e' : (⟨1024 * i.val + (512 * a.val + y.val), by omega⟩ : Fin 4096) = s := Fin.ext hs.symm
  have h0 : (W m c main_v34 : S4x4096x512.Idx → EReal) (ix3 b ⟨512 * (2 * i.val + a.val) + y.val, by omega⟩ j) = specV m c b s j := by
    refine (v34_at _ b ⟨2 * i.val + a.val, by omega⟩ y j).trans ((congrFun (arr m c 14) _).trans ((vout_at m c b i a j y).trans ((v_out m c (p b i) a j y).trans ?_)))
    rw [hrow_eq, zrow_lo m c b i _ 1024 512 (by omega) 1536 (by omega) rfl]
    exact congrArg (fun s => specV m c b s j) e'
  exact (congrArg (fun s => (W m c main_v34 : S4x4096x512.Idx → EReal) (ix3 b s j)) e).trans h0

theorem of_rows (f g : Fin 4096 → EReal) (h : ∀ (i : Fin 4) (r : Fin 1024), f ⟨1024 * i.val + r.val, by omega⟩ = g ⟨1024 * i.val + r.val, by omega⟩) (s : Fin 4096) : f s = g s := by
  have h := h ⟨s.val / 1024, by omega⟩ ⟨s.val % 1024, by omega⟩
  have e : (⟨1024 * (s.val / 1024) + s.val % 1024, by omega⟩ : Fin 4096) = s := Fin.ext (by show 1024 * (s.val / 1024) + s.val % 1024 = s.val; omega)
  exact (congrArg f e).symm.trans (h.trans (congrArg g e))

theorem k_res (b : Fin 4) (s : Fin 4096) (j : Fin 512) : (W m c main_v31 : S4x4096x512.Idx → EReal) (ix3 b s j) = specK m c b s j :=
  of_rows (fun s => (W m c main_v31 : S4x4096x512.Idx → EReal) (ix3 b s j)) (fun s => specK m c b s j) (fun i r => k_row m c b i r j) s

theorem q_res (b : Fin 4) (s : Fin 4096) (j : Fin 512) : (W m c main_v36 : S4x4096x512.Idx → EReal) (ix3 b s j) = specQ m c b s j :=
  of_rows (fun s => (W m c main_v36 : S4x4096x512.Idx → EReal) (ix3 b s j)) (fun s => specQ m c b s j) (fun i r => q_row m c b i r j) s

theorem i_res (b : Fin 4) (s : Fin 4096) (d : Fin 64) : (W m c main_v38 : S4x4096x64.Idx → EReal) (ix3 b s d) = specI m c b s d :=
  of_rows (fun s => (W m c main_v38 : S4x4096x64.Idx → EReal) (ix3 b s d)) (fun s => specI m c b s d) (fun i r => i_row m c b i r d) s

theorem v_res (b : Fin 4) (s : Fin 4096) (j : Fin 512) : (W m c main_v34 : S4x4096x512.Idx → EReal) (ix3 b s j) = specV m c b s j :=
  v_row m c b ⟨s.val / 1024, by omega⟩ ⟨s.val % 1024 / 512, by omega⟩ ⟨s.val % 512, by omega⟩ j s
    (by show s.val = 1024 * (s.val / 1024) + (512 * (s.val % 1024 / 512) + s.val % 512); omega)

end Result

end Cert.ProjVal
-- ==== Proof.ProjRef.lean ====
/- The third program's reference, at an index, of its arguments. -/
module

public import proofs.«01_k».proof.Proof.Gen.Reference3Ideal.Read
public import proofs.«01_k».proof.Proof.ProjSpec
public import Idealize.ShloMosaic.Lib.Pointwise

@[expose] public section

set_option maxRecDepth 16384

noncomputable section

namespace Cert.ProjRef

open Idealize.ShloMosaic Idealize.ShloMosaic.TcCoe Idealize.ShloMosaic.Tactic
open Cert.Reference3Ideal Cert.Reference3Ideal.Gen Cert.Reference3Ideal.Read Cert.MidSpec Cert.ProjSpec

/-- A head turned, the sign on the half itself. -/
theorem rope_eq (z cs sn : Fin 64 → EReal) (d : Fin 64) :
    rope z cs (fun d => sn d * sgn d) d = z d * cs d + (if h : d.val < 32 then -z ⟨32 + d.val, by omega⟩ else z ⟨d.val - 32, by omega⟩) * sn d := by
  unfold rope sw sgn
  by_cases h : d.val < 32
  · simp only [h, dif_pos, if_pos, mul_neg, mul_one, neg_mul]
  · simp only [h, dif_neg, if_neg, not_false_eq_true, mul_one]

variable (x0 : FVec Ideal S4x4096x1024 .f32) (x1 : FVec Ideal S1024 .f32) (x2 : FVec Ideal S1024x2632 .f32) (x6 x7 : FVec Ideal S64 .f32) (x8 x9 : FVec Ideal S4096x64 .f32)

/-- A row, normalized. -/
def hx (b : Fin 4) (s : Fin 4096) : Fin 1024 → EReal := nrm c1024 (fun l => x0 (ix3 b s l)) (fun d => x1 (ix1 d))

/-- The weights. -/
def wx (x : Fin 1024) (j : Fin 2632) : EReal := x2 (ix2 x j)

theorem h_at (b : Fin 4) (s : Fin 4096) (d : Fin 1024) : val_main_v12 (F := Ideal) x0 x1 (ix3 b s d) = hx x0 x1 b s d := by
  unfold val_main_v12 val_main_v9 val_main_v8 val_main_v7 val_main_v6 val_main_v4 val_main_v2 val_main_v1 val_main_v0
  pointwise [val_main_v11, val_main_v10, val_main_v5, val_main_cst_1, val_main_v3, val_main_cst_0, val_main_cst]
  rfl

theorem z_at (b : Fin 4) (s : Fin 4096) (j : Fin 2632) : val_main_v13 (F := Ideal) x0 x1 x2 (ix3 b s j) = ∑ x : Fin 1024, hx x0 x1 b s x * wx x2 x j := by
  unfold val_main_v13
  have h := h_at x0 x1
  generalize val_main_v12 (F := Ideal) x0 x1 = X at h ⊢
  pointwise
  simp only [h]
  rfl

theorem v_at (b : Fin 4) (s : Fin 4096) (j : Fin 512) : val_main_v16 (F := Ideal) x0 x1 x2 (ix3 b s j) = cols (hx x0 x1 b s) (wx x2) 1536 512 (by omega) j := by
  unfold val_main_v16
  have h := z_at x0 x1 x2
  generalize val_main_v13 (F := Ideal) x0 x1 x2 = X at h ⊢
  pointwise
  exact h b s _

theorem k0_at (b : Fin 4) (s : Fin 4096) (k : Fin 8) (d : Fin 64) : val_main_v15 (F := Ideal) x0 x1 x2 (ix4 b s k d) = hd8 k (cols (hx x0 x1 b s) (wx x2) 1024 512 (by omega)) d := by
  unfold val_main_v15 val_main_v14
  have h := z_at x0 x1 x2
  generalize val_main_v13 (F := Ideal) x0 x1 x2 = X at h ⊢
  pointwise
  refine (h b s _).trans ?_
  unfold hd8 cols
  exact Finset.sum_congr rfl fun x _ => congrArg (fun j => hx x0 x1 b s x * wx x2 x j) (Fin.ext (by simp only []; omega))

theorem q0_at (b : Fin 4) (s : Fin 4096) (k : Fin 8) (d : Fin 64) : val_main_v18 (F := Ideal) x0 x1 x2 (ix4 b s k d) = hd8 k (cols (hx x0 x1 b s) (wx x2) 2048 512 (by omega)) d := by
  unfold val_main_v18 val_main_v17
  have h := z_at x0 x1 x2
  generalize val_main_v13 (F := Ideal) x0 x1 x2 = X at h ⊢
  pointwise
  refine (h b s _).trans ?_
  unfold hd8 cols
  exact Finset.sum_congr rfl fun x _ => congrArg (fun j => hx x0 x1 b s x * wx x2 x j) (Fin.ext (by simp only []; omega))

theorem i0_at (b : Fin 4) (s : Fin 4096) (d : Fin 64) : val_main_v19 (F := Ideal) x0 x1 x2 (ix3 b s d) = cols (hx x0 x1 b s) (wx x2) 2560 64 (by omega) d := by
  unfold val_main_v19
  have h := z_at x0 x1 x2
  generalize val_main_v13 (F := Ideal) x0 x1 x2 = X at h ⊢
  pointwise
  exact h b s _

theorem kn_at (b : Fin 4) (s : Fin 4096) (k : Fin 8) (d : Fin 64) :
    val_main_v32 (F := Ideal) x0 x1 x2 x6 (ix4 b s k d) = nrm c64 (fun d => val_main_v15 (F := Ideal) x0 x1 x2 (ix4 b s k d)) (fun d => x6 (ix1 d)) d := by
  unfold val_main_v32 val_main_v29 val_main_v28 val_main_v27 val_main_v26 val_main_v24 val_main_v22 val_main_v21 val_main_v20
  generalize val_main_v15 (F := Ideal) x0 x1 x2 = X
  pointwise [val_main_v31, val_main_v30, val_main_v25, val_main_cst_4, val_main_v23, val_main_cst_3, val_main_cst_2]
  rfl

theorem in_at (b : Fin 4) (s : Fin 4096) (d : Fin 64) :
    val_main_v67 (F := Ideal) x0 x1 x2 x7 (ix3 b s d) = nrm c64 (fun d => val_main_v19 (F := Ideal) x0 x1 x2 (ix3 b s d)) (fun d => x7 (ix1 d)) d := by
  unfold val_main_v67 val_main_v64 val_main_v63 val_main_v62 val_main_v61 val_main_v59 val_main_v57 val_main_v56 val_main_v55
  generalize val_main_v19 (F := Ideal) x0 x1 x2 = X
  pointwise [val_main_v66, val_main_v65, val_main_v60, val_main_cst_7, val_main_v58, val_main_cst_6, val_main_cst_5]
  rfl

theorem kr_at (b : Fin 4) (s : Fin 4096) (k : Fin 8) (d : Fin 64) :
    val_main_v43 (F := Ideal) x0 x1 x2 x6 x8 x9 (ix4 b s k d)
      = rope (fun d => val_main_v32 (F := Ideal) x0 x1 x2 x6 (ix4 b s k d)) (fun d => x8 (ix2 s d)) (fun d => x9 (ix2 s d) * sgn d) d := by
  rw [rope_eq]
  unfold val_main_v43 val_main_v39 val_main_v42 val_main_v36 val_main_v34 val_main_v33 val_main_v35
  generalize val_main_v32 (F := Ideal) x0 x1 x2 x6 = X
  pointwise [val_main_v38, val_main_v37, val_main_v41, val_main_v40]

theorem qr_at (b : Fin 4) (s : Fin 4096) (k : Fin 8) (d : Fin 64) :
    val_main_v54 (F := Ideal) x0 x1 x2 x8 x9 (ix4 b s k d)
      = rope (fun d => val_main_v18 (F := Ideal) x0 x1 x2 (ix4 b s k d)) (fun d => x8 (ix2 s d)) (fun d => x9 (ix2 s d) * sgn d) d := by
  rw [rope_eq]
  unfold val_main_v54 val_main_v50 val_main_v53 val_main_v47 val_main_v45 val_main_v44 val_main_v46
  generalize val_main_v18 (F := Ideal) x0 x1 x2 = X
  pointwise [val_main_v49, val_main_v48, val_main_v52, val_main_v51]

theorem ir_at (b : Fin 4) (s : Fin 4096) (d : Fin 64) :
    val_main_v79 (F := Ideal) x0 x1 x2 x7 x8 x9 (ix4 b s 0 d)
      = rope (fun d => val_main_v67 (F := Ideal) x0 x1 x2 x7 (ix3 b s d)) (fun d => x8 (ix2 s d)) (fun d => x9 (ix2 s d) * sgn d) d := by
  rw [rope_eq]
  unfold val_main_v79 val_main_v75 val_main_v78 val_main_v72 val_main_v70 val_main_v69 val_main_v71 val_main_v68
  generalize val_main_v67 (F := Ideal) x0 x1 x2 x7 = X
  pointwise [val_main_v74, val_main_v73, val_main_v77, val_main_v76]

theorem k_at (b : Fin 4) (s : Fin 4096) (j : Fin 512) :
    val_main_v80 (F := Ideal) x0 x1 x2 x6 x8 x9 (ix3 b s j)
      = rope (nrm c64 (hd8 ⟨j.val / 64, by omega⟩ (cols (hx x0 x1 b s) (wx x2) 1024 512 (by omega))) (fun d => x6 (ix1 d)))
        (fun d => x8 (ix2 s d)) (fun d => x9 (ix2 s d) * sgn d) ⟨j.val % 64, by omega⟩ := by
  refine Eq.trans ?_ ((kr_at x0 x1 x2 x6 x8 x9 b s ⟨j.val / 64, by omega⟩ ⟨j.val % 64, by omega⟩).trans ?_)
  · unfold val_main_v80
    generalize val_main_v43 (F := Ideal) x0 x1 x2 x6 x8 x9 = X
    pointwise
  · simp only [kn_at, k0_at]

theorem q_at (b : Fin 4) (s : Fin 4096) (j : Fin 512) :
    val_main_v81 (F := Ideal) x0 x1 x2 x8 x9 (ix3 b s j)
      = rope (hd8 ⟨j.val / 64, by omega⟩ (cols (hx x0 x1 b s) (wx x2) 2048 512 (by omega)))
        (fun d => x8 (ix2 s d)) (fun d => x9 (ix2 s d) * sgn d) ⟨j.val % 64, by omega⟩ := by
  refine Eq.trans ?_ ((qr_at x0 x1 x2 x8 x9 b s ⟨j.val / 64, by omega⟩ ⟨j.val % 64, by omega⟩).trans ?_)
  · unfold val_main_v81
    generalize val_main_v54 (F := Ideal) x0 x1 x2 x8 x9 = X
    pointwise
  · simp only [q0_at]

theorem i_at (b : Fin 4) (s : Fin 4096) (d : Fin 64) :
    val_main_v82 (F := Ideal) x0 x1 x2 x7 x8 x9 (ix3 b s d)
      = rope (nrm c64 (cols (hx x0 x1 b s) (wx x2) 2560 64 (by omega)) (fun d => x7 (ix1 d)))
        (fun d => x8 (ix2 s d)) (fun d => x9 (ix2 s d) * sgn d) d := by
  refine Eq.trans ?_ ((ir_at x0 x1 x2 x7 x8 x9 b s d).trans ?_)
  · unfold val_main_v82
    generalize val_main_v79 (F := Ideal) x0 x1 x2 x7 x8 x9 = X
    pointwise
  · simp only [in_at, i0_at]

end Cert.ProjRef
-- ==== Proof.Proj.lean ====
/- The claims over the third program: its frames, and that it computes its reference. -/
module

public import proofs.«01_k».proof.Defs
public import proofs.«01_k».proof.Proof.Gen.Kernel3.Frame
public import proofs.«01_k».proof.Proof.Gen.Kernel3Ideal.Frame
public import proofs.«01_k».proof.Proof.ProjVal
public import proofs.«01_k».proof.Proof.ProjRef

@[expose] public section

set_option maxRecDepth 16384

noncomputable section

namespace Cert.Proj

open Idealize.ShloMosaic Idealize.ShloMosaic.TcCoe Idealize.ShloMosaic.Tactic

attribute [local instance] Cert.Kernel3.Gen.facts Cert.Kernel3Ideal.Gen.facts Cert.Reference3Ideal.Gen.facts

theorem frame_p : Cert.quiescent_Kernel3 := fun m ρ _ => Cert.Kernel3.Gen.frame m ρ

theorem frame_pi : Cert.quiescent_Kernel3Ideal := fun m ρ _ => Cert.Kernel3Ideal.Gen.frame m ρ

set_option maxHeartbeats 4000000 in
theorem frame_r : Cert.quiescent_Reference3Ideal := by
  intro m g _
  hlo_run
  · exact fun _ => ⟨trivial, trivial, trivial, trivial, trivial, trivial, trivial, trivial, trivial, trivial⟩
  · exact sem_eq_zero_of_no_sems (sig := Cert.Reference3Ideal.sig) (by decide) _

section Value

open Cert.Kernel3Ideal Cert.Kernel3Ideal.Gen Cert.ProjVal

variable (m : (ℓ : Loc nD τ sig) → Buf (Elt Ideal) ℓ) (ρ : Dev nD → PrngReg) (c : Dev nD)

/-- The reference's results, of the program's arguments. -/
def wantK : S4x4096x512.Idx → EReal := Cert.Reference3Ideal.Read.val_main_v80 (F := Ideal) (A0 m c) (A1 m c) (A2 m c) (A6 m c) (A8 m c) (A9 m c)
def wantV : S4x4096x512.Idx → EReal := Cert.Reference3Ideal.Read.val_main_v16 (F := Ideal) (A0 m c) (A1 m c) (A2 m c)
def wantQ : S4x4096x512.Idx → EReal := Cert.Reference3Ideal.Read.val_main_v81 (F := Ideal) (A0 m c) (A1 m c) (A2 m c) (A8 m c) (A9 m c)
def wantI : S4x4096x64.Idx → EReal := Cert.Reference3Ideal.Read.val_main_v82 (F := Ideal) (A0 m c) (A1 m c) (A2 m c) (A7 m c) (A8 m c) (A9 m c)

theorem eq_k : (W m c main_v31 : S4x4096x512.Idx → EReal) = wantK m c := by
  funext i
  obtain ⟨b, s, l, rfl⟩ : ∃ (b : Fin 4) (s : Fin 4096) (l : Fin 512), i = ix3 b s l := ⟨i 0, i 1, i 2, by funext a; fin_cases a <;> rfl⟩
  exact (k_res m c b s l).trans (Cert.ProjRef.k_at (A0 m c) (A1 m c) (A2 m c) (A6 m c) (A8 m c) (A9 m c) b s l).symm

theorem eq_v : (W m c main_v34 : S4x4096x512.Idx → EReal) = wantV m c := by
  funext i
  obtain ⟨b, s, l, rfl⟩ : ∃ (b : Fin 4) (s : Fin 4096) (l : Fin 512), i = ix3 b s l := ⟨i 0, i 1, i 2, by funext a; fin_cases a <;> rfl⟩
  exact (v_res m c b s l).trans (Cert.ProjRef.v_at (A0 m c) (A1 m c) (A2 m c) b s l).symm

theorem eq_q : (W m c main_v36 : S4x4096x512.Idx → EReal) = wantQ m c := by
  funext i
  obtain ⟨b, s, l, rfl⟩ : ∃ (b : Fin 4) (s : Fin 4096) (l : Fin 512), i = ix3 b s l := ⟨i 0, i 1, i 2, by funext a; fin_cases a <;> rfl⟩
  exact (q_res m c b s l).trans (Cert.ProjRef.q_at (A0 m c) (A1 m c) (A2 m c) (A8 m c) (A9 m c) b s l).symm

theorem eq_i : (W m c main_v38 : S4x4096x64.Idx → EReal) = wantI m c := by
  funext i
  obtain ⟨b, s, l, rfl⟩ : ∃ (b : Fin 4) (s : Fin 4096) (l : Fin 64), i = ix3 b s l := ⟨i 0, i 1, i 2, by funext a; fin_cases a <;> rfl⟩
  exact (i_res m c b s l).trans (Cert.ProjRef.i_at (A0 m c) (A1 m c) (A2 m c) (A7 m c) (A8 m c) (A9 m c) b s l).symm

theorem results : θ_run defs (onTc (τ := τ) (main (F := Ideal))) ⟨m, fun _ => 0, ρ⟩ (fun r => ∀ c : Dev nD,
      r.2.mem ((c.tc : Thread nD τ).loc main_v31) = W m c main_v31
      ∧ r.2.mem ((c.tc : Thread nD τ).loc main_v34) = W m c main_v34
      ∧ r.2.mem ((c.tc : Thread nD τ).loc main_v36) = W m c main_v36
      ∧ r.2.mem ((c.tc : Thread nD τ).loc main_v38) = W m c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (h c).2 main_v31 (Pipeline.mem_restRefs_of main_v31 (by decide) (by decide)),
      (h c).2 main_v34 (Pipeline.mem_restRefs_of main_v34 (by decide) (by decide)),
      (h c).2 main_v36 (Pipeline.mem_restRefs_of main_v36 (by decide) (by decide)),
      (h c).2 main_v38 (Pipeline.mem_restRefs_of main_v38 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Value

theorem value : Cert.algebraic_Kernel3Ideal_Reference3Ideal := by
  intro m g m' g' _ hagree
  refine ⟨fun c => wantK m c, fun c => wantV m c, fun c => wantQ m c, fun c => wantI m c, ?_, ?_⟩
  · refine (θ_run Cert.Kernel3Ideal.defs _ _).mono (fun r hr c => ?_) (results m g)
    obtain ⟨hk, hv, hq, hi, h⟩ := hr c
    exact ⟨hk.trans (eq_k m c), hv.trans (eq_v m c), hq.trans (eq_q m c), hi.trans (eq_i m c), h⟩
  · refine (θ_run Cert.Reference3Ideal.defs _ _).mono (fun r hr c => ?_) (Cert.Reference3Ideal.Value.run (F := Ideal) m' g')
    obtain ⟨h0, h1, h2, h3, h4, h5, h6, h7, h8, h9⟩ := hagree c
    obtain ⟨hk, hv, hq, hi, h⟩ := hr c
    refine ⟨hk.trans ?_, hv.trans ?_, hq.trans ?_, hi.trans ?_, h⟩
    · rw [Cert.Reference3Ideal.Read.val_main_v80_eq, h0, h1, h2, h6, h8, h9]
      rfl
    · rw [Cert.Reference3Ideal.Read.val_main_v16_eq, h0, h1, h2]
      rfl
    · rw [Cert.Reference3Ideal.Read.val_main_v81_eq, h0, h1, h2, h8, h9]
      rfl
    · rw [Cert.Reference3Ideal.Read.val_main_v82_eq, h0, h1, h2, h7, h8, h9]
      rfl

end Cert.Proj
-- ==== Proof.lean ====
module

public import proofs.«01_k».proof.Defs
public import proofs.«01_k».proof.Proof.Claims
public import proofs.«01_k».proof.Proof.Mid
public import proofs.«01_k».proof.Proof.Proj

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre.tableFacts, Cert.Pre.routedFacts,
    Cert.Frames.frame_p, Cert.Frames.frame_pi, Cert.Claims.frame_pi_routed, Cert.Frames.frame_r, Cert.Claims.frame_r_routed,
    Cert.Mid.frame_p, Cert.Mid.frame_pi, Cert.Mid.frame_r,
    Cert.Proj.frame_p, Cert.Proj.frame_pi, Cert.Proj.frame_r, trivial, Cert.Claims.value, trivial, Cert.Mid.value, trivial, Cert.Proj.value⟩

end Cert.Proof

end
